-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v60_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "gelu_cub" .f32 0xBD922279#32 ((-80338380498831 / 1125899906842624 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v97) = v0 c
          ∧ r.2.mem ((c.tc : Thread Cert.Reference4Ideal.nD Cert.Reference4Ideal.τ).loc Cert.Reference4Ideal.main_v85) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def preserves_Kernel6_Kernel6Ideal : Prop :=
  IdealRules.named_const.Statement Cert.Kernel6Ideal.κ "gelu_cub" .f32 0xBD922279#32 ((-80338380498831 / 1125899906842624 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v64) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S8x2048x2560 : Shape := ⟨3, ![8, 2048, 2560]⟩
abbrev S2x512 : Shape := ⟨2, ![2, 512]⟩
abbrev S8x4x128x128 : Shape := ⟨4, ![8, 4, 128, 128]⟩
abbrev S_ : Shape := ⟨0, ![]⟩
abbrev S512 : Shape := ⟨1, ![512]⟩
abbrev S1x512 : Shape := ⟨2, ![1, 512]⟩
abbrev S8x2048x512 : Shape := ⟨3, ![8, 2048, 512]⟩
abbrev S1x2048x128 : Shape := ⟨3, ![1, 2048, 128]⟩
abbrev S1x128 : Shape := ⟨2, ![1, 128]⟩
abbrev S1x1x128x128 : Shape := ⟨4, ![1, 1, 128, 128]⟩
abbrev S1x128x128 : Shape := ⟨3, ![1, 128, 128]⟩
abbrev S128x128 : Shape := ⟨2, ![128, 128]⟩
abbrev S32x16x128 : Shape := ⟨3, ![32, 16, 128]⟩
abbrev S1x512x128 : Shape := ⟨3, ![1, 512, 128]⟩
abbrev S512x128 : Shape := ⟨2, ![512, 128]⟩
abbrev S1x1x128 : Shape := ⟨3, ![1, 1, 128]⟩
abbrev S32x1x128 : Shape := ⟨3, ![32, 1, 128]⟩
abbrev S32x8x128 : Shape := ⟨3, ![32, 8, 128]⟩
abbrev S256x128 : Shape := ⟨2, ![256, 128]⟩
abbrev S6144x128 : Shape := ⟨2, ![6144, 128]⟩
abbrev S1x16x128 : Shape := ⟨3, ![1, 16, 128]⟩
abbrev S16x128 : Shape := ⟨2, ![16, 128]⟩
abbrev S512x1 : Shape := ⟨2, ![512, 1]⟩

abbrev nBuf : Space → Nat
  | .hbm => 25
  | .vmem => 15
  | .smem => 0
  | _ => 0

abbrev bufTy : (tb : Table) → Fin (tcTables nBuf tb) → BufTy
  | .hbm, ⟨0, _⟩ => ⟨S8x2048x2560, .f32⟩
  | .hbm, ⟨1, _⟩ => ⟨S2x512, .f32⟩
  | .hbm, ⟨2, _⟩ => ⟨S8x4x128x128, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S_, .f32⟩
  | .hbm, ⟨18, _⟩ => ⟨S_, .f32⟩
  | .hbm, ⟨19, _⟩ => ⟨S2x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S8x2048x512, .f32⟩
  | .hbm, ⟨24, _⟩ => ⟨S8x4x128x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x128, .f32⟩
  | .local _ .vmem, ⟨7, _⟩ => ⟨S1x128, .f32⟩
  | .local _ .vmem, ⟨8, _⟩ => ⟨S1x1x128x128, .f32⟩
  | .local _ .vmem, ⟨9, _⟩ => ⟨S1x1x128x128, .f32⟩
  | .local _ .vmem, ⟨10, _⟩ => ⟨S1x2048x128, .f32⟩
  | .local _ .vmem, ⟨11, _⟩ => ⟨S1x2048x128, .f32⟩
  | .local _ .vmem, ⟨12, _⟩ => ⟨S1x1x128x128, .f32⟩
  | .local _ .vmem, ⟨13, _⟩ => ⟨S1x1x128x128, .f32⟩
  | .local _ .vmem, ⟨14, _⟩ => ⟨S1x128x128, .f32⟩
  | _, _ => ⟨S8x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c4_i32 : BitVec 32 := 4#32
  let v10 : BitVec 32 := Scalar.addi c0_i32 c4_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v17 : BitVec 32 := Scalar.muli arg10 c512_i32
  v17
def k0_off1 (k0_t1 : Fin k0_t1_loop.trips) : Fin 3 → Nat :=
  let c0_16 : Index := 0#32
  let c0_i32 : BitVec 32 := 0#32
  let c1_i32 : BitVec 32 := 1#32
  let arg10 : BitVec 32 := Scf.iv c0_i32 c1_i32 k0_t1
  let c512_i32 : BitVec 32 := 512#32
  let v17 : BitVec 32 := Scalar.muli arg10 c512_i32
  let v18 : BitVec 32 := v17
  let v19 : Index := Scalar.indexCast v18
  let c0_17 : Index := 0#32
  ![0, v19.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x2560 : Shape := ⟨3, ![8, 2048, 2560]⟩
abbrev S2x512 : Shape := ⟨2, ![2, 512]⟩
abbrev S8x4x128x128 : Shape := ⟨4, ![8, 4, 128, 128]⟩
abbrev S_ : Shape := ⟨0, ![]⟩
abbrev S512 : Shape := ⟨1, ![512]⟩
abbrev S1x512 : Shape := ⟨2, ![1, 512]⟩
abbrev S8x2048x512 : Shape := ⟨3, ![8, 2048, 512]⟩
abbrev S1x1x512 : Shape := ⟨3, ![1, 1, 512]⟩
abbrev S16x16 : Shape := ⟨2, ![16, 16]⟩
abbrev S1x16x16x1x1 : Shape := ⟨5, ![1, 16, 16, 1, 1]⟩
abbrev S8x2048x4x128 : Shape := ⟨4, ![8, 2048, 4, 128]⟩
abbrev S8x128x16x4x128 : Shape := ⟨5, ![8, 128, 16, 4, 128]⟩
abbrev S128x8x16x4x128 : Shape := ⟨5, ![128, 8, 16, 4, 128]⟩
abbrev S1x8x16x4x128 : Shape := ⟨5, ![1, 8, 16, 4, 128]⟩
abbrev S8x16x4x128 : Shape := ⟨4, ![8, 16, 4, 128]⟩
abbrev S8x16x1x4x128 : Shape := ⟨5, ![8, 16, 1, 4, 128]⟩
abbrev S8x1x16x4x128 : Shape := ⟨5, ![8, 1, 16, 4, 128]⟩
abbrev S8x16x16x4x128 : Shape := ⟨5, ![8, 16, 16, 4, 128]⟩
abbrev S8x16x16x4 : Shape := ⟨4, ![8, 16, 16, 4]⟩
abbrev S8x4x128x16 : Shape := ⟨4, ![8, 4, 128, 16]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x2048x4 : Shape := ⟨3, ![8, 2048, 4]⟩
abbrev S8x2048x4x1 : Shape := ⟨4, ![8, 2048, 4, 1]⟩

abbrev nBuf : Space → Nat
  | .hbm => 185
  | .vmem => 0
  | .smem => 0
  | _ => 0

abbrev hbmTy0_0 (i : Nat) : BufTy := match i % 128 with
  | 0 => ⟨S8x2048x2560, .f32⟩
  | 1 => ⟨S2x512, .f32⟩
  | 2 => ⟨S8x4x128x128, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S1x512, .f32⟩
  | 21 => ⟨S512, .f32⟩
  | 22 => ⟨S8x2048x512, .f32⟩
  | 23 => ⟨S8x2048x512, .f32⟩
  | 24 => ⟨S8x2048x512, .f32⟩
  | 25 => ⟨S_, .f32⟩
  | 26 => ⟨S512, .f32⟩
  | 27 => ⟨S512, .f32⟩
  | 28 => ⟨S8x2048x512, .f32⟩
  | 29 => ⟨S8x2048x512, .f32⟩
  | 30 => ⟨S_, .f32⟩
  | 31 => ⟨S8x2048x512, .f32⟩
  | 32 => ⟨S8x2048x512, .f32⟩
  | 33 => ⟨S_, .f32⟩
  | 34 => ⟨S8x2048x512, .f32⟩
  | 35 => ⟨S8x2048x512, .f32⟩
  | 36 => ⟨S1x1x512, .f32⟩
  | 37 => ⟨S8x2048x512, .f32⟩
  | 38 => ⟨S8x2048x512, .f32⟩
  | 39 => ⟨S1x1x512, .f32⟩
  | 40 => ⟨S8x2048x512, .f32⟩
  | 41 => ⟨S8x2048x512, .f32⟩
  | 42 => ⟨S8x2048x512, .f32⟩
  | 43 => ⟨S_, .f32⟩
  | 44 => ⟨S512, .f32⟩
  | 45 => ⟨S512, .f32⟩
  | 46 => ⟨S8x2048x512, .f32⟩
  | 47 => ⟨S8x2048x512, .f32⟩
  | 48 => ⟨S8x2048x512, .f32⟩
  | 49 => ⟨S_, .f32⟩
  | 50 => ⟨S8x2048x512, .f32⟩
  | 51 => ⟨S8x2048x512, .f32⟩
  | 52 => ⟨S_, .f32⟩
  | 53 => ⟨S8x2048x512, .f32⟩
  | 54 => ⟨S8x2048x512, .f32⟩
  | 55 => ⟨S1x1x512, .f32⟩
  | 56 => ⟨S8x2048x512, .f32⟩
  | 57 => ⟨S8x2048x512, .f32⟩
  | 58 => ⟨S_, .i1⟩
  | 59 => ⟨S16x16, .i1⟩
  | 60 => ⟨S16x16, .i32⟩
  | 61 => ⟨S_, .i32⟩
  | 62 => ⟨S16x16, .i32⟩
  | 63 => ⟨S16x16, .i32⟩
  | 64 => ⟨S16x16, .i32⟩
  | 65 => ⟨S16x16, .i1⟩
  | 66 => ⟨S_, .i1⟩
  | 67 => ⟨S16x16, .i1⟩
  | 68 => ⟨S16x16, .i1⟩
  | 69 => ⟨S1x16x16x1x1, .i1⟩
  | 70 => ⟨S8x2048x4x128, .f32⟩
  | 71 => ⟨S8x128x16x4x128, .f32⟩
  | 72 => ⟨S128x8x16x4x128, .f32⟩
  | 73 => ⟨S8x2048x4x128, .f32⟩
  | 74 => ⟨S8x128x16x4x128, .f32⟩
  | 75 => ⟨S128x8x16x4x128, .f32⟩
  | 76 => ⟨S8x2048x4x128, .f32⟩
  | 77 => ⟨S8x128x16x4x128, .f32⟩
  | 78 => ⟨S128x8x16x4x128, .f32⟩
  | 79 => ⟨S8x2048x4x128, .f32⟩
  | 80 => ⟨S8x128x16x4x128, .f32⟩
  | 81 => ⟨S128x8x16x4x128, .f32⟩
  | 82 => ⟨S_, .f32⟩
  | 83 => ⟨S128x8x16x4x128, .f32⟩
  | 84 => ⟨S_, .i32⟩
  | 85 => ⟨S128x8x16x4x128, .f32⟩
  | 86 => ⟨S128x8x16x4x128, .f32⟩
  | 87 => ⟨S128x8x16x4x128, .f32⟩
  | 88 => ⟨S128x8x16x4x128, .f32⟩
  | 89 => ⟨S1x16x16x1x1, .i1⟩
  | 90 => ⟨S_, .i32⟩
  | 91 => ⟨S8x4x128x128, .f32⟩
  | 92 => ⟨S128x8x16x4x128, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x8x16x4x128, .f32⟩
  | 100 => ⟨S8x16x4x128, .f32⟩
  | 101 => ⟨S_, .i32⟩
  | 102 => ⟨S_, .i32⟩
  | 103 => ⟨S_, .i32⟩
  | 104 => ⟨S_, .i32⟩
  | 105 => ⟨S1x8x16x4x128, .f32⟩
  | 106 => ⟨S8x16x4x128, .f32⟩
  | 107 => ⟨S_, .i32⟩
  | 108 => ⟨S_, .i32⟩
  | 109 => ⟨S_, .i32⟩
  | 110 => ⟨S_, .i32⟩
  | 111 => ⟨S1x8x16x4x128, .f32⟩
  | 112 => ⟨S8x16x4x128, .f32⟩
  | 113 => ⟨S_, .i32⟩
  | 114 => ⟨S_, .i32⟩
  | 115 => ⟨S_, .i32⟩
  | 116 => ⟨S_, .i32⟩
  | 117 => ⟨S1x8x16x4x128, .f32⟩
  | 118 => ⟨S8x16x4x128, .f32⟩
  | 119 => ⟨S_, .f32⟩
  | 120 => ⟨S_, .f32⟩
  | 121 => ⟨S8x16x4x128, .f32⟩
  | 122 => ⟨S8x16x1x4x128, .f32⟩
  | 123 => ⟨S8x1x16x4x128, .f32⟩
  | 124 => ⟨S8x16x16x4x128, .f32⟩
  | 125 => ⟨S8x16x16x4x128, .f32⟩
  | 126 => ⟨S8x16x16x4x128, .f32⟩
  | 127 => ⟨S_, .f32⟩
  | _ => ⟨S8x2048x2560, .f32⟩

abbrev hbmTy0_1 (i : Nat) : BufTy := match i % 128 with
  | 0 => ⟨S_, .f32⟩
  | 1 => ⟨S8x16x16x4x128, .i1⟩
  | 2 => ⟨S8x16x16x4x128, .f32⟩
  | 3 => ⟨S8x16x16x4x128, .f32⟩
  | 4 => ⟨S8x16x16x4x128, .f32⟩
  | 5 => ⟨S8x16x1x4x128, .f32⟩
  | 6 => ⟨S8x1x16x4x128, .f32⟩
  | 7 => ⟨S8x16x16x4x128, .f32⟩
  | 8 => ⟨S8x16x16x4x128, .f32⟩
  | 9 => ⟨S8x16x16x4x128, .f32⟩
  | 10 => ⟨S8x16x16x4x128, .f32⟩
  | 11 => ⟨S_, .f32⟩
  | 12 => ⟨S8x16x16x4, .f32⟩
  | 13 => ⟨S8x4x128x16, .f32⟩
  | 14 => ⟨S8x16x4x128, .f32⟩
  | 15 => ⟨S8x16x4x128, .f32⟩
  | 16 => ⟨S8x16x4x128, .f32⟩
  | 17 => ⟨S8x4x128x16, .f32⟩
  | 18 => ⟨S8x16x4x128, .f32⟩
  | 19 => ⟨S8x16x4x128, .f32⟩
  | 20 => ⟨S8x1x4x128, .f32⟩
  | 21 => ⟨S8x4x128, .f32⟩
  | 22 => ⟨S8x4x128, .f32⟩
  | 23 => ⟨S8x4x128x1, .f32⟩
  | 24 => ⟨S8x4x128x128, .f32⟩
  | 25 => ⟨S8x4x128x128, .f32⟩
  | 26 => ⟨S8x1x4x128, .f32⟩
  | 27 => ⟨S8x16x4x128, .f32⟩
  | 28 => ⟨S8x16x4x128, .f32⟩
  | 29 => ⟨S8x16x4x128, .f32⟩
  | 30 => ⟨S8x16x4x128, .f32⟩
  | 31 => ⟨S8x4x128x128, .f32⟩
  | 32 => ⟨S8x4x128x128, .f32⟩
  | 33 => ⟨S1x8x16x4x128, .f32⟩
  | 34 => ⟨S_, .i32⟩
  | 35 => ⟨S_, .i32⟩
  | 36 => ⟨S_, .i32⟩
  | 37 => ⟨S_, .i32⟩
  | 38 => ⟨S128x8x16x4x128, .f32⟩
  | 39 => ⟨S_, .i32⟩
  | 40 => ⟨S_, .i32⟩
  | 41 => ⟨S8x128x16x4x128, .f32⟩
  | 42 => ⟨S8x2048x4x128, .f32⟩
  | 43 => ⟨S8x2048x4x128, .f32⟩
  | 44 => ⟨S_, .f32⟩
  | 45 => ⟨S8x2048x4, .f32⟩
  | 46 => ⟨S8x2048x4x1, .f32⟩
  | 47 => ⟨S_, .f32⟩
  | 48 => ⟨S8x2048x4x1, .f32⟩
  | 49 => ⟨S8x2048x4x1, .f32⟩
  | 50 => ⟨S_, .f32⟩
  | 51 => ⟨S8x2048x4x1, .f32⟩
  | 52 => ⟨S8x2048x4x1, .f32⟩
  | 53 => ⟨S8x2048x4x1, .f32⟩
  | 54 => ⟨S8x2048x4x128, .f32⟩
  | 55 => ⟨S8x2048x4x128, .f32⟩
  | 56 => ⟨S8x2048x512, .f32⟩
  | _ => ⟨S8x2048x2560, .f32⟩

abbrev hbmTy (i : Nat) : BufTy := match i / 128 with
  | 0 => hbmTy0_0 i
  | 1 => hbmTy0_1 i
  | _ => ⟨S8x2048x2560, .f32⟩

abbrev bufTy : (tb : Table) → Fin (tcTables nBuf tb) → BufTy
  | .hbm, ⟨i, _⟩ => hbmTy i
  | _, _ => ⟨S8x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_v44 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_0 : Ref sig .tc := ⟨.hbm, 66, rfl⟩
abbrev main_call1_v5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_c_9 : Ref sig .tc := ⟨.hbm, 84, rfl⟩
abbrev main_v60_0 : Ref sig .tc := ⟨.hbm, 85, rfl⟩
abbrev main_v60_1 : Ref sig .tc := ⟨.hbm, 86, rfl⟩
abbrev main_v60_2 : Ref sig .tc := ⟨.hbm, 87, rfl⟩
abbrev main_v60_3 : Ref sig .tc := ⟨.hbm, 88, rfl⟩
abbrev main_v60_4 : Ref sig .tc := ⟨.hbm, 89, rfl⟩
abbrev main_v60_5 : Ref sig .tc := ⟨.hbm, 90, rfl⟩
abbrev main_v60_6 : Ref sig .tc := ⟨.hbm, 91, rfl⟩
abbrev main_v60_7 : Ref sig .tc := ⟨.hbm, 92, rfl⟩
abbrev main_while0c_c_20 : Ref sig .tc := ⟨.hbm, 93, rfl⟩
abbrev main_while0c_v74 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_call2_c_2 : Ref sig .tc := ⟨.hbm, 98, rfl⟩
abbrev main_while0b_call2_v0 : Ref sig .tc := ⟨.hbm, 99, rfl⟩
abbrev main_while0b_v74 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_c_1 : Ref sig .tc := ⟨.hbm, 103, rfl⟩
abbrev main_while0b_call3_c_2 : Ref sig .tc := ⟨.hbm, 104, rfl⟩
abbrev main_while0b_call3_v0 : Ref sig .tc := ⟨.hbm, 105, rfl⟩
abbrev main_while0b_v75 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_c_1 : Ref sig .tc := ⟨.hbm, 109, rfl⟩
abbrev main_while0b_call4_c_2 : Ref sig .tc := ⟨.hbm, 110, rfl⟩
abbrev main_while0b_call4_v0 : Ref sig .tc := ⟨.hbm, 111, rfl⟩
abbrev main_while0b_v76 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_c_1 : Ref sig .tc := ⟨.hbm, 115, rfl⟩
abbrev main_while0b_call5_c_2 : Ref sig .tc := ⟨.hbm, 116, rfl⟩
abbrev main_while0b_call5_v0 : Ref sig .tc := ⟨.hbm, 117, rfl⟩
abbrev main_while0b_v77 : Ref sig .tc := ⟨.hbm, 118, rfl⟩
abbrev main_while0b_call6_call0_cst : Ref sig .tc := ⟨.hbm, 119, rfl⟩
abbrev main_while0b_call6_call0_v0 : Ref sig .tc := ⟨.hbm, 120, rfl⟩
abbrev main_while0b_v78 : Ref sig .tc := ⟨.hbm, 121, rfl⟩
abbrev main_while0b_v79 : Ref sig .tc := ⟨.hbm, 122, rfl⟩
abbrev main_while0b_v80 : Ref sig .tc := ⟨.hbm, 123, rfl⟩
abbrev main_while0b_v81 : Ref sig .tc := ⟨.hbm, 124, rfl⟩
abbrev main_while0b_v82 : Ref sig .tc := ⟨.hbm, 125, rfl⟩
abbrev main_while0b_v83 : Ref sig .tc := ⟨.hbm, 126, rfl⟩
abbrev main_while0b_cst_20 : Ref sig .tc := ⟨.hbm, 127, rfl⟩
abbrev main_while0b_call7_v0 : Ref sig .tc := ⟨.hbm, 128, rfl⟩
abbrev main_while0b_call7_v1 : Ref sig .tc := ⟨.hbm, 129, rfl⟩
abbrev main_while0b_call7_v2 : Ref sig .tc := ⟨.hbm, 130, rfl⟩
abbrev main_while0b_v84 : Ref sig .tc := ⟨.hbm, 131, rfl⟩
abbrev main_while0b_v85 : Ref sig .tc := ⟨.hbm, 132, rfl⟩
abbrev main_while0b_v86 : Ref sig .tc := ⟨.hbm, 133, rfl⟩
abbrev main_while0b_v87 : Ref sig .tc := ⟨.hbm, 134, rfl⟩
abbrev main_while0b_v88 : Ref sig .tc := ⟨.hbm, 135, rfl⟩
abbrev main_while0b_v89 : Ref sig .tc := ⟨.hbm, 136, rfl⟩
abbrev main_while0b_v90 : Ref sig .tc := ⟨.hbm, 137, rfl⟩
abbrev main_while0b_v91 : Ref sig .tc := ⟨.hbm, 138, rfl⟩
abbrev main_while0b_cst_21 : Ref sig .tc := ⟨.hbm, 139, rfl⟩
abbrev main_while0b_v92 : Ref sig .tc := ⟨.hbm, 140, rfl⟩
abbrev main_while0b_v93 : Ref sig .tc := ⟨.hbm, 141, rfl⟩
abbrev main_while0b_v94 : Ref sig .tc := ⟨.hbm, 142, rfl⟩
abbrev main_while0b_v95 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_v103 : Ref sig .tc := ⟨.hbm, 151, rfl⟩
abbrev main_while0b_v104 : Ref sig .tc := ⟨.hbm, 152, rfl⟩
abbrev main_while0b_v105 : Ref sig .tc := ⟨.hbm, 153, rfl⟩
abbrev main_while0b_v106 : Ref sig .tc := ⟨.hbm, 154, rfl⟩
abbrev main_while0b_v107 : Ref sig .tc := ⟨.hbm, 155, rfl⟩
abbrev main_while0b_v108 : Ref sig .tc := ⟨.hbm, 156, rfl⟩
abbrev main_while0b_v109 : Ref sig .tc := ⟨.hbm, 157, rfl⟩
abbrev main_while0b_v110 : Ref sig .tc := ⟨.hbm, 158, rfl⟩
abbrev main_while0b_v111 : Ref sig .tc := ⟨.hbm, 159, rfl⟩
abbrev main_while0b_v112 : Ref sig .tc := ⟨.hbm, 160, rfl⟩
abbrev main_while0b_call8_v0 : Ref sig .tc := ⟨.hbm, 161, rfl⟩
abbrev main_while0b_call8_c : Ref sig .tc := ⟨.hbm, 162, rfl⟩
abbrev main_while0b_call8_c_0 : Ref sig .tc := ⟨.hbm, 163, rfl⟩
abbrev main_while0b_call8_c_1 : Ref sig .tc := ⟨.hbm, 164, rfl⟩
abbrev main_while0b_call8_c_2 : Ref sig .tc := ⟨.hbm, 165, rfl⟩
abbrev main_while0b_v113 : Ref sig .tc := ⟨.hbm, 166, rfl⟩
abbrev main_while0b_c_22 : Ref sig .tc := ⟨.hbm, 167, rfl⟩
abbrev main_while0b_v114 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_cst_10 : Ref sig .tc := ⟨.hbm, 172, rfl⟩
abbrev main_v64 : Ref sig .tc := ⟨.hbm, 173, rfl⟩
abbrev main_v65 : Ref sig .tc := ⟨.hbm, 174, rfl⟩
abbrev main_cst_11 : Ref sig .tc := ⟨.hbm, 175, rfl⟩
abbrev main_v66 : Ref sig .tc := ⟨.hbm, 176, rfl⟩
abbrev main_v67 : Ref sig .tc := ⟨.hbm, 177, rfl⟩
abbrev main_cst_12 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8x2048x1024 : Shape := ⟨3, ![8, 2048, 1024]⟩
abbrev S1024 : Shape := ⟨1, ![1024]⟩
abbrev S1x1024x2560 : Shape := ⟨3, ![1, 1024, 2560]⟩
abbrev S1x2560 : Shape := ⟨2, ![1, 2560]⟩
abbrev S16384x1024 : Shape := ⟨2, ![16384, 1024]⟩
abbrev S1024x2560 : Shape := ⟨2, ![1024, 2560]⟩
abbrev S2560 : Shape := ⟨1, ![2560]⟩
abbrev S1x1024 : Shape := ⟨2, ![1, 1024]⟩
abbrev S16384x2560 : Shape := ⟨2, ![16384, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1x1024x2560, .f32⟩
  | .hbm, ⟨4, _⟩ => ⟨S1x2560, .f32⟩
  | .hbm, ⟨5, _⟩ => ⟨S16384x1024, .f32⟩
  | .hbm, ⟨6, _⟩ => ⟨S1024x2560, .f32⟩
  | .hbm, ⟨7, _⟩ => ⟨S1024x2560, .bf16⟩
  | .hbm, ⟨8, _⟩ => ⟨S2560, .f32⟩
  | .hbm, ⟨9, _⟩ => ⟨S1x1024, .f32⟩
  | .hbm, ⟨10, _⟩ => ⟨S1x1024, .f32⟩
  | .hbm, ⟨11, _⟩ => ⟨S1x2560, .f32⟩
  | .hbm, ⟨12, _⟩ => ⟨S16384x1024, .f32⟩
  | .hbm, ⟨13, _⟩ => ⟨S16384x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2560, .bf16⟩
  | .local _ .vmem, ⟨5, _⟩ => ⟨S1x2560, .f32⟩
  | .local _ .vmem, ⟨6, _⟩ => ⟨S512x1024, .f32⟩
  | .local _ .vmem, ⟨7, _⟩ => ⟨S512x1024, .f32⟩
  | .local _ .vmem, ⟨8, _⟩ => ⟨S512x2560, .f32⟩
  | .local _ .vmem, ⟨9, _⟩ => ⟨S512x2560, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x2048x1024 : Shape := ⟨3, ![8, 2048, 1024]⟩
abbrev S1024 : Shape := ⟨1, ![1024]⟩
abbrev S1x1024x2560 : Shape := ⟨3, ![1, 1024, 2560]⟩
abbrev S1x2560 : Shape := ⟨2, ![1, 2560]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2560 : Shape := ⟨2, ![1024, 2560]⟩
abbrev S8x2048x2560 : Shape := ⟨3, ![8, 2048, 2560]⟩
abbrev S2560 : Shape := ⟨1, ![2560]⟩
abbrev S1x1x2560 : Shape := ⟨3, ![1, 1, 2560]⟩
abbrev S16384x1024 : Shape := ⟨2, ![16384, 1024]⟩
abbrev S16384x2560 : Shape := ⟨2, ![16384, 2560]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1x1024x2560, .f32⟩
  | .hbm, ⟨4, _⟩ => ⟨S1x2560, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S1024x2560, .f32⟩
  | .hbm, ⟨35, _⟩ => ⟨S8x2048x2560, .f32⟩
  | .hbm, ⟨36, _⟩ => ⟨S2560, .f32⟩
  | .hbm, ⟨37, _⟩ => ⟨S1x1x2560, .f32⟩
  | .hbm, ⟨38, _⟩ => ⟨S8x2048x2560, .f32⟩
  | .hbm, ⟨39, _⟩ => ⟨S8x2048x2560, .f32⟩
  | .hbm, ⟨40, _⟩ => ⟨S16384x1024, .f32⟩
  | .hbm, ⟨41, _⟩ => ⟨S16384x2560, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S16384x2560 : Shape := ⟨2, ![16384, 2560]⟩
abbrev S1x512 : Shape := ⟨2, ![1, 512]⟩
abbrev S1x512x512 : Shape := ⟨3, ![1, 512, 512]⟩
abbrev S1x1024x1024 : Shape := ⟨3, ![1, 1024, 1024]⟩
abbrev S1x1024 : Shape := ⟨2, ![1, 1024]⟩
abbrev S512x512 : Shape := ⟨2, ![512, 512]⟩
abbrev S1x512x1024 : Shape := ⟨3, ![1, 512, 1024]⟩
abbrev S512x1024 : Shape := ⟨2, ![512, 1024]⟩
abbrev S512 : Shape := ⟨1, ![512]⟩
abbrev S1024 : Shape := ⟨1, ![1024]⟩
abbrev S512x1 : Shape := ⟨2, ![512, 1]⟩

abbrev nBuf : Space → Nat
  | .hbm => 27
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x2560, .f32⟩
  | .hbm, ⟨3, _⟩ => ⟨S16384x512, .f32⟩
  | .hbm, ⟨4, _⟩ => ⟨S1x512, .f32⟩
  | .hbm, ⟨5, _⟩ => ⟨S1x512x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S512x512, .f32⟩
  | .hbm, ⟨11, _⟩ => ⟨S512x512, .bf16⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S512, .f32⟩
  | .hbm, ⟨19, _⟩ => ⟨S512, .f32⟩
  | .hbm, ⟨20, _⟩ => ⟨S1024, .f32⟩
  | .hbm, ⟨21, _⟩ => ⟨S1024, .f32⟩
  | .hbm, ⟨22, _⟩ => ⟨S1x512, .f32⟩
  | .hbm, ⟨23, _⟩ => ⟨S1x512, .f32⟩
  | .hbm, ⟨24, _⟩ => ⟨S1x1024, .f32⟩
  | .hbm, ⟨25, _⟩ => ⟨S1x1024, .f32⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
abbrev S16384x1024 : Shape := ⟨2, ![16384, 1024]⟩
abbrev S16384x512 : Shape := ⟨2, ![16384, 512]⟩
abbrev S16384x2560 : Shape := ⟨2, ![16384, 2560]⟩
abbrev S1x512 : Shape := ⟨2, ![1, 512]⟩
abbrev S1x512x512 : Shape := ⟨3, ![1, 512, 512]⟩
abbrev S1x1024x1024 : Shape := ⟨3, ![1, 1024, 1024]⟩
abbrev S1x1024 : Shape := ⟨2, ![1, 1024]⟩
abbrev S512x512 : Shape := ⟨2, ![512, 512]⟩
abbrev S1x512x1024 : Shape := ⟨3, ![1, 512, 1024]⟩
abbrev S512x1024 : Shape := ⟨2, ![512, 1024]⟩
abbrev S512 : Shape := ⟨1, ![512]⟩
abbrev S1024 : Shape := ⟨1, ![1024]⟩
abbrev S512x1 : Shape := ⟨2, ![512, 1]⟩

abbrev nBuf : Space → Nat
  | .hbm => 27
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x2560, .f32⟩
  | .hbm, ⟨3, _⟩ => ⟨S16384x512, .f32⟩
  | .hbm, ⟨4, _⟩ => ⟨S1x512, .f32⟩
  | .hbm, ⟨5, _⟩ => ⟨S1x512x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S512x512, .f32⟩
  | .hbm, ⟨11, _⟩ => ⟨S512x512, .bf16⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S512, .f32⟩
  | .hbm, ⟨19, _⟩ => ⟨S512, .f32⟩
  | .hbm, ⟨20, _⟩ => ⟨S1024, .f32⟩
  | .hbm, ⟨21, _⟩ => ⟨S1024, .f32⟩
  | .hbm, ⟨22, _⟩ => ⟨S1x512, .f32⟩
  | .hbm, ⟨23, _⟩ => ⟨S1x512, .f32⟩
  | .hbm, ⟨24, _⟩ => ⟨S1x1024, .f32⟩
  | .hbm, ⟨25, _⟩ => ⟨S1x1024, .f32⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F] [Named F]

def κ : String → Option EReal := fun
  | "gelu_cub" => some ((-80338380498831 / 1125899906842624 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S16384x512 : Shape := ⟨2, ![16384, 512]⟩
abbrev S16384x2560 : Shape := ⟨2, ![16384, 2560]⟩
abbrev S1x512 : Shape := ⟨2, ![1, 512]⟩
abbrev S1x512x512 : Shape := ⟨3, ![1, 512, 512]⟩
abbrev S1x1024x1024 : Shape := ⟨3, ![1, 1024, 1024]⟩
abbrev S1x1024 : Shape := ⟨2, ![1, 1024]⟩
abbrev S512 : Shape := ⟨1, ![512]⟩
abbrev S_ : Shape := ⟨0, ![]⟩
abbrev S512x512 : Shape := ⟨2, ![512, 512]⟩
abbrev S1024x1024 : Shape := ⟨2, ![1024, 1024]⟩
abbrev S16384 : Shape := ⟨1, ![16384]⟩
abbrev S16384x1 : Shape := ⟨2, ![16384, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x2560, .f32⟩
  | .hbm, ⟨3, _⟩ => ⟨S16384x512, .f32⟩
  | .hbm, ⟨4, _⟩ => ⟨S1x512, .f32⟩
  | .hbm, ⟨5, _⟩ => ⟨S1x512x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S16384x512, .f32⟩
  | .hbm, ⟨11, _⟩ => ⟨S512, .f32⟩
  | .hbm, ⟨12, _⟩ => ⟨S1x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S512x512, .f32⟩
  | .hbm, ⟨43, _⟩ => ⟨S16384x512, .f32⟩
  | .hbm, ⟨44, _⟩ => ⟨S512, .f32⟩
  | .hbm, ⟨45, _⟩ => ⟨S1x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x1024, .f32⟩
  | .hbm, ⟨58, _⟩ => ⟨S1024x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S1024, .f32⟩
  | .hbm, ⟨88, _⟩ => ⟨S1x1024, .f32⟩
  | .hbm, ⟨89, _⟩ => ⟨S16384x1024, .f32⟩
  | .hbm, ⟨90, _⟩ => ⟨S16384x1024, .f32⟩
  | .hbm, ⟨91, _⟩ => ⟨S1024, .f32⟩
  | .hbm, ⟨92, _⟩ => ⟨S1x1024, .f32⟩
  | .hbm, ⟨93, _⟩ => ⟨S16384x1024, .f32⟩
  | .hbm, ⟨94, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== Kernel4.lean ====
abbrev S128x4x2560 : Shape := ⟨3, ![128, 4, 2560]⟩
abbrev S2x512 : Shape := ⟨2, ![2, 512]⟩
abbrev S128x4x128x128 : Shape := ⟨4, ![128, 4, 128, 128]⟩
abbrev S_ : Shape := ⟨0, ![]⟩
abbrev S512 : Shape := ⟨1, ![512]⟩
abbrev S1x512 : Shape := ⟨2, ![1, 512]⟩
abbrev S128x8x2560 : Shape := ⟨3, ![128, 8, 2560]⟩
abbrev S128x8x512 : Shape := ⟨3, ![128, 8, 512]⟩
abbrev S16x8x128 : Shape := ⟨3, ![16, 8, 128]⟩
abbrev S1x128 : Shape := ⟨2, ![1, 128]⟩
abbrev S16x1x128x128 : Shape := ⟨4, ![16, 1, 128, 128]⟩
abbrev S16x128x128 : Shape := ⟨3, ![16, 128, 128]⟩
abbrev S128x128 : Shape := ⟨2, ![128, 128]⟩
abbrev S1x1x128x128 : Shape := ⟨4, ![1, 1, 128, 128]⟩
abbrev S1x128x128 : Shape := ⟨3, ![1, 128, 128]⟩
abbrev S1x8x128 : Shape := ⟨3, ![1, 8, 128]⟩
abbrev S8x128 : Shape := ⟨2, ![8, 128]⟩
abbrev S1x1x128 : Shape := ⟨3, ![1, 1, 128]⟩
abbrev S16x1x128 : Shape := ⟨3, ![16, 1, 128]⟩
abbrev S1024x128 : Shape := ⟨2, ![1024, 128]⟩
abbrev S8 : Shape := ⟨1, ![8]⟩
abbrev S8x1 : Shape := ⟨2, ![8, 1]⟩

abbrev nBuf : Space → Nat
  | .hbm => 28
  | .vmem => 15
  | .smem => 0
  | _ => 0

abbrev bufTy : (tb : Table) → Fin (tcTables nBuf tb) → BufTy
  | .hbm, ⟨0, _⟩ => ⟨S128x4x2560, .f32⟩
  | .hbm, ⟨1, _⟩ => ⟨S2x512, .f32⟩
  | .hbm, ⟨2, _⟩ => ⟨S128x4x128x128, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S_, .f32⟩
  | .hbm, ⟨18, _⟩ => ⟨S_, .f32⟩
  | .hbm, ⟨19, _⟩ => ⟨S2x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S_, .i32⟩
  | .hbm, ⟨24, _⟩ => ⟨S_, .f32⟩
  | .hbm, ⟨25, _⟩ => ⟨S128x8x2560, .f32⟩
  | .hbm, ⟨26, _⟩ => ⟨S128x8x512, .f32⟩
  | .hbm, ⟨27, _⟩ => ⟨S128x4x128x128, .f32⟩
  | .local _ .vmem, ⟨0, _⟩ => ⟨S16x8x128, .f32⟩
  | .local _ .vmem, ⟨1, _⟩ => ⟨S16x8x128, .f32⟩
  | .local _ .vmem, ⟨2, _⟩ => ⟨S16x8x128, .f32⟩
  | .local _ .vmem, ⟨3, _⟩ => ⟨S16x8x128, .f32⟩
  | .local _ .vmem, ⟨4, _⟩ => ⟨S16x8x128, .f32⟩
  | .local _ .vmem, ⟨5, _⟩ => ⟨S16x8x128, .f32⟩
  | .local _ .vmem, ⟨6, _⟩ => ⟨S1x128, .f32⟩
  | .local _ .vmem, ⟨7, _⟩ => ⟨S1x128, .f32⟩
  | .local _ .vmem, ⟨8, _⟩ => ⟨S16x1x128x128, .f32⟩
  | .local _ .vmem, ⟨9, _⟩ => ⟨S16x1x128x128, .f32⟩
  | .local _ .vmem, ⟨10, _⟩ => ⟨S16x8x128, .f32⟩
  | .local _ .vmem, ⟨11, _⟩ => ⟨S16x8x128, .f32⟩
  | .local _ .vmem, ⟨12, _⟩ => ⟨S16x1x128x128, .f32⟩
  | .local _ .vmem, ⟨13, _⟩ => ⟨S16x1x128x128, .f32⟩
  | .local _ .vmem, ⟨14, _⟩ => ⟨S16x128x128, .f32⟩
  | _, _ => ⟨S128x4x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call1_v0 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c8_i32 : BitVec 32 := 8#32
  let v100 : BitVec 32 := Scalar.muli c0_i32 c8_i32
  v100
def k0_off1 : Fin 3 → Nat :=
  let c0_98 : Index := 0#32
  let c0_i32 : BitVec 32 := 0#32
  let c8_i32 : BitVec 32 := 8#32
  let v100 : BitVec 32 := Scalar.muli c0_i32 c8_i32
  let v101 : BitVec 32 := v100
  let v102 : Index := Scalar.indexCast v101
  let c0_99 : Index := 0#32
  ![0, v102.toNat, 0]
def k0_off2 : Fin 3 → Nat :=
  let c1_100 : Index := 1#32
  let c0_i32 : BitVec 32 := 0#32
  let c8_i32 : BitVec 32 := 8#32
  let v100 : BitVec 32 := Scalar.muli c0_i32 c8_i32
  let v101 : BitVec 32 := v100
  let v106 : Index := Scalar.indexCast v101
  let c0_101 : Index := 0#32
  ![1, v106.toNat, 0]
def k0_off3 : Fin 3 → Nat :=
  let c2_102 : Index := 2#32
  let c0_i32 : BitVec 32 := 0#32
  let c8_i32 : BitVec 32 := 8#32
  let v100 : BitVec 32 := Scalar.muli c0_i32 c8_i32
  let v101 : BitVec 32 := v100
  let v110 : Index := Scalar.indexCast v101
  let c0_103 : Index := 0#32
  ![2, v110.toNat, 0]
def k0_off4 : Fin 3 → Nat :=
  let c3_104 : Index := 3#32
  let c0_i32 : BitVec 32 := 0#32
  let c8_i32 : BitVec 32 := 8#32
  let v100 : BitVec 32 := Scalar.muli c0_i32 c8_i32
  let v101 : BitVec 32 := v100
  let v114 : Index := Scalar.indexCast v101
  let c0_105 : Index := 0#32
  ![3, v114.toNat, 0]
def k0_off5 : Fin 3 → Nat :=
  let c4_106 : Index := 4#32
  let c0_i32 : BitVec 32 := 0#32
  let c8_i32 : BitVec 32 := 8#32
  let v100 : BitVec 32 := Scalar.muli c0_i32 c8_i32
  let v101 : BitVec 32 := v100
  let v118 : Index := Scalar.indexCast v101
  let c0_107 : Index := 0#32
  ![4, v118.toNat, 0]
def k0_off6 : Fin 3 → Nat :=
  let c5_108 : Index := 5#32
  let c0_i32 : BitVec 32 := 0#32
  let c8_i32 : BitVec 32 := 8#32
  let v100 : BitVec 32 := Scalar.muli c0_i32 c8_i32
  let v101 : BitVec 32 := v100
  let v122 : Index := Scalar.indexCast v101
  let c0_109 : Index := 0#32
  ![5, v122.toNat, 0]
def k0_off7 : Fin 3 → Nat :=
  let c6_110 : Index := 6#32
  let c0_i32 : BitVec 32 := 0#32
  let c8_i32 : BitVec 32 := 8#32
  let v100 : BitVec 32 := Scalar.muli c0_i32 c8_i32
  let v101 : BitVec 32 := v100
  let v126 : Index := Scalar.indexCast v101
  let c0_111 : Index := 0#32
  ![6, v126.toNat, 0]
def k0_off8 : Fin 3 → Nat :=
  let c7_112 : Index := 7#32
  let c0_i32 : BitVec 32 := 0#32
  let c8_i32 : BitVec 32 := 8#32
  let v100 : BitVec 32 := Scalar.muli c0_i32 c8_i32
  let v101 : BitVec 32 := v100
  let v130 : Index := Scalar.indexCast v101
  let c0_113 : Index := 0#32
  ![7, v130.toNat, 0]
def k0_off9 : Fin 3 → Nat :=
  let c8_114 : Index := 8#32
  let c0_i32 : BitVec 32 := 0#32
  let c8_i32 : BitVec 32 := 8#32
  let v100 : BitVec 32 := Scalar.muli c0_i32 c8_i32
  let v101 : BitVec 32 := v100
  let v134 : Index := Scalar.indexCast v101
  let c0_115 : Index := 0#32
  ![8, v134.toNat, 0]
def k0_off10 : Fin 3 → Nat :=
  let c9_116 : Index := 9#32
  let c0_i32 : BitVec 32 := 0#32
  let c8_i32 : BitVec 32 := 8#32
  let v100 : BitVec 32 := Scalar.muli c0_i32 c8_i32
  let v101 : BitVec 32 := v100
  let v138 : Index := Scalar.indexCast v101
  let c0_117 : Index := 0#32
  ![9, v138.toNat, 0]
def k0_off11 : Fin 3 → Nat :=
  let c10_118 : Index := 10#32
  let c0_i32 : BitVec 32 := 0#32
  let c8_i32 : BitVec 32 := 8#32
  let v100 : BitVec 32 := Scalar.muli c0_i32 c8_i32
  let v101 : BitVec 32 := v100
  let v142 : Index := Scalar.indexCast v101
  let c0_119 : Index := 0#32
  ![10, v142.toNat, 0]
def k0_off12 : Fin 3 → Nat :=
  let c11_120 : Index := 11#32
  let c0_i32 : BitVec 32 := 0#32
  let c8_i32 : BitVec 32 := 8#32
  let v100 : BitVec 32 := Scalar.muli c0_i32 c8_i32
  let v101 : BitVec 32 := v100
  let v146 : Index := Scalar.indexCast v101
  let c0_121 : Index := 0#32
  ![11, v146.toNat, 0]
def k0_off13 : Fin 3 → Nat :=
  let c12_122 : Index := 12#32
  let c0_i32 : BitVec 32 := 0#32
  let c8_i32 : BitVec 32 := 8#32
  let v100 : BitVec 32 := Scalar.muli c0_i32 c8_i32
  let v101 : BitVec 32 := v100
  let v150 : Index := Scalar.indexCast v101
  let c0_123 : Index := 0#32
  ![12, v150.toNat, 0]
def k0_off14 : Fin 3 → Nat :=
  let c13_124 : Index := 13#32
  let c0_i32 : BitVec 32 := 0#32
  let c8_i32 : BitVec 32 := 8#32
  let v100 : BitVec 32 := Scalar.muli c0_i32 c8_i32
  let v101 : BitVec 32 := v100
  let v154 : Index := Scalar.indexCast v101
  let c0_125 : Index := 0#32
  ![13, v154.toNat, 0]
def k0_off15 : Fin 3 → Nat :=
  let c14_126 : Index := 14#32
  let c0_i32 : BitVec 32 := 0#32
  let c8_i32 : BitVec 32 := 8#32
  let v100 : BitVec 32 := Scalar.muli c0_i32 c8_i32
  let v101 : BitVec 32 := v100
  let v158 : Index := Scalar.indexCast v101
  let c0_127 : Index := 0#32
  ![14, v158.toNat, 0]
def k0_off16 : Fin 3 → Nat :=
  let c15_128 : Index := 15#32
  let c0_i32 : BitVec 32 := 0#32
  let c8_i32 : BitVec 32 := 8#32
  let v100 : BitVec 32 := Scalar.muli c0_i32 c8_i32
  let v101 : BitVec 32 := v100
  let v162 : Index := Scalar.indexCast v101
  let c0_129 : Index := 0#32
  ![15, v162.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S128x4x2560 : Shape := ⟨3, ![128, 4, 2560]⟩
abbrev S2x512 : Shape := ⟨2, ![2, 512]⟩
abbrev S128x4x128x128 : Shape := ⟨4, ![128, 4, 128, 128]⟩
abbrev S_ : Shape := ⟨0, ![]⟩
abbrev S512 : Shape := ⟨1, ![512]⟩
abbrev S1x512 : Shape := ⟨2, ![1, 512]⟩
abbrev S128x4x512 : Shape := ⟨3, ![128, 4, 512]⟩
abbrev S1x1x512 : Shape := ⟨3, ![1, 1, 512]⟩
abbrev S128x4x4x128 : Shape := ⟨4, ![128, 4, 4, 128]⟩
abbrev S4x4 : Shape := ⟨2, ![4, 4]⟩
abbrev S1x4x4x1x1 : Shape := ⟨5, ![1, 4, 4, 1, 1]⟩
abbrev S128x4x1x4x128 : Shape := ⟨5, ![128, 4, 1, 4, 128]⟩
abbrev S128x1x4x4x128 : Shape := ⟨5, ![128, 1, 4, 4, 128]⟩
abbrev S128x4x4x4x128 : Shape := ⟨5, ![128, 4, 4, 4, 128]⟩
abbrev S128x4x4x4 : Shape := ⟨4, ![128, 4, 4, 4]⟩
abbrev S128x4x128x4 : Shape := ⟨4, ![128, 4, 128, 4]⟩
abbrev S128x1x4x128 : Shape := ⟨4, ![128, 1, 4, 128]⟩
abbrev S128x4x128 : Shape := ⟨3, ![128, 4, 128]⟩
abbrev S128x4x128x1 : Shape := ⟨4, ![128, 4, 128, 1]⟩
abbrev S128x4x4 : Shape := ⟨3, ![128, 4, 4]⟩
abbrev S128x4x4x1 : Shape := ⟨4, ![128, 4, 4, 1]⟩
abbrev S128x8x512 : Shape := ⟨3, ![128, 8, 512]⟩

abbrev nBuf : Space → Nat
  | .hbm => 133
  | .vmem => 0
  | .smem => 0
  | _ => 0

abbrev hbmTy0_0 (i : Nat) : BufTy := match i % 128 with
  | 0 => ⟨S128x4x2560, .f32⟩
  | 1 => ⟨S2x512, .f32⟩
  | 2 => ⟨S128x4x128x128, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S1x512, .f32⟩
  | 21 => ⟨S512, .f32⟩
  | 22 => ⟨S128x4x512, .f32⟩
  | 23 => ⟨S128x4x512, .f32⟩
  | 24 => ⟨S128x4x512, .f32⟩
  | 25 => ⟨S_, .f32⟩
  | 26 => ⟨S512, .f32⟩
  | 27 => ⟨S512, .f32⟩
  | 28 => ⟨S128x4x512, .f32⟩
  | 29 => ⟨S128x4x512, .f32⟩
  | 30 => ⟨S_, .f32⟩
  | 31 => ⟨S128x4x512, .f32⟩
  | 32 => ⟨S128x4x512, .f32⟩
  | 33 => ⟨S_, .f32⟩
  | 34 => ⟨S128x4x512, .f32⟩
  | 35 => ⟨S128x4x512, .f32⟩
  | 36 => ⟨S1x1x512, .f32⟩
  | 37 => ⟨S128x4x512, .f32⟩
  | 38 => ⟨S128x4x512, .f32⟩
  | 39 => ⟨S1x1x512, .f32⟩
  | 40 => ⟨S128x4x512, .f32⟩
  | 41 => ⟨S128x4x512, .f32⟩
  | 42 => ⟨S128x4x512, .f32⟩
  | 43 => ⟨S_, .f32⟩
  | 44 => ⟨S512, .f32⟩
  | 45 => ⟨S512, .f32⟩
  | 46 => ⟨S128x4x512, .f32⟩
  | 47 => ⟨S128x4x512, .f32⟩
  | 48 => ⟨S128x4x512, .f32⟩
  | 49 => ⟨S_, .f32⟩
  | 50 => ⟨S128x4x512, .f32⟩
  | 51 => ⟨S128x4x512, .f32⟩
  | 52 => ⟨S_, .f32⟩
  | 53 => ⟨S128x4x512, .f32⟩
  | 54 => ⟨S128x4x512, .f32⟩
  | 55 => ⟨S1x1x512, .f32⟩
  | 56 => ⟨S128x4x512, .f32⟩
  | 57 => ⟨S128x4x512, .f32⟩
  | 58 => ⟨S128x4x4x128, .f32⟩
  | 59 => ⟨S128x4x4x128, .f32⟩
  | 60 => ⟨S128x4x4x128, .f32⟩
  | 61 => ⟨S128x4x4x128, .f32⟩
  | 62 => ⟨S_, .i1⟩
  | 63 => ⟨S4x4, .i1⟩
  | 64 => ⟨S4x4, .i32⟩
  | 65 => ⟨S_, .i32⟩
  | 66 => ⟨S4x4, .i32⟩
  | 67 => ⟨S4x4, .i32⟩
  | 68 => ⟨S4x4, .i32⟩
  | 69 => ⟨S4x4, .i1⟩
  | 70 => ⟨S_, .i1⟩
  | 71 => ⟨S4x4, .i1⟩
  | 72 => ⟨S4x4, .i1⟩
  | 73 => ⟨S1x4x4x1x1, .i1⟩
  | 74 => ⟨S_, .f32⟩
  | 75 => ⟨S_, .f32⟩
  | 76 => ⟨S128x4x4x128, .f32⟩
  | 77 => ⟨S128x4x1x4x128, .f32⟩
  | 78 => ⟨S128x1x4x4x128, .f32⟩
  | 79 => ⟨S128x4x4x4x128, .f32⟩
  | 80 => ⟨S128x4x4x4x128, .f32⟩
  | 81 => ⟨S128x4x4x4x128, .f32⟩
  | 82 => ⟨S_, .f32⟩
  | 83 => ⟨S_, .f32⟩
  | 84 => ⟨S128x4x4x4x128, .i1⟩
  | 85 => ⟨S128x4x4x4x128, .f32⟩
  | 86 => ⟨S128x4x4x4x128, .f32⟩
  | 87 => ⟨S128x4x4x4x128, .f32⟩
  | 88 => ⟨S128x4x1x4x128, .f32⟩
  | 89 => ⟨S128x1x4x4x128, .f32⟩
  | 90 => ⟨S128x4x4x4x128, .f32⟩
  | 91 => ⟨S128x4x4x4x128, .f32⟩
  | 92 => ⟨S128x4x4x4x128, .f32⟩
  | 93 => ⟨S128x4x4x4x128, .f32⟩
  | 94 => ⟨S_, .f32⟩
  | 95 => ⟨S128x4x4x4, .f32⟩
  | 96 => ⟨S128x4x128x4, .f32⟩
  | 97 => ⟨S128x4x4x128, .f32⟩
  | 98 => ⟨S128x4x4x128, .f32⟩
  | 99 => ⟨S128x4x4x128, .f32⟩
  | 100 => ⟨S128x4x128x4, .f32⟩
  | 101 => ⟨S128x4x4x128, .f32⟩
  | 102 => ⟨S128x4x4x128, .f32⟩
  | 103 => ⟨S128x1x4x128, .f32⟩
  | 104 => ⟨S128x4x128, .f32⟩
  | 105 => ⟨S128x4x128, .f32⟩
  | 106 => ⟨S128x4x128x1, .f32⟩
  | 107 => ⟨S128x4x128x128, .f32⟩
  | 108 => ⟨S128x4x128x128, .f32⟩
  | 109 => ⟨S128x1x4x128, .f32⟩
  | 110 => ⟨S128x4x4x128, .f32⟩
  | 111 => ⟨S128x4x4x128, .f32⟩
  | 112 => ⟨S128x4x4x128, .f32⟩
  | 113 => ⟨S128x4x4x128, .f32⟩
  | 114 => ⟨S128x4x128x128, .f32⟩
  | 115 => ⟨S128x4x128x128, .f32⟩
  | 116 => ⟨S128x4x4x128, .f32⟩
  | 117 => ⟨S_, .f32⟩
  | 118 => ⟨S128x4x4, .f32⟩
  | 119 => ⟨S128x4x4x1, .f32⟩
  | 120 => ⟨S_, .f32⟩
  | 121 => ⟨S128x4x4x1, .f32⟩
  | 122 => ⟨S128x4x4x1, .f32⟩
  | 123 => ⟨S_, .f32⟩
  | 124 => ⟨S128x4x4x1, .f32⟩
  | 125 => ⟨S128x4x4x1, .f32⟩
  | 126 => ⟨S128x4x4x1, .f32⟩
  | 127 => ⟨S128x4x4x128, .f32⟩
  | _ => ⟨S128x4x2560, .f32⟩

abbrev hbmTy0_1 (i : Nat) : BufTy := match i % 128 with
  | 0 => ⟨S128x4x4x128, .f32⟩
  | 1 => ⟨S128x4x512, .f32⟩
  | 2 => ⟨S_, .i32⟩
  | 3 => ⟨S_, .f32⟩
  | 4 => ⟨S128x8x512, .f32⟩
  | _ => ⟨S128x4x2560, .f32⟩

abbrev hbmTy (i : Nat) : BufTy := match i / 128 with
  | 0 => hbmTy0_0 i
  | 1 => hbmTy0_1 i
  | _ => ⟨S128x4x2560, .f32⟩

abbrev bufTy : (tb : Table) → Fin (tcTables nBuf tb) → BufTy
  | .hbm, ⟨i, _⟩ => hbmTy i
  | _, _ => ⟨S128x4x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c : Ref sig .tc := ⟨.hbm, 62, rfl⟩
abbrev main_v48 : Ref sig .tc := ⟨.hbm, 63, rfl⟩
abbrev main_call1_v0 : Ref sig .tc := ⟨.hbm, 64, rfl⟩
abbrev main_call1_c : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_c_0 : Ref sig .tc := ⟨.hbm, 70, rfl⟩
abbrev main_call1_v5 : Ref sig .tc := ⟨.hbm, 71, rfl⟩
abbrev main_v49 : Ref sig .tc := ⟨.hbm, 72, rfl⟩
abbrev main_v50 : Ref sig .tc := ⟨.hbm, 73, rfl⟩
abbrev main_call2_call0_cst : Ref sig .tc := ⟨.hbm, 74, rfl⟩
abbrev main_call2_call0_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_10 : Ref sig .tc := ⟨.hbm, 117, rfl⟩
abbrev main_v87 : Ref sig .tc := ⟨.hbm, 118, rfl⟩
abbrev main_v88 : Ref sig .tc := ⟨.hbm, 119, rfl⟩
abbrev main_cst_11 : Ref sig .tc := ⟨.hbm, 120, rfl⟩
abbrev main_v89 : Ref sig .tc := ⟨.hbm, 121, rfl⟩
abbrev main_v90 : Ref sig .tc := ⟨.hbm, 122, rfl⟩
abbrev main_cst_12 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_13 : Ref sig .tc := ⟨.hbm, 130, rfl⟩
abbrev main_call4_v0 : Ref sig .tc := ⟨.hbm, 131, rfl⟩
abbrev main_v97 : Ref sig .tc := ⟨.hbm, 132, rfl⟩

abbrev nD : Nat := 1
abbrev τ : Topo := Topo.v7x

variable {F : FTy → Type} [FloatOps F]
-- ==== Kernel5.lean ====
abbrev S128x4x2560 : Shape := ⟨3, ![128, 4, 2560]⟩
abbrev S128x32x64 : Shape := ⟨3, ![128, 32, 64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S32x1 : Shape := ⟨2, ![32, 1]⟩
abbrev S_ : Shape := ⟨0, ![]⟩
abbrev S32x64x1 : Shape := ⟨3, ![32, 64, 1]⟩
abbrev S4x8x16x64 : Shape := ⟨4, ![4, 8, 16, 64]⟩
abbrev S8x8 : Shape := ⟨2, ![8, 8]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x8x64x16 : Shape := ⟨4, ![4, 8, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S4x1x512 : Shape := ⟨3, ![4, 1, 512]⟩
abbrev S1x512 : Shape := ⟨2, ![1, 512]⟩
abbrev S512x2560 : Shape := ⟨2, ![512, 2560]⟩
abbrev S1x128x2048 : Shape := ⟨3, ![1, 128, 2048]⟩
abbrev S512x512 : Shape := ⟨2, ![512, 512]⟩
abbrev S512x128 : Shape := ⟨2, ![512, 128]⟩
abbrev S1x128x1024 : Shape := ⟨3, ![1, 128, 1024]⟩
abbrev S1x1024x128 : Shape := ⟨3, ![1, 1024, 128]⟩
abbrev S1x1x512 : Shape := ⟨3, ![1, 1, 512]⟩
abbrev S1x128 : Shape := ⟨2, ![1, 128]⟩
abbrev S1x128x512 : Shape := ⟨3, ![1, 128, 512]⟩
abbrev S4x128x128 : Shape := ⟨3, ![4, 128, 128]⟩
abbrev S128x1024 : Shape := ⟨2, ![128, 1024]⟩
abbrev S128x512 : Shape := ⟨2, ![128, 512]⟩
abbrev S128x128 : Shape := ⟨2, ![128, 128]⟩
abbrev S1x128x128 : Shape := ⟨3, ![1, 128, 128]⟩
abbrev S1024x128 : Shape := ⟨2, ![1024, 128]⟩

abbrev nBuf : Space → Nat
  | .hbm => 140
  | .vmem => 28
  | .smem => 0
  | _ => 0

abbrev hbmTy0_0 (i : Nat) : BufTy := match i % 128 with
  | 0 => ⟨S128x4x2560, .f32⟩
  | 1 => ⟨S128x32x64, .f32⟩
  | 2 => ⟨S128x32x64, .f32⟩
  | 3 => ⟨S32x64, .f32⟩
  | 4 => ⟨S32x64, .f32⟩
  | 5 => ⟨S32, .f32⟩
  | 6 => ⟨S32x64x16, .f32⟩
  | 7 => ⟨S32x64x16, .f32⟩
  | 8 => ⟨S32x16x64, .f32⟩
  | 9 => ⟨S32x16x64, .f32⟩
  | 10 => ⟨S512, .f32⟩
  | 11 => ⟨S32, .f32⟩
  | 12 => ⟨S32x1, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S_, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64x1, .f32⟩
  | 37 => ⟨S32x64x16, .f32⟩
  | 38 => ⟨S32x64x16, .f32⟩
  | 39 => ⟨S32x64x1, .f32⟩
  | 40 => ⟨S32x64x16, .f32⟩
  | 41 => ⟨S32x64x16, .f32⟩
  | 42 => ⟨S32x64x16, .f32⟩
  | 43 => ⟨S32x64x1, .f32⟩
  | 44 => ⟨S32x64x16, .f32⟩
  | 45 => ⟨S32x64x16, .f32⟩
  | 46 => ⟨S32x64x1, .f32⟩
  | 47 => ⟨S32x64x16, .f32⟩
  | 48 => ⟨S32x64x16, .f32⟩
  | 49 => ⟨S32x64x16, .f32⟩
  | 50 => ⟨S_, .f32⟩
  | 51 => ⟨S32x64, .f32⟩
  | 52 => ⟨S32x64, .f32⟩
  | 53 => ⟨S32x64, .f32⟩
  | 54 => ⟨S_, .f32⟩
  | 55 => ⟨S32x64, .f32⟩
  | 56 => ⟨S32x64, .f32⟩
  | 57 => ⟨S32x64, .f32⟩
  | 58 => ⟨S32x64, .f32⟩
  | 59 => ⟨S_, .f32⟩
  | 60 => ⟨S32x64, .f32⟩
  | 61 => ⟨S32x64, .f32⟩
  | 62 => ⟨S32x64, .f32⟩
  | 63 => ⟨S32x64, .f32⟩
  | 64 => ⟨S32x16x64, .f32⟩
  | 65 => ⟨S4x8x16x64, .f32⟩
  | 66 => ⟨S8x8, .i32⟩
  | 67 => ⟨S8x8, .i32⟩
  | 68 => ⟨S_, .i32⟩
  | 69 => ⟨S8x8, .i32⟩
  | 70 => ⟨S8x8, .i32⟩
  | 71 => ⟨S8x8, .i1⟩
  | 72 => ⟨S8x8, .f32⟩
  | 73 => ⟨S4x8x16x1x64, .f32⟩
  | 74 => ⟨S1x8x1x8x1, .f32⟩
  | 75 => ⟨S4x8x16x8x64, .f32⟩
  | 76 => ⟨S4x8x16x8x64, .f32⟩
  | 77 => ⟨S4x8x16x8x64, .f32⟩
  | 78 => ⟨S4x128x512, .f32⟩
  | 79 => ⟨S32x16x64, .f32⟩
  | 80 => ⟨S4x8x16x64, .f32⟩
  | 81 => ⟨S8x8, .i32⟩
  | 82 => ⟨S8x8, .i32⟩
  | 83 => ⟨S_, .i32⟩
  | 84 => ⟨S8x8, .i32⟩
  | 85 => ⟨S8x8, .i32⟩
  | 86 => ⟨S8x8, .i1⟩
  | 87 => ⟨S8x8, .f32⟩
  | 88 => ⟨S4x8x16x1x64, .f32⟩
  | 89 => ⟨S1x8x1x8x1, .f32⟩
  | 90 => ⟨S4x8x16x8x64, .f32⟩
  | 91 => ⟨S4x8x16x8x64, .f32⟩
  | 92 => ⟨S4x8x16x8x64, .f32⟩
  | 93 => ⟨S4x128x512, .f32⟩
  | 94 => ⟨S4x128x1024, .f32⟩
  | 95 => ⟨S32x64x16, .f32⟩
  | 96 => ⟨S4x8x64x16, .f32⟩
  | 97 => ⟨S8x8, .i32⟩
  | 98 => ⟨S8x8, .i32⟩
  | 99 => ⟨S_, .i32⟩
  | 100 => ⟨S8x8, .i32⟩
  | 101 => ⟨S8x8, .i32⟩
  | 102 => ⟨S8x8, .i1⟩
  | 103 => ⟨S8x8, .f32⟩
  | 104 => ⟨S4x8x64x1x16, .f32⟩
  | 105 => ⟨S1x8x1x8x1, .f32⟩
  | 106 => ⟨S4x8x64x8x16, .f32⟩
  | 107 => ⟨S4x8x64x8x16, .f32⟩
  | 108 => ⟨S4x8x64x8x16, .f32⟩
  | 109 => ⟨S4x512x128, .f32⟩
  | 110 => ⟨S32x64x16, .f32⟩
  | 111 => ⟨S4x8x64x16, .f32⟩
  | 112 => ⟨S8x8, .i32⟩
  | 113 => ⟨S8x8, .i32⟩
  | 114 => ⟨S_, .i32⟩
  | 115 => ⟨S8x8, .i32⟩
  | 116 => ⟨S8x8, .i32⟩
  | 117 => ⟨S8x8, .i1⟩
  | 118 => ⟨S8x8, .f32⟩
  | 119 => ⟨S4x8x64x1x16, .f32⟩
  | 120 => ⟨S1x8x1x8x1, .f32⟩
  | 121 => ⟨S4x8x64x8x16, .f32⟩
  | 122 => ⟨S4x8x64x8x16, .f32⟩
  | 123 => ⟨S4x8x64x8x16, .f32⟩
  | 124 => ⟨S4x512x128, .f32⟩
  | 125 => ⟨S4x512x128, .f32⟩
  | 126 => ⟨S4x1024x128, .f32⟩
  | 127 => ⟨S4x128x1024, .bf16⟩
  | _ => ⟨S128x4x2560, .f32⟩

abbrev hbmTy0_1 (i : Nat) : BufTy := match i % 128 with
  | 0 => ⟨S4x1024x128, .bf16⟩
  | 1 => ⟨S4x1x512, .f32⟩
  | 2 => ⟨S4x1x512, .f32⟩
  | 3 => ⟨S4x1x512, .f32⟩
  | 4 => ⟨S4x1x512, .f32⟩
  | 5 => ⟨S1x512, .f32⟩
  | 6 => ⟨S512x2560, .f32⟩
  | 7 => ⟨S1x128x2048, .f32⟩
  | 8 => ⟨S1x128x2048, .f32⟩
  | 9 => ⟨S512x512, .f32⟩
  | 10 => ⟨S1x128x2048, .f32⟩
  | 11 => ⟨S1x128x2048, .f32⟩
  | _ => ⟨S128x4x2560, .f32⟩

abbrev hbmTy (i : Nat) : BufTy := match i / 128 with
  | 0 => hbmTy0_0 i
  | 1 => hbmTy0_1 i
  | _ => ⟨S128x4x2560, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S1x128x1024, .bf16⟩
  | .local _ .vmem, ⟨3, _⟩ => ⟨S1x128x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x128, .f32⟩
  | .local _ .vmem, ⟨15, _⟩ => ⟨S1x128, .f32⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S512x128, .f32⟩
  | .local _ .vmem, ⟨21, _⟩ => ⟨S512x128, .f32⟩
  | .local _ .vmem, ⟨22, _⟩ => ⟨S1x128x512, .f32⟩
  | .local _ .vmem, ⟨23, _⟩ => ⟨S1x128x512, .f32⟩
  | .local _ .vmem, ⟨24, _⟩ => ⟨S1x128x512, .f32⟩
  | .local _ .vmem, ⟨25, _⟩ => ⟨S1x128x512, .f32⟩
  | .local _ .vmem, ⟨26, _⟩ => ⟨S4x128x128, .f32⟩
  | .local _ .vmem, ⟨27, _⟩ => ⟨S4x128x128, .f32⟩
  | _, _ => ⟨S128x4x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_1 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_2 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c_3 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_c_4 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_c_5 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118_0 : Ref sig .tc := ⟨.hbm, 137, rfl⟩
abbrev main_v118_1 : Ref sig .tc := ⟨.hbm, 138, rfl⟩
abbrev main_v118_2 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel6.lean ====
abbrev S512x1024 : Shape := ⟨2, ![512, 1024]⟩
abbrev S512x512 : Shape := ⟨2, ![512, 512]⟩
abbrev S512x2560 : Shape := ⟨2, ![512, 2560]⟩
abbrev S1x512 : Shape := ⟨2, ![1, 512]⟩
abbrev S1x512x512 : Shape := ⟨3, ![1, 512, 512]⟩
abbrev S1x1024x1024 : Shape := ⟨3, ![1, 1024, 1024]⟩
abbrev S1x1024 : Shape := ⟨2, ![1, 1024]⟩
abbrev S1x512x1024 : Shape := ⟨3, ![1, 512, 1024]⟩
abbrev S512 : Shape := ⟨1, ![512]⟩
abbrev S1024 : Shape := ⟨1, ![1024]⟩
abbrev S512x1 : Shape := ⟨2, ![512, 1]⟩

abbrev nBuf : Space → Nat
  | .hbm => 27
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x2560, .f32⟩
  | .hbm, ⟨3, _⟩ => ⟨S512x512, .f32⟩
  | .hbm, ⟨4, _⟩ => ⟨S1x512, .f32⟩
  | .hbm, ⟨5, _⟩ => ⟨S1x512x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S512x512, .f32⟩
  | .hbm, ⟨11, _⟩ => ⟨S512x512, .bf16⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S512, .f32⟩
  | .hbm, ⟨19, _⟩ => ⟨S512, .f32⟩
  | .hbm, ⟨20, _⟩ => ⟨S1024, .f32⟩
  | .hbm, ⟨21, _⟩ => ⟨S1024, .f32⟩
  | .hbm, ⟨22, _⟩ => ⟨S1x512, .f32⟩
  | .hbm, ⟨23, _⟩ => ⟨S1x512, .f32⟩
  | .hbm, ⟨24, _⟩ => ⟨S1x1024, .f32⟩
  | .hbm, ⟨25, _⟩ => ⟨S1x1024, .f32⟩
  | .hbm, ⟨26, _⟩ => ⟨S512x1024, .f32⟩
  | .local _ .vmem, ⟨0, _⟩ => ⟨S512x1024, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Kernel6Ideal.lean ====
variable {F : FTy → Type} [FloatOps F] [Named F]
def κ : String → Option EReal := fun
  | "gelu_cub" => some ((-80338380498831 / 1125899906842624 : ℝ) : EReal)
  | _ => none
-- ==== Reference6Ideal.lean ====
abbrev S512x1024 : Shape := ⟨2, ![512, 1024]⟩
abbrev S512x512 : Shape := ⟨2, ![512, 512]⟩
abbrev S512x2560 : Shape := ⟨2, ![512, 2560]⟩
abbrev S1x512 : Shape := ⟨2, ![1, 512]⟩
abbrev S1x512x512 : Shape := ⟨3, ![1, 512, 512]⟩
abbrev S1x1024x1024 : Shape := ⟨3, ![1, 1024, 1024]⟩
abbrev S1x1024 : Shape := ⟨2, ![1, 1024]⟩
abbrev S512 : Shape := ⟨1, ![512]⟩
abbrev S_ : Shape := ⟨0, ![]⟩
abbrev S1024x1024 : Shape := ⟨2, ![1024, 1024]⟩
abbrev S512x1 : Shape := ⟨2, ![512, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x2560, .f32⟩
  | .hbm, ⟨3, _⟩ => ⟨S512x512, .f32⟩
  | .hbm, ⟨4, _⟩ => ⟨S1x512, .f32⟩
  | .hbm, ⟨5, _⟩ => ⟨S1x512x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S512x512, .f32⟩
  | .hbm, ⟨11, _⟩ => ⟨S512, .f32⟩
  | .hbm, ⟨12, _⟩ => ⟨S1x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S_, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S512, .f32⟩
  | .hbm, ⟨45, _⟩ => ⟨S1x512, .f32⟩
  | .hbm, ⟨46, _⟩ => ⟨S512x512, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S_, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S512x1024, .f32⟩
  | .hbm, ⟨58, _⟩ => ⟨S1024x1024, .f32⟩
  | .hbm, ⟨59, _⟩ => ⟨S512x1024, .f32⟩
  | .hbm, ⟨60, _⟩ => ⟨S_, .f32⟩
  | .hbm, ⟨61, _⟩ => ⟨S512x1024, .f32⟩
  | .hbm, ⟨62, _⟩ => ⟨S512x1024, .f32⟩
  | .hbm, ⟨63, _⟩ => ⟨S512x1024, .f32⟩
  | .hbm, ⟨64, _⟩ => ⟨S_, .f32⟩
  | .hbm, ⟨65, _⟩ => ⟨S512, .f32⟩
  | .hbm, ⟨66, _⟩ => ⟨S512x1, .f32⟩
  | .hbm, ⟨67, _⟩ => ⟨S_, .f32⟩
  | .hbm, ⟨68, _⟩ => ⟨S512x1, .f32⟩
  | .hbm, ⟨69, _⟩ => ⟨S512x1, .f32⟩
  | .hbm, ⟨70, _⟩ => ⟨S512x1024, .f32⟩
  | .hbm, ⟨71, _⟩ => ⟨S512x1024, .f32⟩
  | .hbm, ⟨72, _⟩ => ⟨S512x1024, .f32⟩
  | .hbm, ⟨73, _⟩ => ⟨S_, .f32⟩
  | .hbm, ⟨74, _⟩ => ⟨S512, .f32⟩
  | .hbm, ⟨75, _⟩ => ⟨S512x1, .f32⟩
  | .hbm, ⟨76, _⟩ => ⟨S_, .f32⟩
  | .hbm, ⟨77, _⟩ => ⟨S512x1, .f32⟩
  | .hbm, ⟨78, _⟩ => ⟨S512x1, .f32⟩
  | .hbm, ⟨79, _⟩ => ⟨S512x1024, .f32⟩
  | .hbm, ⟨80, _⟩ => ⟨S512x1024, .f32⟩
  | .hbm, ⟨81, _⟩ => ⟨S_, .f32⟩
  | .hbm, ⟨82, _⟩ => ⟨S512x1, .f32⟩
  | .hbm, ⟨83, _⟩ => ⟨S512x1, .f32⟩
  | .hbm, ⟨84, _⟩ => ⟨S512x1, .f32⟩
  | .hbm, ⟨85, _⟩ => ⟨S512x1024, .f32⟩
  | .hbm, ⟨86, _⟩ => ⟨S512x1024, .f32⟩
  | .hbm, ⟨87, _⟩ => ⟨S1024, .f32⟩
  | .hbm, ⟨88, _⟩ => ⟨S1x1024, .f32⟩
  | .hbm, ⟨89, _⟩ => ⟨S512x1024, .f32⟩
  | .hbm, ⟨90, _⟩ => ⟨S512x1024, .f32⟩
  | .hbm, ⟨91, _⟩ => ⟨S1024, .f32⟩
  | .hbm, ⟨92, _⟩ => ⟨S1x1024, .f32⟩
  | .hbm, ⟨93, _⟩ => ⟨S512x1024, .f32⟩
  | .hbm, ⟨94, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== Kernel7.lean ====
abbrev S128x4x1024 : Shape := ⟨3, ![128, 4, 1024]⟩
abbrev S16x1024 : Shape := ⟨2, ![16, 1024]⟩
abbrev S1024 : Shape := ⟨1, ![1024]⟩
abbrev S1x1024x2560 : Shape := ⟨3, ![1, 1024, 2560]⟩
abbrev S1x2560 : Shape := ⟨2, ![1, 2560]⟩
abbrev S512x1024 : Shape := ⟨2, ![512, 1024]⟩
abbrev S1024x2560 : Shape := ⟨2, ![1024, 2560]⟩
abbrev S528x1024 : Shape := ⟨2, ![528, 1024]⟩
abbrev S2560 : Shape := ⟨1, ![2560]⟩
abbrev S1x1024 : Shape := ⟨2, ![1, 1024]⟩
abbrev S528x2560 : Shape := ⟨2, ![528, 2560]⟩
abbrev S264x1024 : Shape := ⟨2, ![264, 1024]⟩
abbrev S264x2560 : Shape := ⟨2, ![264, 2560]⟩
abbrev S264 : Shape := ⟨1, ![264]⟩
abbrev S264x1 : Shape := ⟨2, ![264, 1]⟩

abbrev nBuf : Space → Nat
  | .hbm => 16
  | .vmem => 10
  | .smem => 0
  | _ => 0

abbrev bufTy : (tb : Table) → Fin (tcTables nBuf tb) → BufTy
  | .hbm, ⟨0, _⟩ => ⟨S128x4x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1x1024x2560, .f32⟩
  | .hbm, ⟨5, _⟩ => ⟨S1x2560, .f32⟩
  | .hbm, ⟨6, _⟩ => ⟨S512x1024, .f32⟩
  | .hbm, ⟨7, _⟩ => ⟨S1024x2560, .f32⟩
  | .hbm, ⟨8, _⟩ => ⟨S1024x2560, .bf16⟩
  | .hbm, ⟨9, _⟩ => ⟨S528x1024, .f32⟩
  | .hbm, ⟨10, _⟩ => ⟨S2560, .f32⟩
  | .hbm, ⟨11, _⟩ => ⟨S1x1024, .f32⟩
  | .hbm, ⟨12, _⟩ => ⟨S1x1024, .f32⟩
  | .hbm, ⟨13, _⟩ => ⟨S1x2560, .f32⟩
  | .hbm, ⟨14, _⟩ => ⟨S528x1024, .f32⟩
  | .hbm, ⟨15, _⟩ => ⟨S528x2560, .f32⟩
  | .local _ .vmem, ⟨0, _⟩ => ⟨S264x1024, .f32⟩
  | .local _ .vmem, ⟨1, _⟩ => ⟨S264x1024, .f32⟩
  | .local _ .vmem, ⟨2, _⟩ => ⟨S1x1024, .f32⟩
  | .local _ .vmem, ⟨3, _⟩ => ⟨S1x1024, .f32⟩
  | .local _ .vmem, ⟨4, _⟩ => ⟨S1024x2560, .bf16⟩
  | .local _ .vmem, ⟨5, _⟩ => ⟨S1x2560, .f32⟩
  | .local _ .vmem, ⟨6, _⟩ => ⟨S264x1024, .f32⟩
  | .local _ .vmem, ⟨7, _⟩ => ⟨S264x1024, .f32⟩
  | .local _ .vmem, ⟨8, _⟩ => ⟨S264x2560, .f32⟩
  | .local _ .vmem, ⟨9, _⟩ => ⟨S264x2560, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S264x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S264x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S264x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S128x4x1024 : Shape := ⟨3, ![128, 4, 1024]⟩
abbrev S16x1024 : Shape := ⟨2, ![16, 1024]⟩
abbrev S1024 : Shape := ⟨1, ![1024]⟩
abbrev S1x1024x2560 : Shape := ⟨3, ![1, 1024, 2560]⟩
abbrev S1x2560 : Shape := ⟨2, ![1, 2560]⟩
abbrev S512x1024 : Shape := ⟨2, ![512, 1024]⟩
abbrev S528x1024 : Shape := ⟨2, ![528, 1024]⟩
abbrev S_ : Shape := ⟨0, ![]⟩
abbrev S528 : Shape := ⟨1, ![528]⟩
abbrev S528x1 : Shape := ⟨2, ![528, 1]⟩
abbrev S1x1024 : Shape := ⟨2, ![1, 1024]⟩
abbrev S1024x2560 : Shape := ⟨2, ![1024, 2560]⟩
abbrev S528x2560 : Shape := ⟨2, ![528, 2560]⟩
abbrev S2560 : Shape := ⟨1, ![2560]⟩

abbrev nBuf : Space → Nat
  | .hbm => 43
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1x1024x2560, .f32⟩
  | .hbm, ⟨5, _⟩ => ⟨S1x2560, .f32⟩
  | .hbm, ⟨6, _⟩ => ⟨S512x1024, .f32⟩
  | .hbm, ⟨7, _⟩ => ⟨S528x1024, .f32⟩
  | .hbm, ⟨8, _⟩ => ⟨S_, .f32⟩
  | .hbm, ⟨9, _⟩ => ⟨S528, .f32⟩
  | .hbm, ⟨10, _⟩ => ⟨S528x1, .f32⟩
  | .hbm, ⟨11, _⟩ => ⟨S_, .f32⟩
  | .hbm, ⟨12, _⟩ => ⟨S528x1, .f32⟩
  | .hbm, ⟨13, _⟩ => ⟨S528x1, .f32⟩
  | .hbm, ⟨14, _⟩ => ⟨S528x1024, .f32⟩
  | .hbm, ⟨15, _⟩ => ⟨S528x1024, .f32⟩
  | .hbm, ⟨16, _⟩ => ⟨S528x1024, .f32⟩
  | .hbm, ⟨17, _⟩ => ⟨S_, .f32⟩
  | .hbm, ⟨18, _⟩ => ⟨S528, .f32⟩
  | .hbm, ⟨19, _⟩ => ⟨S528x1, .f32⟩
  | .hbm, ⟨20, _⟩ => ⟨S_, .f32⟩
  | .hbm, ⟨21, _⟩ => ⟨S528x1, .f32⟩
  | .hbm, ⟨22, _⟩ => ⟨S528x1, .f32⟩
  | .hbm, ⟨23, _⟩ => ⟨S528x1024, .f32⟩
  | .hbm, ⟨24, _⟩ => ⟨S528x1024, .f32⟩
  | .hbm, ⟨25, _⟩ => ⟨S_, .f32⟩
  | .hbm, ⟨26, _⟩ => ⟨S528x1, .f32⟩
  | .hbm, ⟨27, _⟩ => ⟨S528x1, .f32⟩
  | .hbm, ⟨28, _⟩ => ⟨S528x1, .f32⟩
  | .hbm, ⟨29, _⟩ => ⟨S528x1024, .f32⟩
  | .hbm, ⟨30, _⟩ => ⟨S528x1024, .f32⟩
  | .hbm, ⟨31, _⟩ => ⟨S1x1024, .f32⟩
  | .hbm, ⟨32, _⟩ => ⟨S528x1024, .f32⟩
  | .hbm, ⟨33, _⟩ => ⟨S528x1024, .f32⟩
  | .hbm, ⟨34, _⟩ => ⟨S1x1024, .f32⟩
  | .hbm, ⟨35, _⟩ => ⟨S528x1024, .f32⟩
  | .hbm, ⟨36, _⟩ => ⟨S528x1024, .f32⟩
  | .hbm, ⟨37, _⟩ => ⟨S1024x2560, .f32⟩
  | .hbm, ⟨38, _⟩ => ⟨S528x2560, .f32⟩
  | .hbm, ⟨39, _⟩ => ⟨S2560, .f32⟩
  | .hbm, ⟨40, _⟩ => ⟨S1x2560, .f32⟩
  | .hbm, ⟨41, _⟩ => ⟨S528x2560, .f32⟩
  | .hbm, ⟨42, _⟩ => ⟨S528x2560, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.HgrnVec.lean ====
/- What one trip of the gated recurrence's loop computes, as functions of the four vectors it loads (queries, forget
   logits, values and the carried state): the chunk's cumulative log decays, the scores within a chunk, the states
   between the chunks, the rows it stores and the state it leaves. Theorem `trip_pieces` says the pieces a trip writes
   hold these functions. -/
module

public import proofs.«01_k».proof.Proof.Gen.KernelIdeal.Loops

@[expose] public section

set_option maxRecDepth 16384

noncomputable section

namespace Cert.KernelIdeal.Hgrn

open Cert.KernelIdeal Cert.KernelIdeal.Gen Idealize.ShloMosaic Idealize.ShloMosaic.TcCoe

variable {F : FTy → Type} [FloatOps F]

theorem slices16 : ∀ g : Fin 32, S32x16x128.Slices ![g.val, 0, 0] S1x16x128 := by decide
theorem slicesRow : ∀ s : Fin 16, S32x16x128.Slices ![0, s.val, 0] S32x1x128 := by decide
theorem slicesLow : ∀ s : Fin 8, S6144x128.Slices ![512 * s.val, 0] S512x128 := by decide
theorem slicesHigh : ∀ s : Fin 8, S6144x128.Slices ![4096 + 256 * s.val, 0] S256x128 := by decide
theorem slices1 : ∀ g : Fin 32, S32x1x128.Slices ![g.val, 0, 0] S1x1x128 := by decide

/-- Chunk `g` of a vector of 32 chunks of 16 rows. -/
def rowsV {φ : FTy} (x : FVec F S32x16x128 φ) (g : Fin 32) : FVec F S16x128 φ :=
  shapeCast S16x128 (extractStridedSlice S1x16x128 ![g.val, 0, 0] x (slices16 g)) shapeCasts_S1x16x128_S16x128

/-- The decay of chunk `g`, the same for every row of the state. -/
def decayV (dec : FVec F S32x1x128 .f32) (g : Fin 32) : FVec F S128x128 .f32 :=
  broadcastTo S128x128 (shapeCast S1x128 (extractStridedSlice S1x1x128 ![g.val, 0, 0] dec (slices1 g)) shapeCasts_S1x1x128_S1x128) broadcasts_S1x128_S128x128

/-- What chunk `g` adds to the state: its values against its keys. -/
def addV (kt vb : FVec F S32x16x128 .bf16) (g : Fin 32) : FVec F S128x128 .f32 :=
  matmul dot_S16x128_S16x128_S128x128_0_0_1_1_n_n none (rowsV vb g) (rowsV kt g) (constant S128x128 .f32 0x00000000#32)

/-- A number below 32. -/
def chunk (n : ℕ) : Fin 32 := ⟨n % 32, Nat.mod_lt _ (by decide)⟩

/-- The state before chunk `n` of the trip. -/
def stV (dec : FVec F S32x1x128 .f32) (kt vb : FVec F S32x16x128 .bf16) (st : Vec F S1x128x128 .f32) : ℕ → FVec F S128x128 .f32
  | 0 => shapeCast S128x128 st shapeCasts_S1x128x128_S128x128
  | n + 1 => addf (mulf (stV dec kt vb st n) (decayV dec (chunk n))) (addV kt vb (chunk n))

/-- The rows of chunk `n` before normalisation: the part within the chunk and the part through the state. -/
def outV (o : FVec F S32x16x128 .f32) (qs : FVec F S32x16x128 .bf16) (dec : FVec F S32x1x128 .f32) (kt vb : FVec F S32x16x128 .bf16)
    (st : Vec F S1x128x128 .f32) (n : ℕ) : FVec F S16x128 .f32 :=
  addf (rowsV o (chunk n)) (matmul dot_S16x128_S128x128_S16x128_1_1_0_0_n_n none (rowsV qs (chunk n))
    (truncf .bf16 (stV dec kt vb st n) bitsLt_bf16_f32) (constant S16x128 .f32 0x00000000#32))

/-- The log decays of the trip's rows. -/
def logV (v0 : Vec F S1x128 .f32) (xf : Vec F S1x512x128 .f32) : FVec F S32x16x128 .f32 := k0_pay12 (k0_pay1 v0) xf
/-- The keys of the trip's rows. -/
def keyV (v0 : Vec F S1x128 .f32) (xf : Vec F S1x512x128 .f32) : FVec F S32x16x128 .f32 := k0_pay15 (k0_pay13 xf) (k0_pay14 (k0_pay1 v0))

/-- A row number below 16. -/
def row16 (n : ℕ) : Fin 16 := ⟨n % 16, Nat.mod_lt _ (by decide)⟩
/-- A row number below 8. -/
def row8 (n : ℕ) : Fin 8 := ⟨n % 8, Nat.mod_lt _ (by decide)⟩

/-- Row `s` of every chunk. -/
def nearV {φ : FTy} (x : FVec F S32x16x128 φ) (s : Fin 16) : FVec F S32x1x128 φ :=
  shapeCast S32x1x128 (extractStridedSlice S32x1x128 ![0, s.val, 0] x (slicesRow s)) shapeCasts_S32x1x128_S32x1x128

/-- The mask of the rows from `s` on. -/
def fromV (v3 : IVec S32x16x128 32) (s : Fin 16) : IVec S32x16x128 1 :=
  cmpi .sge v3 (broadcast S32x16x128 (BitVec.ofNat 32 s.val))

/-- The same mask over the last eight rows of each chunk. -/
def fromHighV (v3 : IVec S32x16x128 32) (s : Fin 16) : IVec S32x8x128 1 :=
  cmpi .sge (extractStridedSlice S32x8x128 ![0, 8, 0] v3 slices_S32x16x128_o0_8_0_S32x8x128) (broadcast S32x8x128 (BitVec.ofNat 32 s.val))

/-- The log decays of the first `n` rows of a chunk, accumulated over the rows at or below each row. -/
def cumN (v3 : IVec S32x16x128 32) (lf : FVec F S32x16x128 .f32) : ℕ → FVec F S32x16x128 .f32
  | 0 => broadcast S32x16x128 (Scalar.ofBits .f32 0x00000000#32)
  | n + 1 => addf (cumN v3 lf n) (select (fromV v3 (row16 n))
      (broadcastTo S32x16x128 (nearV lf (row16 n)) broadcasts_S32x1x128_S32x16x128)
      (broadcast S32x16x128 (Scalar.ofBits .f32 0x00000000#32)))

/-- The products of the queries with key `s`, for all sixteen rows. -/
def prodLow (v3 : IVec S32x16x128 32) (q kk bc : FVec F S32x16x128 .f32) (s : Fin 16) : FVec F S512x128 .f32 :=
  shapeCast S512x128 (mulf (mulf q (select (fromV v3 s)
      (exp (subf bc (broadcastTo S32x16x128 (nearV bc s) broadcasts_S32x1x128_S32x16x128)))
      (broadcast S32x16x128 (Scalar.ofBits .f32 0x00000000#32))))
    (broadcastTo S32x16x128 (nearV kk s) broadcasts_S32x1x128_S32x16x128)) shapeCasts_S32x16x128_S512x128

/-- The products of the queries with key `s`, for the last eight rows. -/
def prodHigh (v3 : IVec S32x16x128 32) (q kk bc : FVec F S32x16x128 .f32) (s : Fin 16) : FVec F S256x128 .f32 :=
  shapeCast S256x128 (mulf (mulf (extractStridedSlice S32x8x128 ![0, 8, 0] q slices_S32x16x128_o0_8_0_S32x8x128) (select (fromHighV v3 s)
      (exp (subf (extractStridedSlice S32x8x128 ![0, 8, 0] bc slices_S32x16x128_o0_8_0_S32x8x128)
        (broadcastTo S32x8x128 (nearV bc s) broadcasts_S32x1x128_S32x8x128)))
      (broadcast S32x8x128 (Scalar.ofBits .f32 0x00000000#32))))
    (broadcastTo S32x8x128 (nearV kk s) broadcasts_S32x1x128_S32x8x128)) shapeCasts_S32x8x128_S256x128

/-- The scores within the chunks: the products summed over the key width, one block of rows per key. -/
def attV (v3 : IVec S32x16x128 32) (q kk bc : FVec F S32x16x128 .f32) : FVec F S6144x128 .f32 :=
  matmul dot_S6144x128_S128x128_S6144x128_1_0_0_1_n_n none
    (truncf .bf16 (concatenate S6144x128 0 [⟨S512x128, prodLow v3 q kk bc 0⟩, ⟨S512x128, prodLow v3 q kk bc 1⟩, ⟨S512x128, prodLow v3 q kk bc 2⟩, ⟨S512x128, prodLow v3 q kk bc 3⟩, ⟨S512x128, prodLow v3 q kk bc 4⟩, ⟨S512x128, prodLow v3 q kk bc 5⟩, ⟨S512x128, prodLow v3 q kk bc 6⟩, ⟨S512x128, prodLow v3 q kk bc 7⟩, ⟨S256x128, prodHigh v3 q kk bc 8⟩, ⟨S256x128, prodHigh v3 q kk bc 9⟩, ⟨S256x128, prodHigh v3 q kk bc 10⟩, ⟨S256x128, prodHigh v3 q kk bc 11⟩, ⟨S256x128, prodHigh v3 q kk bc 12⟩, ⟨S256x128, prodHigh v3 q kk bc 13⟩, ⟨S256x128, prodHigh v3 q kk bc 14⟩, ⟨S256x128, prodHigh v3 q kk bc 15⟩]
      concatenates_S512x128_S512x128_S512x128_S512x128_S512x128_S512x128_S512x128_S512x128_S256x128_S256x128_S256x128_S256x128_S256x128_S256x128_S256x128_S256x128_S6144x128_d0) bitsLt_bf16_f32)
    k0_pay2 (constant S6144x128 .f32 0x00000000#32)

/-- The scores against the values, over the first `n` of the first eight keys. -/
def inLow (v : FVec F S32x16x128 .f32) (att : FVec F S6144x128 .f32) : ℕ → FVec F S32x16x128 .f32
  | 0 => broadcast S32x16x128 (Scalar.ofBits .f32 0x00000000#32)
  | n + 1 => addf (inLow v att n) (mulf
      (shapeCast S32x16x128 (extractStridedSlice S512x128 ![512 * (row8 n).val, 0] att (slicesLow (row8 n))) shapeCasts_S512x128_S32x16x128)
      (broadcastTo S32x16x128 (nearV v (row16 n)) broadcasts_S32x1x128_S32x16x128))

/-- The scores against the values, over the first `n` of the last eight keys, for the last eight rows. -/
def inHigh (v : FVec F S32x16x128 .f32) (att : FVec F S6144x128 .f32) : ℕ → FVec F S32x8x128 .f32
  | 0 => broadcast S32x8x128 (Scalar.ofBits .f32 0x00000000#32)
  | n + 1 => addf (inHigh v att n) (mulf
      (shapeCast S32x8x128 (extractStridedSlice S256x128 ![4096 + 256 * (row8 n).val, 0] att (slicesHigh (row8 n))) shapeCasts_S256x128_S32x8x128)
      (broadcastTo S32x8x128 (nearV v (row16 (8 + n))) broadcasts_S32x1x128_S32x8x128))

/-- The part within the chunks. -/
def inV (v : FVec F S32x16x128 .f32) (att : FVec F S6144x128 .f32) : FVec F S32x16x128 .f32 :=
  addf (inLow v att 8) (concatenate S32x16x128 1 [⟨S32x8x128, broadcast S32x8x128 (Scalar.ofBits .f32 0x00000000#32)⟩,
    ⟨S32x8x128, inHigh v att 8⟩] concatenates_S32x8x128_S32x8x128_S32x16x128_d1)

/-- The trip's rows before normalisation, from queries, keys, values and log decays. -/
def rawV (v3 : IVec S32x16x128 32) (q kk v lf : FVec F S32x16x128 .f32) (st : Vec F S1x128x128 .f32) (n : ℕ) : FVec F S16x128 .f32 :=
  outV (inV v (attV v3 q kk (cumN v3 lf 16))) (k0_pay51 q (cumN v3 lf 16)) (k0_pay54 (cumN v3 lf 16)) (k0_pay52 kk (cumN v3 lf 16)) (k0_pay53 v) st n

/-- The rows a trip stores. -/
def storeV (v0 : Vec F S1x128 .f32) (v3 : IVec S32x16x128 32) (xq xf xv : Vec F S1x512x128 .f32) (st : Vec F S1x128x128 .f32) : FVec F S1x512x128 .f32 :=
  k0_pay7 (concatenate S512x128 0 [⟨S16x128, rawV v3 (k0_pay9 xq) (keyV v0 xf) (k0_pay11 xv) (logV v0 xf) st 0⟩, ⟨S16x128, rawV v3 (k0_pay9 xq) (keyV v0 xf) (k0_pay11 xv) (logV v0 xf) st 1⟩, ⟨S16x128, rawV v3 (k0_pay9 xq) (keyV v0 xf) (k0_pay11 xv) (logV v0 xf) st 2⟩, ⟨S16x128, rawV v3 (k0_pay9 xq) (keyV v0 xf) (k0_pay11 xv) (logV v0 xf) st 3⟩, ⟨S16x128, rawV v3 (k0_pay9 xq) (keyV v0 xf) (k0_pay11 xv) (logV v0 xf) st 4⟩, ⟨S16x128, rawV v3 (k0_pay9 xq) (keyV v0 xf) (k0_pay11 xv) (logV v0 xf) st 5⟩, ⟨S16x128, rawV v3 (k0_pay9 xq) (keyV v0 xf) (k0_pay11 xv) (logV v0 xf) st 6⟩, ⟨S16x128, rawV v3 (k0_pay9 xq) (keyV v0 xf) (k0_pay11 xv) (logV v0 xf) st 7⟩, ⟨S16x128, rawV v3 (k0_pay9 xq) (keyV v0 xf) (k0_pay11 xv) (logV v0 xf) st 8⟩, ⟨S16x128, rawV v3 (k0_pay9 xq) (keyV v0 xf) (k0_pay11 xv) (logV v0 xf) st 9⟩, ⟨S16x128, rawV v3 (k0_pay9 xq) (keyV v0 xf) (k0_pay11 xv) (logV v0 xf) st 10⟩, ⟨S16x128, rawV v3 (k0_pay9 xq) (keyV v0 xf) (k0_pay11 xv) (logV v0 xf) st 11⟩, ⟨S16x128, rawV v3 (k0_pay9 xq) (keyV v0 xf) (k0_pay11 xv) (logV v0 xf) st 12⟩, ⟨S16x128, rawV v3 (k0_pay9 xq) (keyV v0 xf) (k0_pay11 xv) (logV v0 xf) st 13⟩, ⟨S16x128, rawV v3 (k0_pay9 xq) (keyV v0 xf) (k0_pay11 xv) (logV v0 xf) st 14⟩, ⟨S16x128, rawV v3 (k0_pay9 xq) (keyV v0 xf) (k0_pay11 xv) (logV v0 xf) st 15⟩, ⟨S16x128, rawV v3 (k0_pay9 xq) (keyV v0 xf) (k0_pay11 xv) (logV v0 xf) st 16⟩, ⟨S16x128, rawV v3 (k0_pay9 xq) (keyV v0 xf) (k0_pay11 xv) (logV v0 xf) st 17⟩, ⟨S16x128, rawV v3 (k0_pay9 xq) (keyV v0 xf) (k0_pay11 xv) (logV v0 xf) st 18⟩, ⟨S16x128, rawV v3 (k0_pay9 xq) (keyV v0 xf) (k0_pay11 xv) (logV v0 xf) st 19⟩, ⟨S16x128, rawV v3 (k0_pay9 xq) (keyV v0 xf) (k0_pay11 xv) (logV v0 xf) st 20⟩, ⟨S16x128, rawV v3 (k0_pay9 xq) (keyV v0 xf) (k0_pay11 xv) (logV v0 xf) st 21⟩, ⟨S16x128, rawV v3 (k0_pay9 xq) (keyV v0 xf) (k0_pay11 xv) (logV v0 xf) st 22⟩, ⟨S16x128, rawV v3 (k0_pay9 xq) (keyV v0 xf) (k0_pay11 xv) (logV v0 xf) st 23⟩, ⟨S16x128, rawV v3 (k0_pay9 xq) (keyV v0 xf) (k0_pay11 xv) (logV v0 xf) st 24⟩, ⟨S16x128, rawV v3 (k0_pay9 xq) (keyV v0 xf) (k0_pay11 xv) (logV v0 xf) st 25⟩, ⟨S16x128, rawV v3 (k0_pay9 xq) (keyV v0 xf) (k0_pay11 xv) (logV v0 xf) st 26⟩, ⟨S16x128, rawV v3 (k0_pay9 xq) (keyV v0 xf) (k0_pay11 xv) (logV v0 xf) st 27⟩, ⟨S16x128, rawV v3 (k0_pay9 xq) (keyV v0 xf) (k0_pay11 xv) (logV v0 xf) st 28⟩, ⟨S16x128, rawV v3 (k0_pay9 xq) (keyV v0 xf) (k0_pay11 xv) (logV v0 xf) st 29⟩, ⟨S16x128, rawV v3 (k0_pay9 xq) (keyV v0 xf) (k0_pay11 xv) (logV v0 xf) st 30⟩, ⟨S16x128, rawV v3 (k0_pay9 xq) (keyV v0 xf) (k0_pay11 xv) (logV v0 xf) st 31⟩]
    concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S512x128_d0)

/-- The state a trip leaves. -/
def nextV (v0 : Vec F S1x128 .f32) (v3 : IVec S32x16x128 32) (xf xv : Vec F S1x512x128 .f32) (st : Vec F S1x128x128 .f32) : FVec F S1x128x128 .f32 :=
  shapeCast S1x128x128 (stV (k0_pay54 (cumN v3 (logV v0 xf) 16)) (k0_pay52 (keyV v0 xf) (cumN v3 (logV v0 xf) 16)) (k0_pay53 (k0_pay11 xv)) st 32)
    shapeCasts_S128x128_S1x128x128

/-! ## The pieces a trip writes -/

section Words

variable (arg2 : Memref sig .tc .vmem S1x2048x128 .f32) (arg3 : Memref sig .tc .vmem S1x2048x128 .f32) (arg4 : Memref sig .tc .vmem S1x2048x128 .f32) (arg9 : Memref sig .tc .vmem S1x128x128 .f32) (v0 : Vec F S1x128 .f32) (v3 : IVec S32x16x128 32) (X_arg2 : BufTy.Contents (Elt F) arg2.view.ty) (X_arg3 : BufTy.Contents (Elt F) arg3.view.ty) (X_arg4 : BufTy.Contents (Elt F) arg4.view.ty) (k : Fin k0_t1_loop.trips) (f_arg9 : BufTy.Contents (Elt F) arg9.view.ty)

/-- Trip `k`'s 512 rows of an array. -/
abbrev readX (a : Memref sig .tc .vmem S1x2048x128 .f32) (X : BufTy.Contents (Elt F) a.view.ty) (k : Fin k0_t1_loop.trips) : Vec F S1x512x128 .f32 :=
  View.readAt (Elt F) a.view (Rect.unit (s := S1x2048x128) (k0_off1 k) S1x512x128.size (k0_off1_inb k)).toLoadRect X
/-- The carried state. -/
abbrev readS (a : Memref sig .tc .vmem S1x128x128 .f32) (X : BufTy.Contents (Elt F) a.view.ty) : Vec F S1x128x128 .f32 :=
  View.readAt (Elt F) a.view (Rect.unit (s := S1x128x128) ![0, 0, 0] S1x128x128.size inb_S1x128x128_S1x128x128_0_0_0).toLoadRect X
/-- The cumulative log decays of trip `k`. -/
abbrev cumA : FVec F S32x16x128 .f32 := cumN v3 (logV v0 (readX arg3 X_arg3 k)) 16

theorem word_r_2 :
    trip_k0_t1.sl.r_2 arg3 v0 X_arg3 k = (logV v0 (readX arg3 X_arg3 k)) := by
  unfold trip_k0_t1.sl.r_2
  rfl

theorem word_r_5 :
    trip_k0_t1.sl.r_5 arg3 v0 X_arg3 k = (keyV v0 (readX arg3 X_arg3 k)) := by
  unfold trip_k0_t1.sl.r_5 trip_k0_t1.sl.r_4 trip_k0_t1.sl.r_3
  rfl

theorem word_r_10 :
    trip_k0_t1.sl.r_10 arg3 v0 v3 X_arg3 k = (cumA arg3 v0 v3 X_arg3 k) := by
  unfold trip_k0_t1.sl.r_10 trip_k0_t1.sl.r_9 trip_k0_t1.sl.r_8 trip_k0_t1.sl.r_7 trip_k0_t1.sl.r_6
  rw [word_r_2]
  rfl

theorem word_r_11 :
    trip_k0_t1.sl.r_11 arg2 arg3 v0 v3 X_arg2 X_arg3 k = prodLow v3 (k0_pay9 (readX arg2 X_arg2 k)) (keyV v0 (readX arg3 X_arg3 k)) (cumA arg3 v0 v3 X_arg3 k) 0 := by
  rw [← word_r_10, ← word_r_5]
  rfl

theorem word_r_12 :
    trip_k0_t1.sl.r_12 arg2 arg3 v0 v3 X_arg2 X_arg3 k = prodLow v3 (k0_pay9 (readX arg2 X_arg2 k)) (keyV v0 (readX arg3 X_arg3 k)) (cumA arg3 v0 v3 X_arg3 k) 1 := by
  unfold trip_k0_t1.sl.r_12
  rw [word_r_5, word_r_10]
  rfl

theorem word_r_13 :
    trip_k0_t1.sl.r_13 arg2 arg3 v0 v3 X_arg2 X_arg3 k = prodLow v3 (k0_pay9 (readX arg2 X_arg2 k)) (keyV v0 (readX arg3 X_arg3 k)) (cumA arg3 v0 v3 X_arg3 k) 2 := by
  unfold trip_k0_t1.sl.r_13
  rw [word_r_5, word_r_10]
  rfl

theorem word_r_14 :
    trip_k0_t1.sl.r_14 arg2 arg3 v0 v3 X_arg2 X_arg3 k = prodLow v3 (k0_pay9 (readX arg2 X_arg2 k)) (keyV v0 (readX arg3 X_arg3 k)) (cumA arg3 v0 v3 X_arg3 k) 3 := by
  unfold trip_k0_t1.sl.r_14
  rw [word_r_5, word_r_10]
  rfl

theorem word_r_16 :
    trip_k0_t1.sl.r_16 arg2 arg3 v0 v3 X_arg2 X_arg3 k = prodLow v3 (k0_pay9 (readX arg2 X_arg2 k)) (keyV v0 (readX arg3 X_arg3 k)) (cumA arg3 v0 v3 X_arg3 k) 4 := by
  unfold trip_k0_t1.sl.r_16 trip_k0_t1.sl.r_15
  rw [word_r_5, word_r_10]
  rfl

theorem word_r_17 :
    trip_k0_t1.sl.r_17 arg2 arg3 v0 v3 X_arg2 X_arg3 k = prodLow v3 (k0_pay9 (readX arg2 X_arg2 k)) (keyV v0 (readX arg3 X_arg3 k)) (cumA arg3 v0 v3 X_arg3 k) 5 := by
  unfold trip_k0_t1.sl.r_17
  rw [word_r_5, word_r_10]
  rfl

theorem word_r_18 :
    trip_k0_t1.sl.r_18 arg2 arg3 v0 v3 X_arg2 X_arg3 k = prodLow v3 (k0_pay9 (readX arg2 X_arg2 k)) (keyV v0 (readX arg3 X_arg3 k)) (cumA arg3 v0 v3 X_arg3 k) 6 := by
  unfold trip_k0_t1.sl.r_18
  rw [word_r_5, word_r_10]
  rfl

theorem word_r_19 :
    trip_k0_t1.sl.r_19 arg2 arg3 v0 v3 X_arg2 X_arg3 k = prodLow v3 (k0_pay9 (readX arg2 X_arg2 k)) (keyV v0 (readX arg3 X_arg3 k)) (cumA arg3 v0 v3 X_arg3 k) 7 := by
  unfold trip_k0_t1.sl.r_19
  rw [word_r_5, word_r_10]
  rfl

theorem word_r_20 :
    trip_k0_t1.sl.r_20 arg2 arg3 v0 v3 X_arg2 X_arg3 k = prodHigh v3 (k0_pay9 (readX arg2 X_arg2 k)) (keyV v0 (readX arg3 X_arg3 k)) (cumA arg3 v0 v3 X_arg3 k) 8 := by
  unfold trip_k0_t1.sl.r_20
  rw [word_r_5, word_r_10]
  rfl

theorem word_r_21 :
    trip_k0_t1.sl.r_21 arg2 arg3 v0 v3 X_arg2 X_arg3 k = prodHigh v3 (k0_pay9 (readX arg2 X_arg2 k)) (keyV v0 (readX arg3 X_arg3 k)) (cumA arg3 v0 v3 X_arg3 k) 9 := by
  unfold trip_k0_t1.sl.r_21
  rw [word_r_5, word_r_10]
  rfl

theorem word_r_22 :
    trip_k0_t1.sl.r_22 arg2 arg3 v0 v3 X_arg2 X_arg3 k = prodHigh v3 (k0_pay9 (readX arg2 X_arg2 k)) (keyV v0 (readX arg3 X_arg3 k)) (cumA arg3 v0 v3 X_arg3 k) 10 := by
  unfold trip_k0_t1.sl.r_22
  rw [word_r_5, word_r_10]
  rfl

theorem word_r_23 :
    trip_k0_t1.sl.r_23 arg2 arg3 v0 v3 X_arg2 X_arg3 k = prodHigh v3 (k0_pay9 (readX arg2 X_arg2 k)) (keyV v0 (readX arg3 X_arg3 k)) (cumA arg3 v0 v3 X_arg3 k) 11 := by
  unfold trip_k0_t1.sl.r_23
  rw [word_r_5, word_r_10]
  rfl

theorem word_r_24 :
    trip_k0_t1.sl.r_24 arg2 arg3 v0 v3 X_arg2 X_arg3 k = prodHigh v3 (k0_pay9 (readX arg2 X_arg2 k)) (keyV v0 (readX arg3 X_arg3 k)) (cumA arg3 v0 v3 X_arg3 k) 12 := by
  unfold trip_k0_t1.sl.r_24
  rw [word_r_5, word_r_10]
  rfl

theorem word_r_25 :
    trip_k0_t1.sl.r_25 arg2 arg3 v0 v3 X_arg2 X_arg3 k = prodHigh v3 (k0_pay9 (readX arg2 X_arg2 k)) (keyV v0 (readX arg3 X_arg3 k)) (cumA arg3 v0 v3 X_arg3 k) 13 := by
  unfold trip_k0_t1.sl.r_25
  rw [word_r_5, word_r_10]
  rfl

theorem word_r_26 :
    trip_k0_t1.sl.r_26 arg2 arg3 v0 v3 X_arg2 X_arg3 k = (attV v3 (k0_pay9 (readX arg2 X_arg2 k)) (keyV v0 (readX arg3 X_arg3 k)) (cumA arg3 v0 v3 X_arg3 k)) := by
  unfold trip_k0_t1.sl.r_26
  rw [word_r_5, word_r_10, word_r_11, word_r_12, word_r_13, word_r_14, word_r_16, word_r_17, word_r_18, word_r_19, word_r_20, word_r_21, word_r_22, word_r_23, word_r_24, word_r_25]
  rfl

theorem word_r_33 :
    trip_k0_t1.sl.r_33 arg2 arg3 arg4 v0 v3 X_arg2 X_arg3 X_arg4 k = (inV (k0_pay11 (readX arg4 X_arg4 k)) (attV v3 (k0_pay9 (readX arg2 X_arg2 k)) (keyV v0 (readX arg3 X_arg3 k)) (cumA arg3 v0 v3 X_arg3 k))) := by
  rw [← word_r_26]
  rfl

theorem word_r_34 :
    trip_k0_t1.sl.r_34 arg2 arg3 v0 v3 X_arg2 X_arg3 k = (k0_pay51 (k0_pay9 (readX arg2 X_arg2 k)) (cumA arg3 v0 v3 X_arg3 k)) := by
  unfold trip_k0_t1.sl.r_34
  rw [word_r_10]
  rfl

theorem word_r_35 :
    trip_k0_t1.sl.r_35 arg3 v0 v3 X_arg3 k = (k0_pay52 (keyV v0 (readX arg3 X_arg3 k)) (cumA arg3 v0 v3 X_arg3 k)) := by
  unfold trip_k0_t1.sl.r_35
  rw [word_r_5, word_r_10]

theorem word_r_36 :
    trip_k0_t1.sl.r_36 arg4 X_arg4 k = (k0_pay53 (k0_pay11 (readX arg4 X_arg4 k))) := by
  unfold trip_k0_t1.sl.r_36
  rfl

theorem word_r_37 :
    trip_k0_t1.sl.r_37 arg3 v0 v3 X_arg3 k = (k0_pay54 (cumA arg3 v0 v3 X_arg3 k)) := by
  unfold trip_k0_t1.sl.r_37
  rw [word_r_10]

theorem word_r_40 :
    trip_k0_t1.sl.r_40 arg3 arg4 v0 v3 X_arg3 X_arg4 k = addV (k0_pay52 (keyV v0 (readX arg3 X_arg3 k)) (cumA arg3 v0 v3 X_arg3 k)) (k0_pay53 (k0_pay11 (readX arg4 X_arg4 k))) 0 := by
  unfold trip_k0_t1.sl.r_40 trip_k0_t1.sl.r_39 trip_k0_t1.sl.r_38
  rw [word_r_5, word_r_10]
  rfl

theorem word_r_41 :
    trip_k0_t1.sl.r_41 arg3 arg4 v0 v3 X_arg3 X_arg4 k = addV (k0_pay52 (keyV v0 (readX arg3 X_arg3 k)) (cumA arg3 v0 v3 X_arg3 k)) (k0_pay53 (k0_pay11 (readX arg4 X_arg4 k))) 1 := by
  unfold trip_k0_t1.sl.r_41
  rw [word_r_35, word_r_36]
  rfl

theorem word_r_42 :
    trip_k0_t1.sl.r_42 arg3 arg4 v0 v3 X_arg3 X_arg4 k = addV (k0_pay52 (keyV v0 (readX arg3 X_arg3 k)) (cumA arg3 v0 v3 X_arg3 k)) (k0_pay53 (k0_pay11 (readX arg4 X_arg4 k))) 2 := by
  unfold trip_k0_t1.sl.r_42
  rw [word_r_35, word_r_36]
  rfl

theorem word_r_43 :
    trip_k0_t1.sl.r_43 arg3 arg4 v0 v3 X_arg3 X_arg4 k = addV (k0_pay52 (keyV v0 (readX arg3 X_arg3 k)) (cumA arg3 v0 v3 X_arg3 k)) (k0_pay53 (k0_pay11 (readX arg4 X_arg4 k))) 3 := by
  unfold trip_k0_t1.sl.r_43
  rw [word_r_35, word_r_36]
  rfl

theorem word_r_44 :
    trip_k0_t1.sl.r_44 arg3 arg4 v0 v3 X_arg3 X_arg4 k = addV (k0_pay52 (keyV v0 (readX arg3 X_arg3 k)) (cumA arg3 v0 v3 X_arg3 k)) (k0_pay53 (k0_pay11 (readX arg4 X_arg4 k))) 4 := by
  unfold trip_k0_t1.sl.r_44
  rw [word_r_35, word_r_36]
  rfl

theorem word_r_45 :
    trip_k0_t1.sl.r_45 arg3 arg4 v0 v3 X_arg3 X_arg4 k = addV (k0_pay52 (keyV v0 (readX arg3 X_arg3 k)) (cumA arg3 v0 v3 X_arg3 k)) (k0_pay53 (k0_pay11 (readX arg4 X_arg4 k))) 5 := by
  unfold trip_k0_t1.sl.r_45
  rw [word_r_35, word_r_36]
  rfl

theorem word_r_46 :
    trip_k0_t1.sl.r_46 arg3 arg4 v0 v3 X_arg3 X_arg4 k = addV (k0_pay52 (keyV v0 (readX arg3 X_arg3 k)) (cumA arg3 v0 v3 X_arg3 k)) (k0_pay53 (k0_pay11 (readX arg4 X_arg4 k))) 6 := by
  unfold trip_k0_t1.sl.r_46
  rw [word_r_35, word_r_36]
  rfl

theorem word_r_47 :
    trip_k0_t1.sl.r_47 arg3 arg4 v0 v3 X_arg3 X_arg4 k = addV (k0_pay52 (keyV v0 (readX arg3 X_arg3 k)) (cumA arg3 v0 v3 X_arg3 k)) (k0_pay53 (k0_pay11 (readX arg4 X_arg4 k))) 7 := by
  unfold trip_k0_t1.sl.r_47
  rw [word_r_35, word_r_36]
  rfl

theorem word_r_48 :
    trip_k0_t1.sl.r_48 arg3 arg4 v0 v3 X_arg3 X_arg4 k = addV (k0_pay52 (keyV v0 (readX arg3 X_arg3 k)) (cumA arg3 v0 v3 X_arg3 k)) (k0_pay53 (k0_pay11 (readX arg4 X_arg4 k))) 8 := by
  unfold trip_k0_t1.sl.r_48
  rw [word_r_35, word_r_36]
  rfl

theorem word_r_49 :
    trip_k0_t1.sl.r_49 arg3 arg4 v0 v3 X_arg3 X_arg4 k = addV (k0_pay52 (keyV v0 (readX arg3 X_arg3 k)) (cumA arg3 v0 v3 X_arg3 k)) (k0_pay53 (k0_pay11 (readX arg4 X_arg4 k))) 9 := by
  unfold trip_k0_t1.sl.r_49
  rw [word_r_35, word_r_36]
  rfl

theorem word_r_52 :
    trip_k0_t1.sl.r_52 arg3 arg4 v0 v3 X_arg3 X_arg4 k = addV (k0_pay52 (keyV v0 (readX arg3 X_arg3 k)) (cumA arg3 v0 v3 X_arg3 k)) (k0_pay53 (k0_pay11 (readX arg4 X_arg4 k))) 10 := by
  unfold trip_k0_t1.sl.r_52 trip_k0_t1.sl.r_51 trip_k0_t1.sl.r_50
  rw [word_r_35, word_r_36]
  rfl

theorem word_r_53 :
    trip_k0_t1.sl.r_53 arg3 arg4 v0 v3 X_arg3 X_arg4 k = addV (k0_pay52 (keyV v0 (readX arg3 X_arg3 k)) (cumA arg3 v0 v3 X_arg3 k)) (k0_pay53 (k0_pay11 (readX arg4 X_arg4 k))) 11 := by
  unfold trip_k0_t1.sl.r_53
  rw [word_r_35, word_r_36]
  rfl

theorem word_r_54 :
    trip_k0_t1.sl.r_54 arg3 arg4 v0 v3 X_arg3 X_arg4 k = addV (k0_pay52 (keyV v0 (readX arg3 X_arg3 k)) (cumA arg3 v0 v3 X_arg3 k)) (k0_pay53 (k0_pay11 (readX arg4 X_arg4 k))) 12 := by
  unfold trip_k0_t1.sl.r_54
  rw [word_r_35, word_r_36]
  rfl

theorem word_r_55 :
    trip_k0_t1.sl.r_55 arg3 arg4 v0 v3 X_arg3 X_arg4 k = addV (k0_pay52 (keyV v0 (readX arg3 X_arg3 k)) (cumA arg3 v0 v3 X_arg3 k)) (k0_pay53 (k0_pay11 (readX arg4 X_arg4 k))) 13 := by
  unfold trip_k0_t1.sl.r_55
  rw [word_r_35, word_r_36]
  rfl

theorem word_r_56 :
    trip_k0_t1.sl.r_56 arg3 arg4 v0 v3 X_arg3 X_arg4 k = addV (k0_pay52 (keyV v0 (readX arg3 X_arg3 k)) (cumA arg3 v0 v3 X_arg3 k)) (k0_pay53 (k0_pay11 (readX arg4 X_arg4 k))) 14 := by
  unfold trip_k0_t1.sl.r_56
  rw [word_r_35, word_r_36]
  rfl

theorem word_r_57 :
    trip_k0_t1.sl.r_57 arg3 arg4 v0 v3 X_arg3 X_arg4 k = addV (k0_pay52 (keyV v0 (readX arg3 X_arg3 k)) (cumA arg3 v0 v3 X_arg3 k)) (k0_pay53 (k0_pay11 (readX arg4 X_arg4 k))) 15 := by
  unfold trip_k0_t1.sl.r_57
  rw [word_r_35, word_r_36]
  rfl

theorem word_r_58 :
    trip_k0_t1.sl.r_58 arg3 arg4 v0 v3 X_arg3 X_arg4 k = addV (k0_pay52 (keyV v0 (readX arg3 X_arg3 k)) (cumA arg3 v0 v3 X_arg3 k)) (k0_pay53 (k0_pay11 (readX arg4 X_arg4 k))) 16 := by
  unfold trip_k0_t1.sl.r_58
  rw [word_r_35, word_r_36]
  rfl

theorem word_r_59 :
    trip_k0_t1.sl.r_59 arg3 arg4 v0 v3 X_arg3 X_arg4 k = addV (k0_pay52 (keyV v0 (readX arg3 X_arg3 k)) (cumA arg3 v0 v3 X_arg3 k)) (k0_pay53 (k0_pay11 (readX arg4 X_arg4 k))) 17 := by
  unfold trip_k0_t1.sl.r_59
  rw [word_r_35, word_r_36]
  rfl

theorem word_r_60 :
    trip_k0_t1.sl.r_60 arg3 arg4 v0 v3 X_arg3 X_arg4 k = addV (k0_pay52 (keyV v0 (readX arg3 X_arg3 k)) (cumA arg3 v0 v3 X_arg3 k)) (k0_pay53 (k0_pay11 (readX arg4 X_arg4 k))) 18 := by
  unfold trip_k0_t1.sl.r_60
  rw [word_r_35, word_r_36]
  rfl

theorem word_r_61 :
    trip_k0_t1.sl.r_61 arg3 arg4 v0 v3 X_arg3 X_arg4 k = addV (k0_pay52 (keyV v0 (readX arg3 X_arg3 k)) (cumA arg3 v0 v3 X_arg3 k)) (k0_pay53 (k0_pay11 (readX arg4 X_arg4 k))) 19 := by
  unfold trip_k0_t1.sl.r_61
  rw [word_r_35, word_r_36]
  rfl

theorem word_r_64 :
    trip_k0_t1.sl.r_64 arg3 arg4 v0 v3 X_arg3 X_arg4 k = addV (k0_pay52 (keyV v0 (readX arg3 X_arg3 k)) (cumA arg3 v0 v3 X_arg3 k)) (k0_pay53 (k0_pay11 (readX arg4 X_arg4 k))) 20 := by
  unfold trip_k0_t1.sl.r_64 trip_k0_t1.sl.r_63 trip_k0_t1.sl.r_62
  rw [word_r_35, word_r_36]
  rfl

theorem word_r_65 :
    trip_k0_t1.sl.r_65 arg3 arg4 v0 v3 X_arg3 X_arg4 k = addV (k0_pay52 (keyV v0 (readX arg3 X_arg3 k)) (cumA arg3 v0 v3 X_arg3 k)) (k0_pay53 (k0_pay11 (readX arg4 X_arg4 k))) 21 := by
  unfold trip_k0_t1.sl.r_65
  rw [word_r_35, word_r_36]
  rfl

theorem word_r_66 :
    trip_k0_t1.sl.r_66 arg3 arg4 v0 v3 X_arg3 X_arg4 k = addV (k0_pay52 (keyV v0 (readX arg3 X_arg3 k)) (cumA arg3 v0 v3 X_arg3 k)) (k0_pay53 (k0_pay11 (readX arg4 X_arg4 k))) 22 := by
  unfold trip_k0_t1.sl.r_66
  rw [word_r_35, word_r_36]
  rfl

theorem word_r_67 :
    trip_k0_t1.sl.r_67 arg3 arg4 v0 v3 X_arg3 X_arg4 k = addV (k0_pay52 (keyV v0 (readX arg3 X_arg3 k)) (cumA arg3 v0 v3 X_arg3 k)) (k0_pay53 (k0_pay11 (readX arg4 X_arg4 k))) 23 := by
  unfold trip_k0_t1.sl.r_67
  rw [word_r_35, word_r_36]
  rfl

theorem word_r_68 :
    trip_k0_t1.sl.r_68 arg3 arg4 v0 v3 X_arg3 X_arg4 k = addV (k0_pay52 (keyV v0 (readX arg3 X_arg3 k)) (cumA arg3 v0 v3 X_arg3 k)) (k0_pay53 (k0_pay11 (readX arg4 X_arg4 k))) 24 := by
  unfold trip_k0_t1.sl.r_68
  rw [word_r_35, word_r_36]
  rfl

theorem word_r_69 :
    trip_k0_t1.sl.r_69 arg3 arg4 v0 v3 X_arg3 X_arg4 k = addV (k0_pay52 (keyV v0 (readX arg3 X_arg3 k)) (cumA arg3 v0 v3 X_arg3 k)) (k0_pay53 (k0_pay11 (readX arg4 X_arg4 k))) 25 := by
  unfold trip_k0_t1.sl.r_69
  rw [word_r_35, word_r_36]
  rfl

theorem word_r_70 :
    trip_k0_t1.sl.r_70 arg3 arg4 v0 v3 X_arg3 X_arg4 k = addV (k0_pay52 (keyV v0 (readX arg3 X_arg3 k)) (cumA arg3 v0 v3 X_arg3 k)) (k0_pay53 (k0_pay11 (readX arg4 X_arg4 k))) 26 := by
  unfold trip_k0_t1.sl.r_70
  rw [word_r_35, word_r_36]
  rfl

theorem word_r_71 :
    trip_k0_t1.sl.r_71 arg3 arg4 v0 v3 X_arg3 X_arg4 k = addV (k0_pay52 (keyV v0 (readX arg3 X_arg3 k)) (cumA arg3 v0 v3 X_arg3 k)) (k0_pay53 (k0_pay11 (readX arg4 X_arg4 k))) 27 := by
  unfold trip_k0_t1.sl.r_71
  rw [word_r_35, word_r_36]
  rfl

theorem word_r_72 :
    trip_k0_t1.sl.r_72 arg3 arg4 v0 v3 X_arg3 X_arg4 k = addV (k0_pay52 (keyV v0 (readX arg3 X_arg3 k)) (cumA arg3 v0 v3 X_arg3 k)) (k0_pay53 (k0_pay11 (readX arg4 X_arg4 k))) 28 := by
  unfold trip_k0_t1.sl.r_72
  rw [word_r_35, word_r_36]
  rfl

theorem word_r_73 :
    trip_k0_t1.sl.r_73 arg3 arg4 v0 v3 X_arg3 X_arg4 k = addV (k0_pay52 (keyV v0 (readX arg3 X_arg3 k)) (cumA arg3 v0 v3 X_arg3 k)) (k0_pay53 (k0_pay11 (readX arg4 X_arg4 k))) 29 := by
  unfold trip_k0_t1.sl.r_73
  rw [word_r_35, word_r_36]
  rfl

theorem word_r_76 :
    trip_k0_t1.sl.r_76 arg3 arg4 v0 v3 X_arg3 X_arg4 k = addV (k0_pay52 (keyV v0 (readX arg3 X_arg3 k)) (cumA arg3 v0 v3 X_arg3 k)) (k0_pay53 (k0_pay11 (readX arg4 X_arg4 k))) 30 := by
  unfold trip_k0_t1.sl.r_76 trip_k0_t1.sl.r_75 trip_k0_t1.sl.r_74
  rw [word_r_35, word_r_36]
  rfl

theorem word_r_77 :
    trip_k0_t1.sl.r_77 arg3 arg4 v0 v3 X_arg3 X_arg4 k = addV (k0_pay52 (keyV v0 (readX arg3 X_arg3 k)) (cumA arg3 v0 v3 X_arg3 k)) (k0_pay53 (k0_pay11 (readX arg4 X_arg4 k))) 31 := by
  unfold trip_k0_t1.sl.r_77
  rw [word_r_35, word_r_36]
  rfl

theorem word_r_79 :
    trip_k0_t1.sl.r_79 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 1) bitsLt_bf16_f32 := by
  unfold trip_k0_t1.sl.r_79
  rw [word_r_37, word_r_40]
  rfl

theorem word_r_80 :
    trip_k0_t1.sl.r_80 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 2) bitsLt_bf16_f32 := by
  unfold trip_k0_t1.sl.r_80
  rw [word_r_37, word_r_40, word_r_41]
  rfl

theorem word_r_81 :
    trip_k0_t1.sl.r_81 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 3) bitsLt_bf16_f32 := by
  unfold trip_k0_t1.sl.r_81
  rw [word_r_37, word_r_40, word_r_41, word_r_42]
  rfl

theorem word_r_82 :
    trip_k0_t1.sl.r_82 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 4) bitsLt_bf16_f32 := by
  unfold trip_k0_t1.sl.r_82
  rw [word_r_37, word_r_40, word_r_41, word_r_42, word_r_43]
  rfl

theorem word_r_83 :
    trip_k0_t1.sl.r_83 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 5) bitsLt_bf16_f32 := by
  unfold trip_k0_t1.sl.r_83
  rw [word_r_37, word_r_40, word_r_41, word_r_42, word_r_43, word_r_44]
  rfl

theorem word_r_84 :
    trip_k0_t1.sl.r_84 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 6) bitsLt_bf16_f32 := by
  unfold trip_k0_t1.sl.r_84
  rw [word_r_37, word_r_40, word_r_41, word_r_42, word_r_43, word_r_44, word_r_45]
  rfl

theorem word_r_85 :
    trip_k0_t1.sl.r_85 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 7) bitsLt_bf16_f32 := by
  unfold trip_k0_t1.sl.r_85
  rw [word_r_37, word_r_40, word_r_41, word_r_42, word_r_43, word_r_44, word_r_45, word_r_46]
  rfl

theorem word_r_86 :
    trip_k0_t1.sl.r_86 arg3 arg4 arg9 v0 v3 X_arg3 X_arg4 k f_arg9 = mulf (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 7) (decayV (k0_pay54 (cumA arg3 v0 v3 X_arg3 k)) 7) := by
  unfold trip_k0_t1.sl.r_86
  rw [word_r_37, word_r_40, word_r_41, word_r_42, word_r_43, word_r_44, word_r_45, word_r_46]
  rfl

theorem word_r_87 :
    trip_k0_t1.sl.r_87 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 8) bitsLt_bf16_f32 := by
  unfold trip_k0_t1.sl.r_87
  rw [word_r_47, word_r_86]
  rfl

theorem word_r_88 :
    trip_k0_t1.sl.r_88 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 9) bitsLt_bf16_f32 := by
  unfold trip_k0_t1.sl.r_88
  rw [word_r_37, word_r_47, word_r_48, word_r_86]
  rfl

theorem word_r_89 :
    trip_k0_t1.sl.r_89 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 10) bitsLt_bf16_f32 := by
  unfold trip_k0_t1.sl.r_89
  rw [word_r_37, word_r_47, word_r_48, word_r_49, word_r_86]
  rfl

theorem word_r_90 :
    trip_k0_t1.sl.r_90 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 11) bitsLt_bf16_f32 := by
  unfold trip_k0_t1.sl.r_90
  rw [word_r_37, word_r_47, word_r_48, word_r_49, word_r_52, word_r_86]
  rfl

theorem word_r_91 :
    trip_k0_t1.sl.r_91 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 12) bitsLt_bf16_f32 := by
  unfold trip_k0_t1.sl.r_91
  rw [word_r_37, word_r_47, word_r_48, word_r_49, word_r_52, word_r_53, word_r_86]
  rfl

theorem word_r_92 :
    trip_k0_t1.sl.r_92 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 13) bitsLt_bf16_f32 := by
  unfold trip_k0_t1.sl.r_92
  rw [word_r_37, word_r_47, word_r_48, word_r_49, word_r_52, word_r_53, word_r_54, word_r_86]
  rfl

theorem word_r_93 :
    trip_k0_t1.sl.r_93 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 14) bitsLt_bf16_f32 := by
  unfold trip_k0_t1.sl.r_93
  rw [word_r_37, word_r_47, word_r_48, word_r_49, word_r_52, word_r_53, word_r_54, word_r_55, word_r_86]
  rfl

theorem word_r_94 :
    trip_k0_t1.sl.r_94 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 15) bitsLt_bf16_f32 := by
  unfold trip_k0_t1.sl.r_94
  rw [word_r_37, word_r_47, word_r_48, word_r_49, word_r_52, word_r_53, word_r_54, word_r_55, word_r_56, word_r_86]
  rfl

theorem word_r_95 :
    trip_k0_t1.sl.r_95 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 16) bitsLt_bf16_f32 := by
  unfold trip_k0_t1.sl.r_95
  rw [word_r_37, word_r_47, word_r_48, word_r_49, word_r_52, word_r_53, word_r_54, word_r_55, word_r_56, word_r_57, word_r_86]
  rfl

theorem word_r_96 :
    trip_k0_t1.sl.r_96 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 17) bitsLt_bf16_f32 := by
  unfold trip_k0_t1.sl.r_96
  rw [word_r_37, word_r_47, word_r_48, word_r_49, word_r_52, word_r_53, word_r_54, word_r_55, word_r_56, word_r_57, word_r_58, word_r_86]
  rfl

theorem word_r_97 :
    trip_k0_t1.sl.r_97 arg3 arg4 arg9 v0 v3 X_arg3 X_arg4 k f_arg9 = mulf (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 17) (decayV (k0_pay54 (cumA arg3 v0 v3 X_arg3 k)) 17) := by
  unfold trip_k0_t1.sl.r_97
  rw [word_r_37, word_r_47, word_r_48, word_r_49, word_r_52, word_r_53, word_r_54, word_r_55, word_r_56, word_r_57, word_r_58, word_r_86]
  rfl

theorem word_r_98 :
    trip_k0_t1.sl.r_98 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 18) bitsLt_bf16_f32 := by
  unfold trip_k0_t1.sl.r_98
  rw [word_r_59, word_r_97]
  rfl

theorem word_r_99 :
    trip_k0_t1.sl.r_99 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 19) bitsLt_bf16_f32 := by
  unfold trip_k0_t1.sl.r_99
  rw [word_r_37, word_r_59, word_r_60, word_r_97]
  rfl

theorem word_r_100 :
    trip_k0_t1.sl.r_100 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 20) bitsLt_bf16_f32 := by
  unfold trip_k0_t1.sl.r_100
  rw [word_r_37, word_r_59, word_r_60, word_r_61, word_r_97]
  rfl

theorem word_r_101 :
    trip_k0_t1.sl.r_101 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 21) bitsLt_bf16_f32 := by
  unfold trip_k0_t1.sl.r_101
  rw [word_r_37, word_r_59, word_r_60, word_r_61, word_r_64, word_r_97]
  rfl

theorem word_r_102 :
    trip_k0_t1.sl.r_102 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 22) bitsLt_bf16_f32 := by
  unfold trip_k0_t1.sl.r_102
  rw [word_r_37, word_r_59, word_r_60, word_r_61, word_r_64, word_r_65, word_r_97]
  rfl

theorem word_r_103 :
    trip_k0_t1.sl.r_103 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 23) bitsLt_bf16_f32 := by
  unfold trip_k0_t1.sl.r_103
  rw [word_r_37, word_r_59, word_r_60, word_r_61, word_r_64, word_r_65, word_r_66, word_r_97]
  rfl

theorem word_r_104 :
    trip_k0_t1.sl.r_104 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 24) bitsLt_bf16_f32 := by
  unfold trip_k0_t1.sl.r_104
  rw [word_r_37, word_r_59, word_r_60, word_r_61, word_r_64, word_r_65, word_r_66, word_r_67, word_r_97]
  rfl

theorem word_r_105 :
    trip_k0_t1.sl.r_105 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 25) bitsLt_bf16_f32 := by
  unfold trip_k0_t1.sl.r_105
  rw [word_r_37, word_r_59, word_r_60, word_r_61, word_r_64, word_r_65, word_r_66, word_r_67, word_r_68, word_r_97]
  rfl

theorem word_r_106 :
    trip_k0_t1.sl.r_106 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 26) bitsLt_bf16_f32 := by
  unfold trip_k0_t1.sl.r_106
  rw [word_r_37, word_r_59, word_r_60, word_r_61, word_r_64, word_r_65, word_r_66, word_r_67, word_r_68, word_r_69, word_r_97]
  rfl

theorem word_r_107 :
    trip_k0_t1.sl.r_107 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 27) bitsLt_bf16_f32 := by
  unfold trip_k0_t1.sl.r_107
  rw [word_r_37, word_r_59, word_r_60, word_r_61, word_r_64, word_r_65, word_r_66, word_r_67, word_r_68, word_r_69, word_r_70, word_r_97]
  rfl

theorem word_r_108 :
    trip_k0_t1.sl.r_108 arg3 arg4 arg9 v0 v3 X_arg3 X_arg4 k f_arg9 = mulf (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 27) (decayV (k0_pay54 (cumA arg3 v0 v3 X_arg3 k)) 27) := by
  unfold trip_k0_t1.sl.r_108
  rw [word_r_37, word_r_59, word_r_60, word_r_61, word_r_64, word_r_65, word_r_66, word_r_67, word_r_68, word_r_69, word_r_70, word_r_97]
  rfl

theorem word_r_109 :
    trip_k0_t1.sl.r_109 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 28) bitsLt_bf16_f32 := by
  unfold trip_k0_t1.sl.r_109
  rw [word_r_71, word_r_108]
  rfl

theorem word_r_110 :
    trip_k0_t1.sl.r_110 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 29) bitsLt_bf16_f32 := by
  unfold trip_k0_t1.sl.r_110
  rw [word_r_37, word_r_71, word_r_72, word_r_108]
  rfl

theorem word_r_111 :
    trip_k0_t1.sl.r_111 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 30) bitsLt_bf16_f32 := by
  unfold trip_k0_t1.sl.r_111
  rw [word_r_37, word_r_71, word_r_72, word_r_73, word_r_108]
  rfl

theorem word_r_112 :
    trip_k0_t1.sl.r_112 arg3 arg4 arg9 v0 v3 X_arg3 X_arg4 k f_arg9 = truncf .bf16 (stV (k0_pay54 (cumA arg3 v0 v3 X_arg3 k)) (k0_pay52 (keyV v0 (readX arg3 X_arg3 k)) (cumA arg3 v0 v3 X_arg3 k)) (k0_pay53 (k0_pay11 (readX arg4 X_arg4 k))) (readS arg9 f_arg9) 31) bitsLt_bf16_f32 := by
  unfold trip_k0_t1.sl.r_112
  rw [word_r_37, word_r_71, word_r_72, word_r_73, word_r_76, word_r_108]
  rfl

theorem word_r_113 :
    trip_k0_t1.sl.r_113 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 0 := by
  unfold trip_k0_t1.sl.r_113 trip_k0_t1.sl.r_78
  rw [word_r_33, word_r_34]
  rfl

theorem word_r_114 :
    trip_k0_t1.sl.r_114 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 1 := by
  unfold trip_k0_t1.sl.r_114
  rw [word_r_33, word_r_34, word_r_79]
  rfl

theorem word_r_115 :
    trip_k0_t1.sl.r_115 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 2 := by
  unfold trip_k0_t1.sl.r_115
  rw [word_r_33, word_r_34, word_r_80]
  rfl

theorem word_r_116 :
    trip_k0_t1.sl.r_116 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 3 := by
  unfold trip_k0_t1.sl.r_116
  rw [word_r_33, word_r_34, word_r_81]
  rfl

theorem word_r_117 :
    trip_k0_t1.sl.r_117 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 4 := by
  unfold trip_k0_t1.sl.r_117
  rw [word_r_33, word_r_34, word_r_82]
  rfl

theorem word_r_118 :
    trip_k0_t1.sl.r_118 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 5 := by
  unfold trip_k0_t1.sl.r_118
  rw [word_r_33, word_r_34, word_r_83]
  rfl

theorem word_r_119 :
    trip_k0_t1.sl.r_119 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 6 := by
  unfold trip_k0_t1.sl.r_119
  rw [word_r_33, word_r_34, word_r_84]
  rfl

theorem word_r_120 :
    trip_k0_t1.sl.r_120 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 7 := by
  unfold trip_k0_t1.sl.r_120
  rw [word_r_33, word_r_34, word_r_85]
  rfl

theorem word_r_121 :
    trip_k0_t1.sl.r_121 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 8 := by
  unfold trip_k0_t1.sl.r_121
  rw [word_r_33, word_r_34, word_r_87]
  rfl

theorem word_r_122 :
    trip_k0_t1.sl.r_122 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 9 := by
  unfold trip_k0_t1.sl.r_122
  rw [word_r_33, word_r_34, word_r_88]
  rfl

theorem word_r_123 :
    trip_k0_t1.sl.r_123 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 10 := by
  unfold trip_k0_t1.sl.r_123
  rw [word_r_33, word_r_34, word_r_89]
  rfl

theorem word_r_124 :
    trip_k0_t1.sl.r_124 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 11 := by
  unfold trip_k0_t1.sl.r_124
  rw [word_r_33, word_r_34, word_r_90]
  rfl

theorem word_r_127 :
    trip_k0_t1.sl.r_127 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 12 := by
  unfold trip_k0_t1.sl.r_127 trip_k0_t1.sl.r_125 trip_k0_t1.sl.r_126
  rw [word_r_33, word_r_34, word_r_91]
  rfl

theorem word_r_128 :
    trip_k0_t1.sl.r_128 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 13 := by
  unfold trip_k0_t1.sl.r_128
  rw [word_r_33, word_r_34, word_r_92]
  rfl

theorem word_r_129 :
    trip_k0_t1.sl.r_129 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 14 := by
  unfold trip_k0_t1.sl.r_129
  rw [word_r_33, word_r_34, word_r_93]
  rfl

theorem word_r_130 :
    trip_k0_t1.sl.r_130 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 15 := by
  unfold trip_k0_t1.sl.r_130
  rw [word_r_33, word_r_34, word_r_94]
  rfl

theorem word_r_131 :
    trip_k0_t1.sl.r_131 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 16 := by
  unfold trip_k0_t1.sl.r_131
  rw [word_r_33, word_r_34, word_r_95]
  rfl

theorem word_r_132 :
    trip_k0_t1.sl.r_132 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 17 := by
  unfold trip_k0_t1.sl.r_132
  rw [word_r_33, word_r_34, word_r_96]
  rfl

theorem word_r_133 :
    trip_k0_t1.sl.r_133 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 18 := by
  unfold trip_k0_t1.sl.r_133
  rw [word_r_33, word_r_34, word_r_98]
  rfl

theorem word_r_134 :
    trip_k0_t1.sl.r_134 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 19 := by
  unfold trip_k0_t1.sl.r_134
  rw [word_r_33, word_r_34, word_r_99]
  rfl

theorem word_r_135 :
    trip_k0_t1.sl.r_135 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 20 := by
  unfold trip_k0_t1.sl.r_135
  rw [word_r_33, word_r_34, word_r_100]
  rfl

theorem word_r_137 :
    trip_k0_t1.sl.r_137 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 21 := by
  unfold trip_k0_t1.sl.r_137 trip_k0_t1.sl.r_136
  rw [word_r_33, word_r_34, word_r_101]
  rfl

theorem word_r_138 :
    trip_k0_t1.sl.r_138 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 22 := by
  unfold trip_k0_t1.sl.r_138
  rw [word_r_33, word_r_34, word_r_102]
  rfl

theorem word_r_139 :
    trip_k0_t1.sl.r_139 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 23 := by
  unfold trip_k0_t1.sl.r_139
  rw [word_r_33, word_r_34, word_r_103]
  rfl

theorem word_r_140 :
    trip_k0_t1.sl.r_140 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 24 := by
  unfold trip_k0_t1.sl.r_140
  rw [word_r_33, word_r_34, word_r_104]
  rfl

theorem word_r_141 :
    trip_k0_t1.sl.r_141 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 25 := by
  unfold trip_k0_t1.sl.r_141
  rw [word_r_33, word_r_34, word_r_105]
  rfl

theorem word_r_142 :
    trip_k0_t1.sl.r_142 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 26 := by
  unfold trip_k0_t1.sl.r_142
  rw [word_r_33, word_r_34, word_r_106]
  rfl

theorem word_r_143 :
    trip_k0_t1.sl.r_143 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 27 := by
  unfold trip_k0_t1.sl.r_143
  rw [word_r_33, word_r_34, word_r_107]
  rfl

theorem word_r_144 :
    trip_k0_t1.sl.r_144 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 28 := by
  unfold trip_k0_t1.sl.r_144
  rw [word_r_33, word_r_34, word_r_109]
  rfl

theorem word_v1129 :
    trip_k0_t1.sl.v1129 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 30 := by
  unfold trip_k0_t1.sl.v1129
  rw [word_r_33, word_r_34, word_r_111]
  rfl

theorem word_v1135 :
    trip_k0_t1.sl.v1135 arg2 arg3 arg4 arg9 v0 v3 X_arg2 X_arg3 X_arg4 k f_arg9 = rawV v3 (k0_pay9 (readX arg2 X_arg2 k)) (keyV v0 (readX arg3 X_arg3 k)) (k0_pay11 (readX arg4 X_arg4 k)) (logV v0 (readX arg3 X_arg3 k)) (readS arg9 f_arg9) 31 := by
  unfold trip_k0_t1.sl.v1135
  rw [word_r_33, word_r_34, word_r_112]
  rfl

/-- The rows trip `k` stores. -/
theorem word_v1136 :
    k0_pay7 (trip_k0_t1.sl.v1136 arg2 arg3 arg4 arg9 v0 v3 X_arg2 X_arg3 X_arg4 k f_arg9) = storeV v0 v3 (readX arg2 X_arg2 k) (readX arg3 X_arg3 k) (readX arg4 X_arg4 k) (readS arg9 f_arg9) := by
  unfold trip_k0_t1.sl.v1136 trip_k0_t1.sl.v1123 trip_k0_t1.sl.v1129 trip_k0_t1.sl.v1135 trip_k0_t1.sl.cst_154 trip_k0_t1.sl.r_145 trip_k0_t1.sl.r_146
  rw [word_r_113, word_r_114, word_r_115, word_r_116, word_r_117, word_r_118, word_r_119, word_r_120, word_r_121, word_r_122, word_r_123, word_r_124, word_r_127, word_r_128, word_r_129, word_r_130, word_r_131, word_r_132, word_r_133, word_r_134, word_r_135, word_r_137, word_r_138, word_r_139, word_r_140, word_r_141, word_r_142, word_r_143, word_r_144, word_r_33, word_r_34, word_r_110, word_r_111, word_r_112]
  rfl

/-- The state trip `k` leaves. -/
theorem word_next :
    k0_pay162 (trip_k0_t1.sl.r_37 arg3 v0 v3 X_arg3 k) (trip_k0_t1.sl.r_71 arg3 arg4 v0 v3 X_arg3 X_arg4 k) (trip_k0_t1.sl.r_72 arg3 arg4 v0 v3 X_arg3 X_arg4 k) (trip_k0_t1.sl.r_73 arg3 arg4 v0 v3 X_arg3 X_arg4 k) (trip_k0_t1.sl.r_76 arg3 arg4 v0 v3 X_arg3 X_arg4 k) (trip_k0_t1.sl.r_77 arg3 arg4 v0 v3 X_arg3 X_arg4 k) (trip_k0_t1.sl.r_108 arg3 arg4 arg9 v0 v3 X_arg3 X_arg4 k f_arg9) = nextV v0 v3 (readX arg3 X_arg3 k) (readX arg4 X_arg4 k) (readS arg9 f_arg9) := by
  rw [word_r_37, word_r_71, word_r_72, word_r_73, word_r_76, word_r_77, word_r_108]
  rfl

end Words

/-- THE TRIP'S PIECES: trip `k` writes its rows into the output's block and the next state into the carried state. -/
theorem trip_pieces (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128 .f32) (harg5 : arg5.IsWhole) (arg6 : Memref sig .tc .vmem S1x1x128x128 .f32) (harg6 : arg6.IsWhole) (arg7 : Memref sig .tc .vmem S1x2048x128 .f32) (harg7 : arg7.IsWhole) (arg8 : Memref sig .tc .vmem S1x1x128x128 .f32) (harg8 : arg8.IsWhole) (arg9 : Memref sig .tc .vmem S1x128x128 .f32) (harg9 : arg9.IsWhole) (v0 : Vec F S1x128 .f32) (v3 : IVec S32x16x128 32) (X_arg2 : BufTy.Contents (Elt F) arg2.view.ty) (X_arg3 : BufTy.Contents (Elt F) arg3.view.ty) (X_arg4 : BufTy.Contents (Elt F) arg4.view.ty) (k : Fin k0_t1_loop.trips) (f_arg7 : BufTy.Contents (Elt F) arg7.view.ty) (f_arg9 : BufTy.Contents (Elt F) arg9.view.ty) :
    tripL_k0_t1 (F := F) 𝒱 c bd i arg2 harg2 arg3 harg3 arg4 harg4 arg5 harg5 arg6 harg6 arg7 harg7 arg8 harg8 arg9 harg9 v0 v3 X_arg2 X_arg3 X_arg4 k f_arg7 f_arg9
      = ([⟨Rect.unit (s := S1x2048x128) (k0_off1 k) S1x512x128.size (k0_off1_inb k),
            storeV v0 v3 (readX arg2 X_arg2 k) (readX arg3 X_arg3 k) (readX arg4 X_arg4 k) (readS arg9 f_arg9)⟩],
         [⟨Rect.unit (s := S1x128x128) ![0, 0, 0] S1x128x128.size inb_S1x128x128_S1x128x128_0_0_0,
            nextV v0 v3 (readX arg3 X_arg3 k) (readX arg4 X_arg4 k) (readS arg9 f_arg9)⟩]) := by
  rw [← word_v1136, ← word_next]
  unfold tripL_k0_t1 trip_k0_t1
  rfl

end Cert.KernelIdeal.Hgrn

end
-- ==== Proof.HgrnRun.lean ====
/- The body of the gated recurrence's grid point: run over its memory operations, it leaves in its two output blocks the
   rows its four trips store and the state after the last of them (`body_run`). -/
module

public import proofs.«01_k».proof.Proof.HgrnVec
public import proofs.«01_k».proof.Proof.Gen.KernelIdeal.Frame.Runs
public import Idealize.ShloMosaic.Lib.Claim
public import Idealize.ShloMosaic.Lib.VecWindow

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loop has four trips. -/
theorem trips_eq : k0_t1_loop.trips = 4 := by decide

/-- Trip number `n`. -/
def trip (n : ℕ) : Fin k0_t1_loop.trips := ⟨n % 4, by rw [trips_eq]; exact Nat.mod_lt _ (by decide)⟩

/-- The 512 rows trip `k` reads of a block. -/
def rowsAt (x : Vec F S1x2048x128 .f32) (k : Fin k0_t1_loop.trips) : Vec F S1x512x128 .f32 :=
  View.ld x (Rect.unit (s := S1x2048x128) (k0_off1 k) S1x512x128.size (k0_off1_inb k))

/-- The row number of every element of a chunk. -/
def rowNo : IVec S32x16x128 32 := iota .tc S32x16x128 32 [1] iota_S32x16x128_d1_w32

/-- The carried state before trip `n`. -/
def carry (v0 : Vec F S1x128 .f32) (v3 : IVec S32x16x128 32) (x1 x2 : Vec F S1x2048x128 .f32) (s0 : Vec F S1x128x128 .f32) : ℕ → Vec F S1x128x128 .f32
  | 0 => s0
  | n + 1 => nextV v0 v3 (rowsAt x1 (trip n)) (rowsAt x2 (trip n)) (carry v0 v3 x1 x2 s0 n)

/-- The pieces the first `n` trips store, last first. -/
def pieces (v0 : Vec F S1x128 .f32) (v3 : IVec S32x16x128 32) (x0 x1 x2 : Vec F S1x2048x128 .f32) (s0 : Vec F S1x128x128 .f32) :
    ℕ → List (View.Piece (Elt F) S1x2048x128 .f32)
  | 0 => []
  | n + 1 => ⟨Rect.unit (s := S1x2048x128) (k0_off1 (trip n)) S1x512x128.size (k0_off1_inb (trip n)),
      storeV v0 v3 (rowsAt x0 (trip n)) (rowsAt x1 (trip n)) (rowsAt x2 (trip n)) (carry v0 v3 x1 x2 s0 n)⟩ :: pieces v0 v3 x0 x1 x2 s0 n

/-- The block of rows the body leaves. -/
def outO (x0 x1 x2 : Vec F S1x2048x128 .f32) (x3 : Vec F S1x128 .f32) (x4 : Vec F S1x1x128x128 .f32) : Vec F S1x2048x128 .f32 :=
  View.canon (pieces x3 rowNo x0 x1 x2 (k0_pay3 x4) 4)

/-- The state the body leaves. -/
def outS (x1 x2 : Vec F S1x2048x128 .f32) (x3 : Vec F S1x128 .f32) (x4 : Vec F S1x1x128x128 .f32) : Vec F S1x1x128x128 .f32 :=
  k0_pay8 (carry x3 rowNo x1 x2 (k0_pay3 x4) 4)

/-- The four pieces cover the block. -/
theorem cover_pieces (v0 : Vec F S1x128 .f32) (v3 : IVec S32x16x128 32) (x0 x1 x2 : Vec F S1x2048x128 .f32) (s0 : Vec F S1x128x128 .f32) (y : S1x2048x128.Idx) :
    ∃ pc ∈ pieces v0 v3 x0 x1 x2 s0 4, y ∈ pc.1.set :=
  View.cover_of_tiledL (pieces v0 v3 x0 x1 x2 s0 4) S1x512x128.size (by sl_kernel_rfl) y

/-- THE LOOP'S PIECES: after `n` trips the output holds the first `n` trips' pieces and the carried state reads as the
    recursion says. -/
theorem loop_pieces (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128 .f32) (harg5 : arg5.IsWhole) (arg6 : Memref sig .tc .vmem S1x1x128x128 .f32) (harg6 : arg6.IsWhole) (arg7 : Memref sig .tc .vmem S1x2048x128 .f32) (harg7 : arg7.IsWhole) (arg8 : Memref sig .tc .vmem S1x1x128x128 .f32) (harg8 : arg8.IsWhole) (arg9 : Memref sig .tc .vmem S1x128x128 .f32) (harg9 : arg9.IsWhole) (v0 : Vec F S1x128 .f32) (v3 : IVec S32x16x128 32) (G_arg7 : BufTy.Contents (Elt F) arg7.view.ty) (G_arg9 : BufTy.Contents (Elt F) arg9.view.ty) (x0 x1 x2 : Vec F S1x2048x128 .f32) (s0 : Vec F S1x128x128 .f32)
    (hs : readS arg9 G_arg9 = s0) : ∀ n, n ≤ 4 →
    (pb_k0_t1 (F := F) 𝒱 c bd i arg2 harg2 arg3 harg3 arg4 harg4 arg5 harg5 arg6 harg6 arg7 harg7 arg8 harg8 arg9 harg9 v0 v3 (harg2.unread x0) (harg3.unread x1) (harg4.unread x2) G_arg7 G_arg9 n).1 = pieces v0 v3 x0 x1 x2 s0 n
    ∧ readS arg9 (arg9.view.writes (Elt F) G_arg9 (pb_k0_t1 (F := F) 𝒱 c bd i arg2 harg2 arg3 harg3 arg4 harg4 arg5 harg5 arg6 harg6 arg7 harg7 arg8 harg8 arg9 harg9 v0 v3 (harg2.unread x0) (harg3.unread x1) (harg4.unread x2) G_arg7 G_arg9 n).2) = carry v0 v3 x1 x2 s0 n
  | 0, _ => ⟨rfl, hs⟩
  | n + 1, hn => by
    have ih := loop_pieces 𝒱 c bd i arg2 harg2 arg3 harg3 arg4 harg4 arg5 harg5 arg6 harg6 arg7 harg7 arg8 harg8 arg9 harg9 v0 v3 G_arg7 G_arg9 x0 x1 x2 s0 hs n (by omega)
    have e : (trip n).val = n := by show n % 4 = n; omega
    have h := pb_k0_t1_succ (F := F) 𝒱 c bd i arg2 harg2 arg3 harg3 arg4 harg4 arg5 harg5 arg6 harg6 arg7 harg7 arg8 harg8 arg9 harg9 v0 v3 (harg2.unread x0) (harg3.unread x1) (harg4.unread x2) G_arg7 G_arg9 (trip n)
    rw [e] at h
    have r0 : readX arg2 (harg2.unread x0) (trip n) = rowsAt x0 (trip n) := congrArg (fun z => View.ld z _) (harg2.read_unread x0)
    have r1 : readX arg3 (harg3.unread x1) (trip n) = rowsAt x1 (trip n) := congrArg (fun z => View.ld z _) (harg3.read_unread x1)
    have r2 : readX arg4 (harg4.unread x2) (trip n) = rowsAt x2 (trip n) := congrArg (fun z => View.ld z _) (harg4.read_unread x2)
    rw [trip_pieces, r0, r1, r2, ih.2] at h
    rw [h]
    constructor
    · show _ :: _ = _ :: _
      rw [ih.1]; rfl
    · exact View.readAt_writes_full _ _ _ _ _ _

set_option maxHeartbeats 1000000 in
/-- THE BODY: on whole staging memrefs holding the point's blocks it runs to its two output blocks holding `outO` and
    `outS`, the inputs as they were, the scratch at some contents. -/
theorem body_run (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128 .f32) (harg5 : arg5.IsWhole) (arg6 : Memref sig .tc .vmem S1x1x128x128 .f32) (harg6 : arg6.IsWhole) (arg7 : Memref sig .tc .vmem S1x2048x128 .f32) (harg7 : arg7.IsWhole) (arg8 : Memref sig .tc .vmem S1x1x128x128 .f32) (harg8 : arg8.IsWhole) (arg9 : Memref sig .tc .vmem S1x128x128 .f32) (harg9 : arg9.IsWhole)
    (x0 : Vec F S1x2048x128 .f32) (x1 : Vec F S1x2048x128 .f32) (x2 : Vec F S1x2048x128 .f32) (x3 : Vec F S1x128 .f32) (x4 : Vec F S1x1x128x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outO x0 x1 x2 x3 x4) ∗ owns (c : Thread nD τ) arg8 fullShare (outS x1 x2 x3 x4) ∗ (∃ d, owns (c : Thread nD τ) arg9 fullShare d)) -∗ K ⟨⟩))
      ⊢ wp frame (wpE (defs₀ (F := F)) Variants.none c none) E (cc0_hgrn2 i arg2 harg2 arg3 harg3 arg4 harg4 arg5 harg5 arg6 harg6 arg7 harg7 arg8 harg8 arg9 harg9) K := by
  simp only [cc0_hgrn2_eq_skeleton]; unfold cc0_hgrn2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  have e3 : View.readAt (Elt F) arg5.view (Rect.unit (s := S1x128) ![0, 0] S1x128.size inb_S1x128_S1x128_0_0).toLoadRect (harg5.unread x3) = x3 := by
    rw [View.readAt_full, hf3]
  have e4 : View.readAt (Elt F) arg6.view (Rect.unit (s := S1x1x128x128) ![0, 0, 0, 0] S1x1x128x128.size inb_S1x1x128x128_S1x1x128x128_0_0_0_0).toLoadRect (harg6.unread x4) = x4 := by
    rw [View.readAt_full, hf4]
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    have hl := (loop_pieces Variants.none c none i arg2 harg2 arg3 harg3 arg4 harg4 arg5 harg5 arg6 harg6 arg7 harg7 arg8 harg8 arg9 harg9 x3 rowNo
      f5 (arg9.view.writes (Elt F) arg9.view.junk (body_run.sl.HS0_1 x4)) x0 x1 x2 (k0_pay3 x4) (by unfold body_run.sl.HS0_1; exact View.readAt_writes_full _ _ _ _ _ _) 4 (le_refl _)).1
    exact (congrArg (fun L => View.read (Elt F) arg7.view (arg7.view.writes (Elt F) f5 L)) hl).trans
      (View.read_writes_eq_canon _ _ _ (cover_pieces _ _ _ _ _ _))
  isplitl [H6]
  · iexists _; isplitr; swap; · iexact H6
    ipureintro
    rw [View.read_writes_full]
    unfold body_run.sl.v11
    unfold View.readCov
    rw [View.writes_append]
    refine congrArg k0_pay8 ?_
    exact (loop_pieces Variants.none c none i arg2 harg2 arg3 harg3 arg4 harg4 arg5 harg5 arg6 harg6 arg7 harg7 arg8 harg8 arg9 harg9 x3 rowNo
      f5 (arg9.view.writes (Elt F) arg9.view.junk (body_run.sl.HS0_1 x4)) x0 x1 x2 (k0_pay3 x4) (by unfold body_run.sl.HS0_1; exact View.readAt_writes_full _ _ _ _ _ _) 4 (le_refl _)).2
  iexists _, _; isplitr; swap; · iexact HS0
  ipureintro; rfl

end Cert.KernelIdeal.Hgrn

end
-- ==== Proof.HgrnFrame.lean ====
/- The launch of the ideal HGRN2 kernel: the pipeline's proof data (what every staging buffer holds at every grid
   point), the body's obligation, the run, the frame, and the two output arrays block by block. -/
module

public import proofs.«01_k».proof.Proof.HgrnRun
public import Idealize.ShloMosaic.Lib.Pipeline.Value

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the two output blocks hold after the body at point `t`: the block of normalised outputs and the state, as
    functions of the point's input blocks. -/
def outsAt0 (c : Dev nD) (t : Fin cfg0.N) : Vec F S1x2048x128 .f32 × Vec F S1x1x128x128 .f32 :=
  (outO (iblk m c 0 t) (iblk m c 1 t) (iblk m c 2 t) (iblk m c 3 t) (iblk m c 4 t), outS (iblk m c 1 t) (iblk m c 2 t) (iblk m c 3 t) (iblk m c 4 t))

/-- The proof data of the one pipeline on core `c`: the arrays as the launch finds them; after the body at point `t`
    each input's buffer at its block and the outputs' at `outsAt0`; nothing owed; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q w := Pipeline.shareOf spec0 w
  owed _ := 0

/-- The proof data's arrays are the contents the launch finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs hold their blocks, so `body_run` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: every final state has the pipeline's arrays at the proof data's contents and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- What point `t` writes back to output window 5. -/
theorem flushed5 (c : Dev nD) (t : Fin cfg0.N) :
    (dats m 0 c).flushed 5 t = (cfg0.win 5).cut (grid0.coords t) ((outsAt0 m c t).1) := by
  show (cfg0.win 5).cut (grid0.coords t) ((dats m 0 c).after 5 t) = _
  rw [after0_5]

/-- The index map sends distinct grid points to distinct block indices . -/
theorem idx_inj5 : ∀ t t' : Fin cfg0.N, win0_5.index t = win0_5.index t' → t = t' :=
  (by decide +kernel : ∀ t t' : Fin grid0.N, win0_5.index t = win0_5.index t' → t = t')

/-- So two flushing points' blocks share no array index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- What point `t` writes back to output window 6. -/
theorem flushed6 (c : Dev nD) (t : Fin cfg0.N) :
    (dats m 0 c).flushed 6 t = (cfg0.win 6).cut (grid0.coords t) ((outsAt0 m c t).2) := by
  show (cfg0.win 6).cut (grid0.coords t) ((dats m 0 c).after 6 t) = _
  rw [after0_6]

/-- The index map sends distinct grid points to distinct block indices . -/
theorem idx_inj6 : ∀ t t' : Fin cfg0.N, win0_6.index t = win0_6.index t' → t = t' :=
  (by decide +kernel : ∀ t t' : Fin grid0.N, win0_6.index t = win0_6.index t' → t = t')

/-- So two flushing points' blocks share no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v15_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v15_1) = (dats m 0 c).arrAt 6 cfg0.N :=
  (h c).1 6

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v15_0) = (dats m 0 c).arrAt 5 cfg0.N
      ∧ r.2.mem ((c : Thread nD τ).loc main_v15_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post5 m r h c,
      post6 m r h c,
      kept_main_arg0 m r h c,
      kept_main_arg1 m r h c,
      kept_main_arg2 m r h c⟩)
    (run_main m ρ)

end Cert.KernelIdeal.Hgrn
-- ==== Proof.HgrnModel.lean ====
/- The gated linear recurrence over the extended reals, for one batch element and one head of width 128: rows in chunks of
   sixteen, the chunk's accumulated log decays, the scores within the chunk, the part through the state, the state after
   the chunk, and the normalised rows. The state is indexed by value column first and key column second. -/
module

public import Idealize.ShloMosaic.Lib.Pointwise

@[expose] public section

noncomputable section

namespace Cert.Hgrn

open Idealize.ShloMosaic

/-- The log decay of a forget logit `f` over the lower bound `b`. -/
def gate (b f : EReal) : EReal := Ideal.log (b + (1 - b) * Ideal.div 1 (1 + Ideal.exp (0 - f)))

/-- The key of a forget logit `f` over the lower bound `b`. -/
def key (b f : EReal) : EReal := (1 - b) * Ideal.div 1 (1 + Ideal.exp (0 - (0 - f)))

/-- The log decays accumulated over the rows at or below row `t`. -/
def cum (lf : Fin 16 → Fin 128 → EReal) (t : Fin 16) (k : Fin 128) : EReal := ∑ s : Fin 16, if s ≤ t then lf s k else 0

/-- The decay from row `s` to row `t`; zero above the diagonal. -/
def wt (B : Fin 16 → Fin 128 → EReal) (t s : Fin 16) (k : Fin 128) : EReal := if s ≤ t then Ideal.exp (B t k - B s k) else 0

/-- The score of query `t` with key `s`. -/
def score (q kk B : Fin 16 → Fin 128 → EReal) (t s : Fin 16) : EReal := ∑ k : Fin 128, q t k * wt B t s k * kk s k

/-- The chunk's row `t`, column `e`, before normalisation. -/
def outC (q kk v B : Fin 16 → Fin 128 → EReal) (S : Fin 128 → Fin 128 → EReal) (t : Fin 16) (e : Fin 128) : EReal :=
  ∑ s : Fin 16, score q kk B t s * v s e + ∑ k : Fin 128, q t k * Ideal.exp (B t k) * S e k

/-- The state after the chunk. -/
def nextC (kk v B : Fin 16 → Fin 128 → EReal) (S : Fin 128 → Fin 128 → EReal) (e k : Fin 128) : EReal :=
  S e k * Ideal.exp (B 15 k) + ∑ s : Fin 16, v s e * (kk s k * Ideal.exp (B 15 k - B s k))

/-- Row `t` of chunk `n`, of 2048 rows. -/
def rowOf (n : ℕ) (t : Fin 16) : Fin 2048 := ⟨(16 * n + t.val) % 2048, Nat.mod_lt _ (by decide)⟩

/-- The rows of chunk `n` of an array. -/
def chunkOf (x : Fin 2048 → Fin 128 → EReal) (n : ℕ) (t : Fin 16) (k : Fin 128) : EReal := x (rowOf n t) k

/-- The keys of chunk `n`, of lower bounds `b` and forget logits `f`. -/
def keysOf (b : Fin 128 → EReal) (f : Fin 2048 → Fin 128 → EReal) (n : ℕ) (t : Fin 16) (k : Fin 128) : EReal := key (b k) (chunkOf f n t k)

/-- The accumulated log decays of chunk `n`. -/
def cumOf (b : Fin 128 → EReal) (f : Fin 2048 → Fin 128 → EReal) (n : ℕ) : Fin 16 → Fin 128 → EReal :=
  cum fun t k => gate (b k) (chunkOf f n t k)

/-- THE STATE before chunk `n`. -/
def stateAt (b : Fin 128 → EReal) (f v : Fin 2048 → Fin 128 → EReal) (S : Fin 128 → Fin 128 → EReal) : ℕ → Fin 128 → Fin 128 → EReal
  | 0 => S
  | n + 1 => nextC (keysOf b f n) (chunkOf v n) (cumOf b f n) (stateAt b f v S n)

/-- THE ROWS of chunk `n` before normalisation. -/
def rawAt (b : Fin 128 → EReal) (q f v : Fin 2048 → Fin 128 → EReal) (S : Fin 128 → Fin 128 → EReal) (n : ℕ) : Fin 16 → Fin 128 → EReal :=
  outC (chunkOf q n) (keysOf b f n) (chunkOf v n) (cumOf b f n) (stateAt b f v S n)

/-- A row divided by the root of its mean square (plus a small constant). -/
def rmsRow (x : Fin 128 → EReal) (e : Fin 128) : EReal :=
  x e * Ideal.rsqrt (Ideal.div (∑ k : Fin 128, x k * x k) (Ideal.ofBits .f32 0x43000000#32) + Ideal.ofBits .f32 0x358637BD#32)

/-- A recursion that adds one term at a time is the sum of its terms. -/
theorem sum_of_steps (u f : ℕ → EReal) (h0 : u 0 = 0) (hs : ∀ n, u (n + 1) = u n + f n) (n : ℕ) : u n = ∑ s : Fin n, f s.val := by
  induction n with
  | zero => simp [h0]
  | succ n ih => rw [hs, ih, Fin.sum_univ_castSucc]; rfl

end Cert.Hgrn
-- ==== Proof.HgrnAt.lean ====
/- One trip of the ideal HGRN2 kernel read at an index: the accumulated log decays, the scores within a chunk, the rows
   it stores and the state it leaves, as sums and products of extended reals. -/
module

public import proofs.«01_k».proof.Proof.HgrnRun
public import proofs.«01_k».proof.Proof.HgrnModel
public import Idealize.ShloMosaic.Lib.Pointwise

@[expose] public section

set_option maxRecDepth 16384

noncomputable section

namespace Cert.KernelIdeal.Hgrn

open Cert.KernelIdeal Cert.KernelIdeal.Gen Cert.Hgrn Idealize.ShloMosaic

/-- A chunk's part of a trip's array. -/
abbrev part {φ : FTy} (x : FVec Ideal S32x16x128 φ) (g : Fin 32) : Fin 16 → Fin 128 → EReal := fun t k => x (ix3 g t k)

/-- Row `s` of every chunk at an index. -/
theorem nearV_at {φ : FTy} (x : FVec Ideal S32x16x128 φ) (s : Fin 16) (g : Fin 32) (k : Fin 128) :
    nearV x s (ix3 g 0 k) = x (ix3 g s k) := by
  pointwise [nearV]

/-- A chunk of an array at an index. -/
theorem rowsV_at {φ : FTy} (x : FVec Ideal S32x16x128 φ) (g : Fin 32) (t : Fin 16) (k : Fin 128) :
    rowsV x g (ix2 t k) = x (ix3 g t k) := by
  pointwise [rowsV]

/-- Comparing two small row numbers as words compares the numbers. -/
theorem sge_at : ∀ t s : Fin 16, IntOp.cmpi .sge (BitVec.ofNat 32 t.val) (BitVec.ofNat 32 s.val) = BitVec.ofBool (decide (s ≤ t)) := by
  decide +kernel

/-- The mask of the rows from `s` on at an index. -/
theorem fromV_at (s : Fin 16) (g : Fin 32) (t : Fin 16) (k : Fin 128) :
    fromV rowNo s (ix3 g t k) = BitVec.ofBool (decide (s ≤ t)) := by
  pointwise [fromV, rowNo]
  exact sge_at t s

/-- The same mask over the last eight rows. -/
theorem fromHighV_at (s : Fin 16) (g : Fin 32) (t : Fin 8) (k : Fin 128) :
    fromHighV rowNo s (ix3 g t k) = BitVec.ofBool (decide (s.val ≤ 8 + t.val)) := by
  pointwise [fromHighV, rowNo]
  exact sge_at ⟨8 + t.val, by omega⟩ s

/-- A chunk's decay of the state at an index. -/
theorem decayV_at (dec : FVec Ideal S32x1x128 .f32) (g : Fin 32) (v k : Fin 128) :
    decayV dec g (ix2 v k) = dec (ix3 g 0 k) := by
  pointwise [decayV]

/-- What a chunk adds to the state at an index. -/
theorem addV_at (kt vb : FVec Ideal S32x16x128 .bf16) (g : Fin 32) (v k : Fin 128) :
    addV kt vb g (ix2 v k) = ∑ s : Fin 16, vb (ix3 g s v) * kt (ix3 g s k) := by
  pointwise [addV, rowsV_at]

/-- One step of the accumulation at an index. -/
theorem cumN_succ_at (lf : FVec Ideal S32x16x128 .f32) (n : ℕ) (g : Fin 32) (t : Fin 16) (k : Fin 128) :
    cumN rowNo lf (n + 1) (ix3 g t k) = cumN rowNo lf n (ix3 g t k) + if row16 n ≤ t then lf (ix3 g (row16 n) k) else 0 := by
  show (addf (cumN rowNo lf n) _) _ = _
  pointwise [nearV_at, fromV_at]

/-- THE ACCUMULATED LOG DECAYS at an index. -/
theorem cumN_at (lf : FVec Ideal S32x16x128 .f32) (g : Fin 32) (t : Fin 16) (k : Fin 128) :
    cumN rowNo lf 16 (ix3 g t k) = cum (part lf g) t k := by
  rw [sum_of_steps (fun n => cumN rowNo lf n (ix3 g t k)) _ (by show broadcast S32x16x128 _ _ = _; pointwise) (fun n => cumN_succ_at lf n g t k) 16]
  refine Finset.sum_congr rfl fun s _ => ?_
  have e : row16 s.val = s := Fin.ext (Nat.mod_eq_of_lt s.isLt)
  rw [e]

/-- The products with key `s` at an index. -/
theorem prodLow_at (q kk bc : FVec Ideal S32x16x128 .f32) (s : Fin 16) (g : Fin 32) (t : Fin 16) (k : Fin 128) :
    prodLow rowNo q kk bc s (ix2 ⟨g.val * 16 + t.val, by omega⟩ k) = q (ix3 g t k) * wt (part bc g) t s k * kk (ix3 g s k) := by
  pointwise [prodLow, nearV_at, fromV_at, wt]

/-- The products with key `s` for the last eight rows at an index. -/
theorem prodHigh_at (q kk bc : FVec Ideal S32x16x128 .f32) (s : Fin 16) (g : Fin 32) (t : Fin 8) (k : Fin 128) :
    prodHigh rowNo q kk bc s (ix2 ⟨g.val * 8 + t.val, by omega⟩ k)
      = q (ix3 g ⟨8 + t.val, by omega⟩ k) * wt (part bc g) ⟨8 + t.val, by omega⟩ s k * kk (ix3 g s k) := by
  pointwise [prodHigh, nearV_at, fromHighV_at, wt]
  rfl

/-- Eight pieces of 512 rows and eight of 256, stacked. -/
def stack (p : Fin 8 → FVec Ideal S512x128 .f32) (h : Fin 8 → FVec Ideal S256x128 .f32) : FVec Ideal S6144x128 .f32 :=
  concatenate S6144x128 0 [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩, ⟨S256x128, h 0⟩, ⟨S256x128, h 1⟩, ⟨S256x128, h 2⟩, ⟨S256x128, h 3⟩, ⟨S256x128, h 4⟩, ⟨S256x128, h 5⟩, ⟨S256x128, h 6⟩, ⟨S256x128, h 7⟩]
    concatenates_S512x128_S512x128_S512x128_S512x128_S512x128_S512x128_S512x128_S512x128_S256x128_S256x128_S256x128_S256x128_S256x128_S256x128_S256x128_S256x128_S6144x128_d0

/-- Row `r` of piece `s` of the first eight. -/
theorem stack_low (p : Fin 8 → FVec Ideal S512x128 .f32) (h : Fin 8 → FVec Ideal S256x128 .f32) (s : Fin 8) (r : Fin 512) (k : Fin 128) :
    stack p h (ix2 ⟨512 * s.val + r.val, by omega⟩ k) = p s (ix2 r k) := by
  obtain ⟨s, hs⟩ := s
  unfold stack
  interval_cases s
  · refine concatenate_apply_piece 0 _ _ _ 0 ?_ S512x128 (p 0) ?_ ?_ 0 ?_ (ix2 r k) ?_ ?_
    · simp
    · rfl
    · rfl
    · sl_kernel_rfl
    · intro b hb; match b with | 0 => exact absurd rfl hb | 1 => rfl
    · show 0 + r.val = _; rfl
  · refine concatenate_apply_piece 0 _ _ _ 1 ?_ S512x128 (p 1) ?_ ?_ 512 ?_ (ix2 r k) ?_ ?_
    · simp
    · rfl
    · rfl
    · sl_kernel_rfl
    · intro b hb; match b with | 0 => exact absurd rfl hb | 1 => rfl
    · show 512 + r.val = _; rfl
  · refine concatenate_apply_piece 0 _ _ _ 2 ?_ S512x128 (p 2) ?_ ?_ 1024 ?_ (ix2 r k) ?_ ?_
    · simp
    · rfl
    · rfl
    · sl_kernel_rfl
    · intro b hb; match b with | 0 => exact absurd rfl hb | 1 => rfl
    · show 1024 + r.val = _; rfl
  · refine concatenate_apply_piece 0 _ _ _ 3 ?_ S512x128 (p 3) ?_ ?_ 1536 ?_ (ix2 r k) ?_ ?_
    · simp
    · rfl
    · rfl
    · sl_kernel_rfl
    · intro b hb; match b with | 0 => exact absurd rfl hb | 1 => rfl
    · show 1536 + r.val = _; rfl
  · refine concatenate_apply_piece 0 _ _ _ 4 ?_ S512x128 (p 4) ?_ ?_ 2048 ?_ (ix2 r k) ?_ ?_
    · simp
    · rfl
    · rfl
    · sl_kernel_rfl
    · intro b hb; match b with | 0 => exact absurd rfl hb | 1 => rfl
    · show 2048 + r.val = _; rfl
  · refine concatenate_apply_piece 0 _ _ _ 5 ?_ S512x128 (p 5) ?_ ?_ 2560 ?_ (ix2 r k) ?_ ?_
    · simp
    · rfl
    · rfl
    · sl_kernel_rfl
    · intro b hb; match b with | 0 => exact absurd rfl hb | 1 => rfl
    · show 2560 + r.val = _; rfl
  · refine concatenate_apply_piece 0 _ _ _ 6 ?_ S512x128 (p 6) ?_ ?_ 3072 ?_ (ix2 r k) ?_ ?_
    · simp
    · rfl
    · rfl
    · sl_kernel_rfl
    · intro b hb; match b with | 0 => exact absurd rfl hb | 1 => rfl
    · show 3072 + r.val = _; rfl
  · refine concatenate_apply_piece 0 _ _ _ 7 ?_ S512x128 (p 7) ?_ ?_ 3584 ?_ (ix2 r k) ?_ ?_
    · simp
    · rfl
    · rfl
    · sl_kernel_rfl
    · intro b hb; match b with | 0 => exact absurd rfl hb | 1 => rfl
    · show 3584 + r.val = _; rfl

/-- Row `r` of piece `s` of the last eight. -/
theorem stack_high (p : Fin 8 → FVec Ideal S512x128 .f32) (h : Fin 8 → FVec Ideal S256x128 .f32) (s : Fin 8) (r : Fin 256) (k : Fin 128) :
    stack p h (ix2 ⟨4096 + 256 * s.val + r.val, by omega⟩ k) = h s (ix2 r k) := by
  obtain ⟨s, hs⟩ := s
  unfold stack
  interval_cases s
  · refine concatenate_apply_piece 0 _ _ _ 8 ?_ S256x128 (h 0) ?_ ?_ 4096 ?_ (ix2 r k) ?_ ?_
    · simp
    · rfl
    · rfl
    · sl_kernel_rfl
    · intro b hb; match b with | 0 => exact absurd rfl hb | 1 => rfl
    · show 4096 + r.val = 4096 + 256 * 0 + r.val; omega
  · refine concatenate_apply_piece 0 _ _ _ 9 ?_ S256x128 (h 1) ?_ ?_ 4352 ?_ (ix2 r k) ?_ ?_
    · simp
    · rfl
    · rfl
    · sl_kernel_rfl
    · intro b hb; match b with | 0 => exact absurd rfl hb | 1 => rfl
    · show 4352 + r.val = 4096 + 256 * 1 + r.val; omega
  · refine concatenate_apply_piece 0 _ _ _ 10 ?_ S256x128 (h 2) ?_ ?_ 4608 ?_ (ix2 r k) ?_ ?_
    · simp
    · rfl
    · rfl
    · sl_kernel_rfl
    · intro b hb; match b with | 0 => exact absurd rfl hb | 1 => rfl
    · show 4608 + r.val = 4096 + 256 * 2 + r.val; omega
  · refine concatenate_apply_piece 0 _ _ _ 11 ?_ S256x128 (h 3) ?_ ?_ 4864 ?_ (ix2 r k) ?_ ?_
    · simp
    · rfl
    · rfl
    · sl_kernel_rfl
    · intro b hb; match b with | 0 => exact absurd rfl hb | 1 => rfl
    · show 4864 + r.val = 4096 + 256 * 3 + r.val; omega
  · refine concatenate_apply_piece 0 _ _ _ 12 ?_ S256x128 (h 4) ?_ ?_ 5120 ?_ (ix2 r k) ?_ ?_
    · simp
    · rfl
    · rfl
    · sl_kernel_rfl
    · intro b hb; match b with | 0 => exact absurd rfl hb | 1 => rfl
    · show 5120 + r.val = 4096 + 256 * 4 + r.val; omega
  · refine concatenate_apply_piece 0 _ _ _ 13 ?_ S256x128 (h 5) ?_ ?_ 5376 ?_ (ix2 r k) ?_ ?_
    · simp
    · rfl
    · rfl
    · sl_kernel_rfl
    · intro b hb; match b with | 0 => exact absurd rfl hb | 1 => rfl
    · show 5376 + r.val = 4096 + 256 * 5 + r.val; omega
  · refine concatenate_apply_piece 0 _ _ _ 14 ?_ S256x128 (h 6) ?_ ?_ 5632 ?_ (ix2 r k) ?_ ?_
    · simp
    · rfl
    · rfl
    · sl_kernel_rfl
    · intro b hb; match b with | 0 => exact absurd rfl hb | 1 => rfl
    · show 5632 + r.val = 4096 + 256 * 6 + r.val; omega
  · refine concatenate_apply_piece 0 _ _ _ 15 ?_ S256x128 (h 7) ?_ ?_ 5888 ?_ (ix2 r k) ?_ ?_
    · simp
    · rfl
    · rfl
    · sl_kernel_rfl
    · intro b hb; match b with | 0 => exact absurd rfl hb | 1 => rfl
    · show 5888 + r.val = 4096 + 256 * 7 + r.val; omega

/-- The products of every key, stacked. -/
abbrev stackV (q kk bc : FVec Ideal S32x16x128 .f32) : FVec Ideal S6144x128 .f32 :=
  stack (fun s => prodLow rowNo q kk bc ⟨s.val, by omega⟩) (fun s => prodHigh rowNo q kk bc ⟨8 + s.val, by omega⟩)

/-- The scores are the stack's rows summed. -/
theorem att_at (q kk bc : FVec Ideal S32x16x128 .f32) (r : Fin 6144) (e : Fin 128) :
    attV rowNo q kk bc (ix2 r e) = ∑ k : Fin 128, stackV q kk bc (ix2 r k) := by
  show matmul dot_S6144x128_S128x128_S6144x128_1_0_0_1_n_n none (truncf .bf16 (stackV q kk bc) bitsLt_bf16_f32) k0_pay2 (constant S6144x128 .f32 0x00000000#32) (ix2 r e) = _
  pointwise [k0_pay2]

/-- The scores of the first eight keys at an index. -/
theorem att_low (q kk bc : FVec Ideal S32x16x128 .f32) (s : Fin 8) (g : Fin 32) (t : Fin 16) (e : Fin 128) :
    attV rowNo q kk bc (ix2 ⟨512 * s.val + (g.val * 16 + t.val), by omega⟩ e) = score (part q g) (part kk g) (part bc g) t ⟨s.val, by omega⟩ := by
  rw [att_at]
  refine Finset.sum_congr rfl fun k _ => ?_
  exact (stack_low _ _ s ⟨g.val * 16 + t.val, by omega⟩ k).trans (prodLow_at q kk bc _ g t k)

/-- The scores of the last eight keys at an index. -/
theorem att_high (q kk bc : FVec Ideal S32x16x128 .f32) (s : Fin 8) (g : Fin 32) (t : Fin 8) (e : Fin 128) :
    attV rowNo q kk bc (ix2 ⟨4096 + 256 * s.val + (g.val * 8 + t.val), by omega⟩ e)
      = score (part q g) (part kk g) (part bc g) ⟨8 + t.val, by omega⟩ ⟨8 + s.val, by omega⟩ := by
  rw [att_at]
  refine Finset.sum_congr rfl fun k _ => ?_
  exact (stack_high _ _ s ⟨g.val * 8 + t.val, by omega⟩ k).trans (prodHigh_at q kk bc _ g t k)

/-- One step over the first eight keys at an index. -/
theorem inLow_succ_at (v : FVec Ideal S32x16x128 .f32) (att : FVec Ideal S6144x128 .f32) (n : ℕ) (g : Fin 32) (t : Fin 16) (e : Fin 128) :
    inLow v att (n + 1) (ix3 g t e) = inLow v att n (ix3 g t e)
      + att (ix2 ⟨512 * (row8 n).val + (g.val * 16 + t.val), by omega⟩ e) * v (ix3 g (row16 n) e) := by
  show (addf (inLow v att n) _) _ = _
  pointwise [nearV_at]

/-- One step over the last eight keys at an index. -/
theorem inHigh_succ_at (v : FVec Ideal S32x16x128 .f32) (att : FVec Ideal S6144x128 .f32) (n : ℕ) (g : Fin 32) (t : Fin 8) (e : Fin 128) :
    inHigh v att (n + 1) (ix3 g t e) = inHigh v att n (ix3 g t e)
      + att (ix2 ⟨4096 + 256 * (row8 n).val + (g.val * 8 + t.val), by omega⟩ e) * v (ix3 g (row16 (8 + n)) e) := by
  show (addf (inHigh v att n) _) _ = _
  pointwise [nearV_at]

/-- A score above the diagonal is zero. -/
theorem score_zero (q kk B : Fin 16 → Fin 128 → EReal) (t s : Fin 16) (h : ¬ s ≤ t) : score q kk B t s = 0 := by
  unfold score wt
  simp [h]

/-- THE PART WITHIN THE CHUNKS at an index. -/
theorem inV_at (v q kk bc : FVec Ideal S32x16x128 .f32) (g : Fin 32) (t : Fin 16) (e : Fin 128) :
    inV v (attV rowNo q kk bc) (ix3 g t e) = ∑ s : Fin 16, score (part q g) (part kk g) (part bc g) t s * v (ix3 g s e) := by
  have hl : inLow v (attV rowNo q kk bc) 8 (ix3 g t e) = ∑ s : Fin 8, score (part q g) (part kk g) (part bc g) t ⟨s.val, by omega⟩ * v (ix3 g ⟨s.val, by omega⟩ e) := by
    rw [sum_of_steps (fun n => inLow v (attV rowNo q kk bc) n (ix3 g t e)) _ (by show broadcast S32x16x128 _ _ = _; pointwise) (fun n => inLow_succ_at v _ n g t e) 8]
    refine Finset.sum_congr rfl fun s _ => ?_
    have e8 : row8 s.val = s := Fin.ext (Nat.mod_eq_of_lt s.isLt)
    have e16 : row16 s.val = ⟨s.val, by omega⟩ := Fin.ext (Nat.mod_eq_of_lt (by omega))
    simp only [e8, e16]
    rw [att_low]
  have hh : ∀ t : Fin 8, inHigh v (attV rowNo q kk bc) 8 (ix3 g t e) = ∑ s : Fin 8, score (part q g) (part kk g) (part bc g) ⟨8 + t.val, by omega⟩ ⟨8 + s.val, by omega⟩ * v (ix3 g ⟨8 + s.val, by omega⟩ e) := by
    intro t
    rw [sum_of_steps (fun n => inHigh v (attV rowNo q kk bc) n (ix3 g t e)) _ (by show broadcast S32x8x128 _ _ = _; pointwise) (fun n => inHigh_succ_at v _ n g t e) 8]
    refine Finset.sum_congr rfl fun s _ => ?_
    have e8 : row8 s.val = s := Fin.ext (Nat.mod_eq_of_lt s.isLt)
    have e16 : row16 (8 + s.val) = ⟨8 + s.val, by omega⟩ := Fin.ext (Nat.mod_eq_of_lt (by omega))
    simp only [e8, e16]
    rw [att_high]
  rw [Fin.sum_univ_two_halves 8 8 rfl]
  pointwise [inV]
  rw [hl]
  refine congrArg _ ?_
  split
  · rename_i ht
    refine (Finset.sum_eq_zero fun s _ => ?_).symm
    rw [score_zero _ _ _ _ _ (by show ¬ (8 + s.val ≤ t.val); omega), zero_mul]
  · rename_i ht
    rw [hh]
    have e8 : (⟨8 + (t.val - 8), by omega⟩ : Fin 16) = t := Fin.ext (by show 8 + (t.val - 8) = t.val; omega)
    simp only [e8]

/-- The state at an index: one chunk. -/
theorem stV_succ_at (v kk bc : FVec Ideal S32x16x128 .f32) (st : Vec Ideal S1x128x128 .f32) (n : ℕ) (e k : Fin 128) :
    stV (k0_pay54 bc) (k0_pay52 kk bc) (k0_pay53 v) st (n + 1) (ix2 e k)
      = nextC (part kk (chunk n)) (part v (chunk n)) (part bc (chunk n)) (fun e k => stV (k0_pay54 bc) (k0_pay52 kk bc) (k0_pay53 v) st n (ix2 e k)) e k := by
  show (addf (mulf (stV (k0_pay54 bc) (k0_pay52 kk bc) (k0_pay53 v) st n) _) _) _ = _
  pointwise [decayV_at, addV_at, k0_pay54, k0_pay52, k0_pay53, nextC]

/-- THE ROWS of a chunk before normalisation at an index. -/
theorem rawV_at (q kk v lf : FVec Ideal S32x16x128 .f32) (st : Vec Ideal S1x128x128 .f32) (n : ℕ) (t : Fin 16) (e : Fin 128) :
    rawV rowNo q kk v lf st n (ix2 t e)
      = outC (part q (chunk n)) (part kk (chunk n)) (part v (chunk n)) (part (cumN rowNo lf 16) (chunk n))
          (fun e k => stV (k0_pay54 (cumN rowNo lf 16)) (k0_pay52 kk (cumN rowNo lf 16)) (k0_pay53 v) st n (ix2 e k)) t e := by
  pointwise [rawV, outV, rowsV_at, inV_at, k0_pay51, outC]

end Cert.KernelIdeal.Hgrn
-- ==== Proof.HgrnBlock.lean ====
/- The ideal HGRN2 kernel's body on one block (one batch element, one head): its rows are the recurrence's normalised
   rows and its state the recurrence's state after all 128 chunks. -/
module

public import proofs.«01_k».proof.Proof.HgrnAt

@[expose] public section

set_option maxRecDepth 16384

noncomputable section

namespace Cert.KernelIdeal.Hgrn

open Cert.KernelIdeal Cert.KernelIdeal.Gen Cert.Hgrn Idealize.ShloMosaic

/-- Where trip `k` reads and writes. -/
theorem off1_eq : ∀ k : Fin k0_t1_loop.trips, k0_off1 k = ![0, 512 * k.val, 0] := by decide +kernel

/-- Trip `n`'s rows at an index. -/
theorem rowsAt_at (x : Vec Ideal S1x2048x128 .f32) (n : ℕ) (hn : n < 4) (r : Fin 512) (k : Fin 128) :
    rowsAt x (trip n) (ix3 0 r k) = x (ix3 0 ⟨512 * n + r.val, by omega⟩ k) := by
  refine congrArg x (funext fun a => Fin.ext ?_)
  show k0_off1 (trip n) a + 1 * (ix3 (0 : Fin 1) r k a).val = _
  rw [off1_eq]
  have e : (trip n).val = n := Nat.mod_eq_of_lt hn
  match a with
  | 0 => rfl
  | 1 => show 512 * (trip n).val + 1 * r.val = 512 * n + r.val; rw [e]; omega
  | 2 => show 0 + 1 * k.val = k.val; omega

/-- A row of 512 divided by the root of its mean square. -/
theorem norm_at (x : FVec Ideal S512x128 .f32) (r : Fin 512) (e : Fin 128) :
    k0_pay7 x (ix3 0 r e) = rmsRow (fun k => x (ix2 r k)) e := by
  pointwise [k0_pay7, rmsRow]

/-- The lower bounds of the block. -/
abbrev lowB (x3 : Vec Ideal S1x128 .f32) : Fin 128 → EReal := fun k => x3 (ix2 0 k)
/-- The rows of a block. -/
abbrev rowsB (x : Vec Ideal S1x2048x128 .f32) : Fin 2048 → Fin 128 → EReal := fun r k => x (ix3 0 r k)
/-- The state the block starts from, values first. -/
abbrev stB (x4 : Vec Ideal S1x1x128x128 .f32) : Fin 128 → Fin 128 → EReal := fun e k => x4 (ix4 0 0 k e)

/-- The row of a chunk of a trip. -/
theorem row_eq (n j : ℕ) (hn : n < 4) (hj : j < 32) (t : Fin 16) :
    (⟨512 * n + ((chunk j).val * 16 + t.val), by have := (chunk j).isLt; omega⟩ : Fin 2048) = rowOf (32 * n + j) t := by
  apply Fin.ext
  show 512 * n + (j % 32 * 16 + t.val) = (16 * (32 * n + j) + t.val) % 2048
  omega

section Trip

variable (x0 x1 x2 : Vec Ideal S1x2048x128 .f32) (x3 : Vec Ideal S1x128 .f32) (x4 : Vec Ideal S1x1x128x128 .f32)

/-- The queries of a trip's chunk. -/
theorem part_q (n j : ℕ) (hn : n < 4) (hj : j < 32) : part (k0_pay9 (rowsAt x0 (trip n))) (chunk j) = chunkOf (rowsB x0) (32 * n + j) := by
  funext t k
  have h := rowsAt_at x0 n hn ⟨(chunk j).val * 16 + t.val, by have := (chunk j).isLt; omega⟩ k
  rw [row_eq n j hn hj t] at h
  refine Eq.trans ?_ h
  pointwise [k0_pay9]

/-- The values of a trip's chunk. -/
theorem part_v (n j : ℕ) (hn : n < 4) (hj : j < 32) : part (k0_pay11 (rowsAt x2 (trip n))) (chunk j) = chunkOf (rowsB x2) (32 * n + j) := by
  funext t k
  have h := rowsAt_at x2 n hn ⟨(chunk j).val * 16 + t.val, by have := (chunk j).isLt; omega⟩ k
  rw [row_eq n j hn hj t] at h
  refine Eq.trans ?_ h
  pointwise [k0_pay11]

/-- The keys of a trip's chunk. -/
theorem part_key (n j : ℕ) (hn : n < 4) (hj : j < 32) :
    part (keyV x3 (rowsAt x1 (trip n))) (chunk j) = keysOf (lowB x3) (rowsB x1) (32 * n + j) := by
  funext t k
  have h := rowsAt_at x1 n hn ⟨(chunk j).val * 16 + t.val, by have := (chunk j).isLt; omega⟩ k
  rw [row_eq n j hn hj t] at h
  refine Eq.trans ?_ (congrArg (key (lowB x3 k)) h)
  pointwise [keyV, k0_pay13, k0_pay14, k0_pay15, k0_pay1, k0_pay10, key]

/-- The accumulated log decays of a trip's chunk. -/
theorem part_cum (n j : ℕ) (hn : n < 4) (hj : j < 32) :
    part (cumN rowNo (logV x3 (rowsAt x1 (trip n))) 16) (chunk j) = cumOf (lowB x3) (rowsB x1) (32 * n + j) := by
  funext t k
  rw [part, cumN_at]
  refine congrArg (fun lf => cum lf t k) (funext fun t => funext fun k => ?_)
  have h := rowsAt_at x1 n hn ⟨(chunk j).val * 16 + t.val, by have := (chunk j).isLt; omega⟩ k
  rw [row_eq n j hn hj t] at h
  refine Eq.trans ?_ (congrArg (gate (lowB x3 k)) h)
  pointwise [logV, k0_pay12, k0_pay1, k0_pay10, gate]

/-- THE STATE within trip `n`, before its chunk `j`. -/
theorem st_at (st : Vec Ideal S1x128x128 .f32) (n : ℕ) (hn : n < 4)
    (h0 : ∀ e k, st (ix3 0 e k) = stateAt (lowB x3) (rowsB x1) (rowsB x2) (stB x4) (32 * n) e k) (j : ℕ) (hj : j ≤ 32) :
    (fun e k => stV (k0_pay54 (cumN rowNo (logV x3 (rowsAt x1 (trip n))) 16)) (k0_pay52 (keyV x3 (rowsAt x1 (trip n))) (cumN rowNo (logV x3 (rowsAt x1 (trip n))) 16))
      (k0_pay53 (k0_pay11 (rowsAt x2 (trip n)))) st j (ix2 e k)) = stateAt (lowB x3) (rowsB x1) (rowsB x2) (stB x4) (32 * n + j) := by
  induction j with
  | zero =>
    funext e k
    refine Eq.trans ?_ (h0 e k)
    show shapeCast S128x128 st _ _ = _
    pointwise
  | succ j ih =>
    funext e k
    rw [stV_succ_at, ih (by omega), part_key x1 x3 n j hn (by omega), part_v x2 n j hn (by omega), part_cum x1 x3 n j hn (by omega)]
    rfl

/-- THE STATE before trip `n`. -/
theorem carry_at (n : ℕ) (hn : n ≤ 4) (e k : Fin 128) :
    carry x3 rowNo x1 x2 (k0_pay3 x4) n (ix3 0 e k) = stateAt (lowB x3) (rowsB x1) (rowsB x2) (stB x4) (32 * n) e k := by
  induction n generalizing e k with
  | zero =>
    show k0_pay3 x4 _ = x4 _
    pointwise [k0_pay3]
  | succ n ih =>
    have h := congrFun (congrFun (st_at x1 x2 x3 x4 (carry x3 rowNo x1 x2 (k0_pay3 x4) n) n (by omega) (fun e k => ih (by omega) e k) 32 (le_refl _)) e) k
    refine Eq.trans ?_ h
    show nextV x3 rowNo _ _ _ _ = _
    unfold nextV
    pointwise

/-- THE ROWS of trip `n`'s chunk `j` before normalisation. -/
theorem raw_at (n j : ℕ) (hn : n < 4) (hj : j < 32) (t : Fin 16) (e : Fin 128) :
    rawV rowNo (k0_pay9 (rowsAt x0 (trip n))) (keyV x3 (rowsAt x1 (trip n))) (k0_pay11 (rowsAt x2 (trip n))) (logV x3 (rowsAt x1 (trip n)))
        (carry x3 rowNo x1 x2 (k0_pay3 x4) n) j (ix2 t e)
      = rawAt (lowB x3) (rowsB x0) (rowsB x1) (rowsB x2) (stB x4) (32 * n + j) t e := by
  rw [rawV_at, st_at x1 x2 x3 x4 _ n hn (fun e k => carry_at x1 x2 x3 x4 n (by omega) e k) j (by omega), part_q x0 n j hn hj,
    part_key x1 x3 n j hn hj, part_v x2 n j hn hj, part_cum x1 x3 n j hn hj]
  rfl

end Trip

/-- Thirty-two pieces of sixteen rows stacked: row `t` of piece `g`. -/
theorem rows32_at (p : ℕ → FVec Ideal S16x128 .f32) (g : Fin 32) (t : Fin 16) (e : Fin 128) :
    concatenate S512x128 0 [⟨S16x128, p 0⟩, ⟨S16x128, p 1⟩, ⟨S16x128, p 2⟩, ⟨S16x128, p 3⟩, ⟨S16x128, p 4⟩, ⟨S16x128, p 5⟩, ⟨S16x128, p 6⟩, ⟨S16x128, p 7⟩, ⟨S16x128, p 8⟩, ⟨S16x128, p 9⟩, ⟨S16x128, p 10⟩, ⟨S16x128, p 11⟩, ⟨S16x128, p 12⟩, ⟨S16x128, p 13⟩, ⟨S16x128, p 14⟩, ⟨S16x128, p 15⟩, ⟨S16x128, p 16⟩, ⟨S16x128, p 17⟩, ⟨S16x128, p 18⟩, ⟨S16x128, p 19⟩, ⟨S16x128, p 20⟩, ⟨S16x128, p 21⟩, ⟨S16x128, p 22⟩, ⟨S16x128, p 23⟩, ⟨S16x128, p 24⟩, ⟨S16x128, p 25⟩, ⟨S16x128, p 26⟩, ⟨S16x128, p 27⟩, ⟨S16x128, p 28⟩, ⟨S16x128, p 29⟩, ⟨S16x128, p 30⟩, ⟨S16x128, p 31⟩] concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S512x128_d0 (ix2 ⟨16 * g.val + t.val, by omega⟩ e) = p g.val (ix2 t e) :=
  concatenate_ofFn_apply (s₁ := S16x128) 0 (fun n : Fin 32 => p n.val) concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S512x128_d0 rfl 16 rfl (ix2 ⟨16 * g.val + t.val, by omega⟩ e) g
    (by show (16 * g.val + t.val) / 16 = g.val; omega) (ix2 t e) (by show t.val = (16 * g.val + t.val) % 16; omega)
    (fun b hb => by match b with | 0 => exact absurd rfl hb | 1 => rfl)

/-- THE BLOCK'S ROWS, a function of the block's queries, forget logits, values, lower bounds and state. -/
def rowsOut (x0 x1 x2 : Vec Ideal S1x2048x128 .f32) (x3 : Vec Ideal S1x128 .f32) (x4 : Vec Ideal S1x1x128x128 .f32) (r : Fin 2048) (e : Fin 128) : EReal :=
  rmsRow (rawAt (lowB x3) (rowsB x0) (rowsB x1) (rowsB x2) (stB x4) (r.val / 16) ⟨r.val % 16, by omega⟩) e

/-- What trip `n` stores at an index. -/
theorem store_at (x0 x1 x2 : Vec Ideal S1x2048x128 .f32) (x3 : Vec Ideal S1x128 .f32) (x4 : Vec Ideal S1x1x128x128 .f32) (n : ℕ) (hn : n < 4) (r : Fin 512) (e : Fin 128) :
    storeV x3 rowNo (rowsAt x0 (trip n)) (rowsAt x1 (trip n)) (rowsAt x2 (trip n)) (carry x3 rowNo x1 x2 (k0_pay3 x4) n) (ix3 0 r e)
      = rowsOut x0 x1 x2 x3 x4 ⟨512 * n + r.val, by omega⟩ e := by
  unfold storeV rowsOut
  rw [norm_at]
  refine congrArg (fun x => rmsRow x e) (funext fun k => ?_)
  have hr : r = ⟨16 * (r.val / 16) + (512 * n + r.val) % 16, by omega⟩ := Fin.ext (by show r.val = 16 * (r.val / 16) + (512 * n + r.val) % 16; omega)
  have h := rows32_at (rawV rowNo (k0_pay9 (rowsAt x0 (trip n))) (keyV x3 (rowsAt x1 (trip n))) (k0_pay11 (rowsAt x2 (trip n))) (logV x3 (rowsAt x1 (trip n)))
        (carry x3 rowNo x1 x2 (k0_pay3 x4) n)) ⟨r.val / 16, by omega⟩ ⟨r.val % 16, by omega⟩ k
  rw [raw_at x0 x1 x2 x3 x4 n _ hn (by show r.val / 16 < 32; omega)] at h
  have e1 : 32 * n + r.val / 16 = (512 * n + r.val) / 16 := by omega
  have e2 : (⟨r.val % 16, by omega⟩ : Fin 16) = ⟨(512 * n + r.val) % 16, by omega⟩ := Fin.ext (by show r.val % 16 = (512 * n + r.val) % 16; omega)
  rw [e1, e2] at h
  rw [← h]
  exact congrArg _ (congrArg (fun r => ix2 r k) hr)

/-- THE BLOCK OF ROWS the body leaves, at an index. -/
theorem outO_at (x0 x1 x2 : Vec Ideal S1x2048x128 .f32) (x3 : Vec Ideal S1x128 .f32) (x4 : Vec Ideal S1x1x128x128 .f32) (r : Fin 2048) (e : Fin 128) :
    outO x0 x1 x2 x3 x4 (ix3 0 r e) = rowsOut x0 x1 x2 x3 x4 r e := by
  have hp : ∀ n, n ≤ 4 → ∀ pc ∈ pieces x3 rowNo x0 x1 x2 (k0_pay3 x4) n, ∀ y, pc.2 y = (fun z : S1x2048x128.Idx => rowsOut x0 x1 x2 x3 x4 (z 1) (z 2)) (pc.1.emb y) := by
    intro n
    induction n with
    | zero => intro _ pc h; exact absurd h (List.not_mem_nil)
    | succ n ih =>
      intro hn pc h
      rcases List.mem_cons.1 h with h | h
      · subst h
        intro y
        obtain ⟨y0, y1, y2, rfl⟩ : ∃ (y0 : Fin 1) (y1 : Fin 512) (y2 : Fin 128), y = ix3 y0 y1 y2 := ⟨y 0, y 1, y 2, eq_ix3 y⟩
        obtain rfl : y0 = 0 := Subsingleton.elim _ _
        refine (store_at x0 x1 x2 x3 x4 n (by omega) y1 y2).trans ?_
        have e : (trip n).val = n := Nat.mod_eq_of_lt (by omega)
        have o := off1_eq (trip n)
        refine congrArg₂ (rowsOut x0 x1 x2 x3 x4) (Fin.ext ?_) (Fin.ext ?_)
        · show 512 * n + y1.val = k0_off1 (trip n) 1 + 1 * y1.val
          rw [o, e]; show 512 * n + y1.val = 512 * n + 1 * y1.val; omega
        · show y2.val = k0_off1 (trip n) 2 + 1 * y2.val
          rw [o]; show y2.val = 0 + 1 * y2.val; omega
      · exact ih (by omega) pc h
  exact View.canon_apply_of_pieces (fun z : S1x2048x128.Idx => rowsOut x0 x1 x2 x3 x4 (z 1) (z 2)) _ (hp 4 (le_refl _)) _ (cover_pieces x3 rowNo x0 x1 x2 (k0_pay3 x4) _)

/-- THE STATE the body leaves, at an index. -/
theorem outS_at (x1 x2 : Vec Ideal S1x2048x128 .f32) (x3 : Vec Ideal S1x128 .f32) (x4 : Vec Ideal S1x1x128x128 .f32) (k e : Fin 128) :
    outS x1 x2 x3 x4 (ix4 0 0 k e) = stateAt (lowB x3) (rowsB x1) (rowsB x2) (stB x4) 128 e k := by
  refine Eq.trans ?_ (carry_at x1 x2 x3 x4 4 (le_refl _) e k)
  unfold outS
  pointwise [k0_pay8]

end Cert.KernelIdeal.Hgrn
-- ==== Proof.HgrnLayer.lean ====
/- The gated recurrence over the whole layer: 8 batch elements, 4 heads of width 128, the projected rows holding queries,
   forget logits and values side by side, every head by the recurrence of one head. -/
module

public import proofs.«01_k».proof.Proof.HgrnModel

@[expose] public section

noncomputable section

namespace Cert.Hgrn

open Idealize.ShloMosaic

/-- Column `k` of head `h`. -/
def lane (h : Fin 4) (k : Fin 128) : Fin 512 := ⟨128 * h.val + k.val, by omega⟩

/-- Column `k` of head `h` in the `c`-th group of 512 columns. -/
def column (c : Fin 5) (h : Fin 4) (k : Fin 128) : Fin 2560 := ⟨512 * c.val + (128 * h.val + k.val), by omega⟩

/-- The lower bounds of head `h`. -/
def headLow (lb : Fin 512 → EReal) (h : Fin 4) (k : Fin 128) : EReal := lb (lane h k)

/-- The rows of group `c` of head `h` of batch element `b`. -/
def headRows (x : Fin 8 → Fin 2048 → Fin 2560 → EReal) (c : Fin 5) (b : Fin 8) (h : Fin 4) (r : Fin 2048) (k : Fin 128) : EReal :=
  x b r (column c h k)

/-- The state a head starts from, values first. -/
def headState (S : Fin 8 → Fin 4 → Fin 128 → Fin 128 → EReal) (b : Fin 8) (h : Fin 4) (e k : Fin 128) : EReal := S b h k e

/-- THE LAYER'S STATE of a head before chunk `n`, values first. -/
def layerState (lb : Fin 512 → EReal) (x : Fin 8 → Fin 2048 → Fin 2560 → EReal) (S : Fin 8 → Fin 4 → Fin 128 → Fin 128 → EReal)
    (b : Fin 8) (h : Fin 4) : ℕ → Fin 128 → Fin 128 → EReal :=
  stateAt (headLow lb h) (headRows x 1 b h) (headRows x 2 b h) (headState S b h)

/-- The layer's rows of a head before normalisation, chunk by chunk. -/
def layerRaw (lb : Fin 512 → EReal) (x : Fin 8 → Fin 2048 → Fin 2560 → EReal) (S : Fin 8 → Fin 4 → Fin 128 → Fin 128 → EReal)
    (b : Fin 8) (h : Fin 4) : ℕ → Fin 16 → Fin 128 → EReal :=
  rawAt (headLow lb h) (headRows x 0 b h) (headRows x 1 b h) (headRows x 2 b h) (headState S b h)

/-- THE LAYER'S ROWS of a head. -/
def layerRows (lb : Fin 512 → EReal) (x : Fin 8 → Fin 2048 → Fin 2560 → EReal) (S : Fin 8 → Fin 4 → Fin 128 → Fin 128 → EReal)
    (b : Fin 8) (h : Fin 4) (r : Fin 2048) (e : Fin 128) : EReal :=
  rmsRow (layerRaw lb x S b h (r.val / 16) ⟨r.val % 16, Nat.mod_lt _ (by decide)⟩) e

end Cert.Hgrn
-- ==== Proof.HgrnArray.lean ====
/- The ideal HGRN2 kernel's two result arrays: every entry is the layer's recurrence at that entry. -/
module

public import proofs.«01_k».proof.Proof.HgrnFrame
public import proofs.«01_k».proof.Proof.HgrnBlock
public import proofs.«01_k».proof.Proof.HgrnLayer
public import Idealize.ShloMosaic.Lib.Pipeline.ValueKit
public import Idealize.ShloMosaic.Lib.StableHlo.ReadAt
public import Idealize.ShloMosaic.Lib.Tactic.CleanTypes

@[expose] public section

set_option maxRecDepth 16384

noncomputable section

namespace Cert.KernelIdeal.Hgrn

open Cert.KernelIdeal Cert.KernelIdeal.Gen Cert.Hgrn Idealize.ShloMosaic

variable (m : (ℓ : Loc nD τ sig) → Buf (Elt Ideal) ℓ) (c : Dev nD)

/-- The lower bounds the host hands the kernel. -/
def argLow (j : Fin 512) : EReal := (V m c main_v14 : FVec Ideal S1x512 .f32) (ix2 0 j)
/-- The projected rows. -/
def argRows (b : Fin 8) (r : Fin 2048) (j : Fin 2560) : EReal := (m ((c.tc : Thread nD τ).loc main_arg0) : FVec Ideal S8x2048x2560 .f32) (ix3 b r j)
/-- The starting states. -/
def argStates (b : Fin 8) (h : Fin 4) (k e : Fin 128) : EReal := (m ((c.tc : Thread nD τ).loc main_arg2) : FVec Ideal S8x4x128x128 .f32) (ix4 b h k e)

/-- The block windows' places, over the grid. -/
theorem places : ∀ t : Fin grid0.N,
    win0_0.index t = ![(grid0.coords t 0).val, 0, (grid0.coords t 1).val]
    ∧ win0_1.index t = ![(grid0.coords t 0).val, 0, 4 + (grid0.coords t 1).val]
    ∧ win0_2.index t = ![(grid0.coords t 0).val, 0, 8 + (grid0.coords t 1).val]
    ∧ win0_3.index t = ![0, (grid0.coords t 1).val]
    ∧ win0_4.index t = ![(grid0.coords t 0).val, (grid0.coords t 1).val, 0, 0]
    ∧ win0_5.index t = ![(grid0.coords t 0).val, 0, (grid0.coords t 1).val]
    ∧ win0_6.index t = ![(grid0.coords t 0).val, (grid0.coords t 1).val, 0, 0] := by decide +kernel

/-- The batch element and head of a grid point. -/
def bOf (t : Fin grid0.N) : Fin 8 := ⟨(grid0.coords t 0).val, (grid0.coords t 0).isLt⟩
def hOf (t : Fin grid0.N) : Fin 4 := ⟨(grid0.coords t 1).val, (grid0.coords t 1).isLt⟩

theorem block0 (t : Fin grid0.N) : rowsB (iblk m c 0 t) = headRows (argRows m c) 0 (bOf t) (hOf t) := by
  obtain ⟨h0, h1, h2, h3, h4, h5, h6⟩ := places t
  funext r k
  unfold rowsB headRows argRows
  blk_ext [iblk, V, V_main_arg0, h0, bOf, hOf, column]

theorem block1 (t : Fin grid0.N) : rowsB (iblk m c 1 t) = headRows (argRows m c) 1 (bOf t) (hOf t) := by
  obtain ⟨h0, h1, h2, h3, h4, h5, h6⟩ := places t
  funext r k
  unfold rowsB headRows argRows
  blk_ext [iblk, V, V_main_arg0, h1, bOf, hOf, column]

theorem block2 (t : Fin grid0.N) : rowsB (iblk m c 2 t) = headRows (argRows m c) 2 (bOf t) (hOf t) := by
  obtain ⟨h0, h1, h2, h3, h4, h5, h6⟩ := places t
  funext r k
  unfold rowsB headRows argRows
  blk_ext [iblk, V, V_main_arg0, h2, bOf, hOf, column]

theorem block3 (t : Fin grid0.N) : lowB (iblk m c 3 t) = headLow (argLow m c) (hOf t) := by
  obtain ⟨h0, h1, h2, h3, h4, h5, h6⟩ := places t
  funext k
  unfold lowB headLow argLow
  blk_ext [iblk, h3, bOf, hOf, lane]

theorem block4 (t : Fin grid0.N) : stB (iblk m c 4 t) = headState (argStates m c) (bOf t) (hOf t) := by
  obtain ⟨h0, h1, h2, h3, h4, h5, h6⟩ := places t
  funext e k
  unfold stB headState argStates
  blk_ext [iblk, V, V_main_arg2, h4, bOf, hOf]

/-- The rows array: at batch element `b`, row `r`, column `j`, the layer's rows of the head of `j`. -/
def arrRows : FVec Ideal S8x2048x512 .f32 := fun i =>
  layerRows (argLow m c) (argRows m c) (argStates m c) (i 0) ⟨(i 2).val / 128, by have := (i 2).isLt; simp at this; omega⟩ (i 1)
    ⟨(i 2).val % 128, Nat.mod_lt _ (by decide)⟩

/-- The rows array at a head's column. -/
theorem arrRows_at (b : Fin 8) (h : Fin 4) (r : Fin 2048) (e : Fin 128) :
    arrRows m c (ix3 b r (lane h e)) = layerRows (argLow m c) (argRows m c) (argStates m c) b h r e := by
  have e1 : (⟨(lane h e).val / 128, by have := (lane h e).isLt; omega⟩ : Fin 4) = h := Fin.ext (by simp only [lane]; omega)
  have e2 : (⟨(lane h e).val % 128, Nat.mod_lt _ (by decide)⟩ : Fin 128) = e := Fin.ext (by simp only [lane]; omega)
  show layerRows _ _ _ b (⟨(lane h e).val / 128, _⟩ : Fin 4) r (⟨(lane h e).val % 128, _⟩ : Fin 128) = _
  rw [e1, e2]

/-- The states array: the layer's states after all 128 chunks, keys first. -/
def arrStates : FVec Ideal S8x4x128x128 .f32 := fun i =>
  layerState (argLow m c) (argRows m c) (argStates m c) (i 0) (i 1) 128 (i 3) (i 2)

/-- The rows a grid point leaves in its block. -/
theorem rowsPoint (t : Fin grid0.N) (r : Fin 2048) (e : Fin 128) :
    (outsAt0 m c t).1 (ix3 0 r e) = layerRows (argLow m c) (argRows m c) (argStates m c) (bOf t) (hOf t) r e := by
  unfold outsAt0
  dsimp only
  rw [outO_at]
  unfold rowsOut layerRows layerRaw
  rw [block0, block1, block2, block3, block4]

/-- The state a grid point leaves in its block. -/
theorem statePoint (t : Fin grid0.N) (k e : Fin 128) :
    (outsAt0 m c t).2 (ix4 0 0 k e) = layerState (argLow m c) (argRows m c) (argStates m c) (bOf t) (hOf t) 128 e k := by
  unfold outsAt0
  dsimp only
  rw [outS_at]
  unfold layerState
  rw [block1, block2, block3, block4]

/-- THE ROWS the kernel leaves. -/
theorem rows_eq : (dats m 0 c).arrAt 5 cfg0.N = arrRows m c := by
  refine (dats m 0 c).arrAt_eq_of_covers 5 _ (by decide +kernel) fun t hf y => ?_
  blk_simp
  rw [after0_5]
  obtain ⟨h0, h1, h2, h3, h4, h5, h6⟩ := places t
  obtain ⟨y0, r, e, rfl⟩ : ∃ (y0 : Fin 1) (r : Fin 2048) (e : Fin 128), y = ix3 y0 r e := ⟨y 0, y 1, y 2, eq_ix3 y⟩
  obtain rfl : y0 = 0 := Subsingleton.elim _ _
  have hp : (win0_5.blk t).view.emb (ix3 (0 : Fin 1) r e) = ix3 (bOf t) r (lane (hOf t) e) := by
    blk_ext [h5, bOf, hOf, lane]
  rw [hp]
  exact (rowsPoint m c t r e).trans (arrRows_at m c (bOf t) (hOf t) r e).symm

/-- THE STATES the kernel leaves. -/
theorem states_eq : (dats m 0 c).arrAt 6 cfg0.N = arrStates m c := by
  refine (dats m 0 c).arrAt_eq_of_covers 6 _ (by decide +kernel) fun t hf y => ?_
  blk_simp
  rw [after0_6]
  obtain ⟨h0, h1, h2, h3, h4, h5, h6⟩ := places t
  obtain ⟨y0, y1, k, e, rfl⟩ : ∃ (y0 y1 : Fin 1) (k e : Fin 128), y = ix4 y0 y1 k e := ⟨y 0, y 1, y 2, y 3, eq_ix4 y⟩
  obtain rfl : y0 = 0 := Subsingleton.elim _ _
  obtain rfl : y1 = 0 := Subsingleton.elim _ _
  have hp : (win0_6.blk t).view.emb (ix4 (0 : Fin 1) (0 : Fin 1) k e) = ix4 (bOf t) (hOf t) k e := by
    blk_ext [h6, bOf, hOf]
  rw [hp]
  exact statePoint m c t k e

end Cert.KernelIdeal.Hgrn
-- ==== Proof.RefAt.lean ====
/- The ideal reference, at an index: what it prepares for its loop, and what one chunk of its loop computes. -/
module

public import proofs.«01_k».proof.Proof.Gen.ReferenceIdeal.Step
public import proofs.«01_k».proof.Proof.HgrnLayer
public import Idealize.ShloMosaic.Lib.Pointwise
public import Idealize.ShloMosaic.Lib.DynamicIndex

@[expose] public section

set_option maxRecDepth 16384

noncomputable section

namespace Cert.ReferenceIdeal.At

open Cert.ReferenceIdeal Cert.ReferenceIdeal.Gen Cert.ReferenceIdeal.Step Cert.Hgrn Idealize.ShloMosaic

/-! The running sum along a chunk's sixteen rows. -/

/-- A left fold that adds terms is the sum of the terms. -/
theorem foldl_add_eq_sum {α : Type} (L : List α) (g : α → EReal) (r : EReal) : L.foldl (fun r n => r + g n) r = r + (L.map g).sum := by
  induction L generalizing r with
  | nil => simp
  | cons a L ih => rw [List.foldl_cons, ih, List.map_cons, List.sum_cons, add_assoc]

/-- A window of sixteen entries ending at `t`, entries before the first left out, holds the entries at or below `t`. -/
theorem window_sum (f : ℕ → EReal) (t : ℕ) (ht : t < 16) :
    (∑ n ∈ Finset.range 16, if 15 ≤ t + n then f (t + n - 15) else 0) = ∑ s ∈ Finset.range 16, if s ≤ t then f s else 0 := by
  interval_cases t <;> simp [Finset.sum_range_succ]

/-- The window's shape. -/
abbrev Win : Shape := ⟨4, ![1, 16, 1, 1]⟩

/-- The window's positions in order. -/
theorem win_pos : ∀ n : Fin Win.numel, ∀ a : Fin 4, (Win.rowMajor.symm n a).val = if a = 1 then n.val else 0 := by decide +kernel

/-- The running sum of a chunk's rows at an index. -/
theorem running_at (x : FVec Ideal S8x16x4x128 .f32)
    (h : S8x16x4x128.ReduceWindows ![1, 16, 1, 1] ![1, 1, 1, 1] ![0, 15, 0, 0] ![0, 0, 0, 0] S8x16x4x128)
    (b : Fin 8) (t : Fin 16) (e : Fin 4) (k : Fin 128) :
    Ideal.hostReduceWindowAdd ![1, 16, 1, 1] ![1, 1, 1, 1] ![0, 15, 0, 0] ![0, 0, 0, 0] h x 0 (ix4 b t e k)
      = ∑ s : Fin 16, if s ≤ t then x (ix4 b s e k) else 0 := by
  let f : ℕ → EReal := fun s => if hs : s < 16 then x (ix4 b ⟨s, hs⟩ e k) else 0
  unfold Ideal.hostReduceWindowAdd Host.reduceWindow
  dsimp only
  rw [foldl_add_eq_sum, zero_add, ← List.ofFn_eq_map, List.sum_ofFn]
  have e1 : (∑ s : Fin 16, if s ≤ t then x (ix4 b s e k) else 0) = ∑ s ∈ Finset.range 16, if s ≤ t.val then f s else 0 := by
    rw [← Fin.sum_univ_eq_sum_range (fun s => if s ≤ t.val then f s else 0)]
    refine Finset.sum_congr rfl fun s _ => ?_
    show (if s.val ≤ t.val then _ else _) = if s.val ≤ t.val then (if hs : s.val < 16 then _ else _) else _
    rw [dif_pos s.isLt]
  rw [e1, ← window_sum f t.val t.isLt, ← Fin.sum_univ_eq_sum_range (fun n => if 15 ≤ t.val + n then f (t.val + n - 15) else 0)]
  show (∑ n : Fin Win.numel, _) = _
  refine Fintype.sum_equiv (finCongr (by decide : Win.numel = 16)) _ _ fun n => ?_
  have hn : n.val < 16 := n.isLt
  have p := win_pos n
  have p1 : (Win.rowMajor.symm n 1).val = n.val := p 1
  show _ = if 15 ≤ t.val + n.val then f (t.val + n.val - 15) else 0
  split
  · next hin =>
    have h1 := hin 1
    change 15 ≤ t.val * 1 + (Win.rowMajor.symm n 1).val ∧ _ at h1
    rw [p1] at h1
    rw [if_pos (by omega)]
    show _ = if hs : t.val + n.val - 15 < 16 then _ else _
    rw [dif_pos (by omega)]
    refine congrArg x (funext fun a => Fin.ext ?_)
    match a with
    | 0 => show b.val * 1 + (Win.rowMajor.symm n 0).val - 0 = b.val; rw [p 0]; simp
    | 1 => show t.val * 1 + (Win.rowMajor.symm n 1).val - 15 = t.val + n.val - 15; rw [p1]; simp
    | 2 => show e.val * 1 + (Win.rowMajor.symm n 2).val - 0 = e.val; rw [p 2]; simp
    | 3 => show k.val * 1 + (Win.rowMajor.symm n 3).val - 0 = k.val; rw [p 3]; simp
  · next hin =>
    rw [if_neg]
    intro hle
    refine hin fun a => ?_
    match a with
    | 0 => show 0 ≤ b.val * 1 + (Win.rowMajor.symm n 0).val ∧ b.val * 1 + (Win.rowMajor.symm n 0).val - 0 < 8; rw [p 0]; simp
    | 1 => show 15 ≤ t.val * 1 + (Win.rowMajor.symm n 1).val ∧ t.val * 1 + (Win.rowMajor.symm n 1).val - 15 < 16; rw [p1]; omega
    | 2 => show 0 ≤ e.val * 1 + (Win.rowMajor.symm n 2).val ∧ e.val * 1 + (Win.rowMajor.symm n 2).val - 0 < 4; rw [p 2]; simp
    | 3 => show 0 ≤ k.val * 1 + (Win.rowMajor.symm n 3).val ∧ k.val * 1 + (Win.rowMajor.symm n 3).val - 0 < 128; rw [p 3]; simp

/-! What the reference hands its loop. -/

section Prepared

variable (x : FVec Ideal S8x2048x2560 .f32) (l : FVec Ideal S2x512 .f32)

/-- The lower bounds. -/
def low (j : Fin 512) : EReal := A_main_v13 (F := Ideal) x l (ix1 j)

/-- The row of an array a chunk's row is. -/
theorem row_of (n : Fin 128) (t : Fin 16) (h : n.val * 16 + t.val < 2048) : (⟨n.val * 16 + t.val, h⟩ : Fin 2048) = rowOf n.val t :=
  Fin.ext (by show n.val * 16 + t.val = (16 * n.val + t.val) % 2048; omega)

/-- The queries in chunks. -/
theorem q_at (n : Fin 128) (b : Fin 8) (t : Fin 16) (h : Fin 4) (k : Fin 128) :
    A_main_v49 (F := Ideal) x l (ix5 n b t h k) = x (ix3 b (rowOf n.val t) (column 0 h k)) := by
  pointwise [A_main_v49, A_main_v48, A_main_v47, A_main_v14]
  rw [row_of]
  refine congrArg (fun j => x (ix3 b (rowOf n.val t) j)) (Fin.ext ?_)
  simp only [column, Fin.val_zero]; omega

/-- The values in chunks. -/
theorem v_at (n : Fin 128) (b : Fin 8) (t : Fin 16) (h : Fin 4) (k : Fin 128) :
    A_main_v55 (F := Ideal) x l (ix5 n b t h k) = x (ix3 b (rowOf n.val t) (column 2 h k)) := by
  pointwise [A_main_v55, A_main_v54, A_main_v53, A_main_v16]
  rw [row_of]
  refine congrArg (fun j => x (ix3 b (rowOf n.val t) j)) (Fin.ext ?_)
  show 1024 + (h.val * 128 + k.val) = 512 * 2 + (128 * h.val + k.val); omega

/-- Head and column of the lower bounds. -/
theorem lane_of (h : Fin 4) (k : Fin 128) (hb : h.val * 128 + k.val < 512) : (⟨h.val * 128 + k.val, hb⟩ : Fin 512) = lane h k :=
  Fin.ext (by show h.val * 128 + k.val = 128 * h.val + k.val; omega)

/-- Head and column of the forget logits. -/
theorem forget_of (h : Fin 4) (k : Fin 128) (hb : 512 + (h.val * 128 + k.val) < 2560) : (⟨512 + (h.val * 128 + k.val), hb⟩ : Fin 2560) = column 1 h k :=
  Fin.ext (by show 512 + (h.val * 128 + k.val) = 512 * 1 + (128 * h.val + k.val); omega)

/-- The keys in chunks. -/
theorem k_at (n : Fin 128) (b : Fin 8) (t : Fin 16) (h : Fin 4) (k : Fin 128) :
    A_main_v52 (F := Ideal) x l (ix5 n b t h k) = key (low x l (lane h k)) (x (ix3 b (rowOf n.val t) (column 1 h k))) := by
  pointwise [A_main_v52, A_main_v51, A_main_v50, A_main_v43, A_main_v42, A_main_v41, A_main_v40, A_main_v38, A_main_v36, A_main_v35,
    A_main_v34, A_main_v33, A_main_v15, K_main_v32, K_main_v37, K_main_v39, K_main_cst_5, K_main_cst_6, K_main_cst_7]
  simp only [row_of, lane_of, forget_of, key, low, zero_sub]

/-- The log decays in chunks. -/
theorem g_at (n : Fin 128) (b : Fin 8) (t : Fin 16) (h : Fin 4) (k : Fin 128) :
    A_main_v58 (F := Ideal) x l (ix5 n b t h k) = gate (low x l (lane h k)) (x (ix3 b (rowOf n.val t) (column 1 h k))) := by
  pointwise [A_main_v58, A_main_v57, A_main_v56, A_main_v31, A_main_v30, A_main_v29, A_main_v28, A_main_v27, A_main_v26, A_main_v25,
    A_main_v24, A_main_v22, A_main_v20, A_main_v19, A_main_v18, A_main_v15, K_main_v17, K_main_v21, K_main_v23, K_main_cst_2, K_main_cst_3, K_main_cst_4]
  simp only [row_of, lane_of, forget_of, gate, low, zero_sub]

end Prepared

/-! One chunk. -/

section Chunk

variable (j : ℕ) (hj : j < 128) (s : State Ideal)

include hj

/-- Where a chunk's reads and writes start. -/
theorem start_at (z : Fin 5 → (⟨S_, .i32⟩ : BufTy).Contents (Elt Ideal)) (h0 : z 0 = constantI S_ 32 (BitVec.ofNat 32 j))
    (hz : ∀ a : Fin 5, a ≠ 0 → z a = constantI S_ 32 0#32) (a : Fin 5) :
    (z a (Shape.Idx.first h_S_)).toInt = ((![j, 0, 0, 0, 0] : Fin 5 → ℕ) a : ℤ) := by
  by_cases h : a = 0
  · subst h
    rw [h0]
    exact toInt_ofNat_of_lt (by omega)
  · rw [hz a h]
    match a with
    | 0 => exact absurd rfl h
    | 1 => rfl
    | 2 => rfl
    | 3 => rfl
    | 4 => rfl

/-- Reading chunk `j` of an array of chunks. -/
theorem slice_at (x : FVec Ideal S128x8x16x4x128 .f32) (z : Fin 5 → (⟨S_, .i32⟩ : BufTy).Contents (Elt Ideal))
    (h0 : z 0 = constantI S_ 32 (BitVec.ofNat 32 j)) (hz : ∀ a : Fin 5, a ≠ 0 → z a = constantI S_ 32 0#32)
    (hf : S128x8x16x4x128.Slices (fun _ => 0) S1x8x16x4x128)
    (b : Fin 8) (t : Fin 16) (h : Fin 4) (k : Fin 128) :
    Host.dynamicSlice S1x8x16x4x128 x (fun a => (z a (Shape.Idx.first h_S_)).toInt) hf (ix5 0 b t h k) = x (ix5 ⟨j, hj⟩ b t h k) := by
  have hoff : S128x8x16x4x128.Slices ![j, 0, 0, 0, 0] S1x8x16x4x128 := ⟨rfl, fun a => by
    match a with
    | 0 => show j + 1 ≤ 128; omega
    | 1 => show 0 + 8 ≤ 8; omega
    | 2 => show 0 + 16 ≤ 16; omega
    | 3 => show 0 + 4 ≤ 4; omega
    | 4 => show 0 + 128 ≤ 128; omega⟩
  rw [Host.dynamicSlice_eq_extractStridedSlice _ x _ ![j, 0, 0, 0, 0] hf hoff fun a => start_at j hj z h0 hz a]
  pointwise

theorem others (z0 z1 z2 z3 z4 : (⟨S_, .i32⟩ : BufTy).Contents (Elt Ideal)) (e1 : z1 = constantI S_ 32 0#32) (e2 : z2 = constantI S_ 32 0#32)
    (e3 : z3 = constantI S_ 32 0#32) (e4 : z4 = constantI S_ 32 0#32) (a : Fin 5) (h : a ≠ 0) :
    (![z0, z1, z2, z3, z4] : Fin 5 → (⟨S_, .i32⟩ : BufTy).Contents (Elt Ideal)) a = constantI S_ 32 0#32 := by
  match a with
  | 0 => exact absurd rfl h
  | 1 => exact e1
  | 2 => exact e2
  | 3 => exact e3
  | 4 => exact e4

/-- The chunk's queries. -/
theorem b5_at (b : Fin 8) (t : Fin 16) (h : Fin 4) (k : Fin 128) : b5 j s (ix4 b t h k) = s.main_v60_0 (ix5 ⟨j, hj⟩ b t h k) := by
  have e : b5 j s (ix4 b t h k) = b4 j s (ix5 0 b t h k) := by pointwise [b5]
  rw [e]
  exact slice_at j hj s.main_v60_0 _ rfl (others j hj _ _ _ _ _ rfl rfl rfl rfl) _ b t h k

/-- The chunk's keys. -/
theorem b11_at (b : Fin 8) (t : Fin 16) (h : Fin 4) (k : Fin 128) : b11 j s (ix4 b t h k) = s.main_v60_1 (ix5 ⟨j, hj⟩ b t h k) := by
  have e : b11 j s (ix4 b t h k) = b10 j s (ix5 0 b t h k) := by pointwise [b11]
  rw [e]
  exact slice_at j hj s.main_v60_1 _ rfl (others j hj _ _ _ _ _ rfl rfl rfl rfl) _ b t h k

/-- The chunk's values. -/
theorem b17_at (b : Fin 8) (t : Fin 16) (h : Fin 4) (k : Fin 128) : b17 j s (ix4 b t h k) = s.main_v60_2 (ix5 ⟨j, hj⟩ b t h k) := by
  have e : b17 j s (ix4 b t h k) = b16 j s (ix5 0 b t h k) := by pointwise [b17]
  rw [e]
  exact slice_at j hj s.main_v60_2 _ rfl (others j hj _ _ _ _ _ rfl rfl rfl rfl) _ b t h k

/-- The chunk's log decays. -/
theorem b23_at (b : Fin 8) (t : Fin 16) (h : Fin 4) (k : Fin 128) : b23 j s (ix4 b t h k) = s.main_v60_3 (ix5 ⟨j, hj⟩ b t h k) := by
  have e : b23 j s (ix4 b t h k) = b22 j s (ix5 0 b t h k) := by pointwise [b23]
  rw [e]
  exact slice_at j hj s.main_v60_3 _ rfl (others j hj _ _ _ _ _ rfl rfl rfl rfl) _ b t h k

omit hj

/-- The accumulated log decays. -/
theorem b26_at (b : Fin 8) (t : Fin 16) (h : Fin 4) (k : Fin 128) :
    b26 j s (ix4 b t h k) = cum (fun r e => b23 j s (ix4 b r h e)) t k := by
  have e : b25 j s (Shape.Idx.first h_S_) = (0 : EReal) := by pointwise [b25, b24]
  unfold b26 Host.reduceWindowAdd
  rw [e]
  exact running_at (b23 j s) _ b t h k

/-- The mask keeps the rows at or below. -/
theorem mask_at : ∀ t r : Fin 16, Scalar.select (IntOp.cmpi CmpIPredicate.sge (IntOp.addi (BitVec.ofNat 32 t.val) 0#32) (BitVec.ofNat 32 r.val)) (1#1) (0#1)
    = if r ≤ t then 1#1 else 0#1 := by decide +kernel

/-- The scores. -/
theorem b45_at (b : Fin 8) (t r : Fin 16) (h : Fin 4) :
    b45 j s (ix4 b t r h) = score (fun t k => b5 j s (ix4 b t h k)) (fun t k => b11 j s (ix4 b t h k)) (fun t k => b26 j s (ix4 b t h k)) t r := by
  pointwise [b45, b44, b43, b42, b41, b40, b39, b38, b37, b36, b35, b34, b33, b32, b31, b30, b29, b28, b27, K_main_v46, K_main_v45, K_main_v44,
    K_main_call1_v5, K_main_call1_v4, K_main_call1_v3, K_main_call1_v2, K_main_call1_v1, K_main_call1_v0, K_main_call1_c, K_main_call1_c_0, K_main_c]
  refine Finset.sum_congr rfl fun k _ => ?_
  rw [mask_at]
  unfold wt
  split
  · rw [show ∀ a b : EReal, Scalar.select 1#1 a b = a from fun _ _ => rfl]
    rw [mul_assoc, mul_assoc, mul_comm (b11 j s _)]
  · rw [show ∀ a b : EReal, Scalar.select 0#1 a b = b from fun _ _ => rfl]
    rw [show Ideal.ofBits .f32 0xFF800000#32 = ⊥ by simp [Ideal.ofBits, Ideal.ieee], Ideal.exp_bot]
    simp

/-- The chunk's rows before normalisation. -/
theorem b52_at (b : Fin 8) (t : Fin 16) (h : Fin 4) (e : Fin 128) :
    b52 j s (ix4 b t h e) = outC (fun t k => b5 j s (ix4 b t h k)) (fun t k => b11 j s (ix4 b t h k)) (fun t k => b17 j s (ix4 b t h k))
      (fun t k => b26 j s (ix4 b t h k)) (fun e k => s.main_v60_6 (ix4 b h k e)) t e := by
  have e0 : b52 j s (ix4 b t h e) = ∑ r : Fin 16, b17 j s (ix4 b r h e) * b45 j s (ix4 b t r h)
      + ∑ k : Fin 128, s.main_v60_6 (ix4 b h k e) * (b5 j s (ix4 b t h k) * Ideal.exp (b26 j s (ix4 b t h k))) := by
    pointwise [b52, b51, b50, b49, b48, b47, b46]
  rw [e0]
  unfold outC
  refine congrArg₂ _ (Finset.sum_congr rfl fun r _ => ?_) (Finset.sum_congr rfl fun k _ => mul_comm _ _)
  rw [b45_at, mul_comm]

/-- The state after the chunk. -/
theorem b65_at (b : Fin 8) (h : Fin 4) (k e : Fin 128) :
    b65 j s (ix4 b h k e) = nextC (fun t k => b11 j s (ix4 b t h k)) (fun t k => b17 j s (ix4 b t h k))
      (fun t k => b26 j s (ix4 b t h k)) (fun e k => s.main_v60_6 (ix4 b h k e)) e k := by
  pointwise [b65, b64, b63, b62, b61, b60, b59, b58, b57, b56, b55, b54, b53]
  unfold nextC
  exact congrArg₂ _ (mul_comm _ _) (Finset.sum_congr rfl fun r _ => mul_comm _ _)

include hj

/-- The rows array after chunk `j`: that chunk's rows, the others as before. -/
theorem b71_at (n : Fin 128) (b : Fin 8) (t : Fin 16) (h : Fin 4) (e : Fin 128) :
    b71 j s (ix5 n b t h e) = if n.val = j then b52 j s (ix4 b t h e) else s.main_v60_7 (ix5 n b t h e) := by
  have hoff : S128x8x16x4x128.Slices ![j, 0, 0, 0, 0] S1x8x16x4x128 := ⟨rfl, fun a => by
    match a with
    | 0 => show j + 1 ≤ 128; omega
    | 1 => show 0 + 8 ≤ 8; omega
    | 2 => show 0 + 16 ≤ 16; omega
    | 3 => show 0 + 4 ≤ 4; omega
    | 4 => show 0 + 128 ≤ 128; omega⟩
  unfold b71
  rw [Host.dynamicUpdateSlice_eq_updateSlice _ _ _ _ ![j, 0, 0, 0, 0] (fun a => by
    have hs := start_at j hj (![constantI S_ 32 (BitVec.ofNat 32 j), b67 j s, b68 j s, b69 j s, b70 j s]) rfl
      (others j hj _ _ _ _ _ rfl rfl rfl rfl) a
    refine Eq.trans (congrArg (fun i : ℤ => (min (max i 0) _).toNat) hs) ?_
    match a with
    | 0 => show (min (max ((j : ℕ) : ℤ) 0) ((128 - 1 : ℕ) : ℤ)).toNat = j; omega
    | 1 => rfl
    | 2 => rfl
    | 3 => rfl
    | 4 => rfl) hoff]
  pointwise [b66]
  by_cases hn : n.val = j
  · rw [if_pos hn, dif_pos (by omega)]
  · rw [if_neg hn, dif_neg (by omega)]

end Chunk

end Cert.ReferenceIdeal.At
-- ==== Proof.RefLayer.lean ====
/- The ideal reference's loop is the layer's recurrence: its state before chunk `n`, the rows it has written, and the
   rows and states it returns. -/
module

public import proofs.«01_k».proof.Proof.RefAt

@[expose] public section

set_option maxRecDepth 16384

noncomputable section

namespace Cert.ReferenceIdeal.At

open Cert.ReferenceIdeal Cert.ReferenceIdeal.Gen Cert.ReferenceIdeal.Step Cert.Hgrn Idealize.ShloMosaic

variable (x : FVec Ideal S8x2048x2560 .f32) (l : FVec Ideal S2x512 .f32) (S : FVec Ideal S8x4x128x128 .f32)

/-- The projected rows. -/
def rowsA (b : Fin 8) (r : Fin 2048) (j : Fin 2560) : EReal := x (ix3 b r j)
/-- The starting states. -/
def statesA (b : Fin 8) (h : Fin 4) (k e : Fin 128) : EReal := S (ix4 b h k e)

/-- The loop's values. -/
def loop : ℕ → State Ideal
  | 0 => init S x l
  | n + 1 => step n (loop n)

/-- What holds before chunk `n`: the chunks are as prepared, the state is the layer's, the rows written so far are the layer's. -/
structure Before (n : ℕ) (s : State Ideal) : Prop where
  q : s.main_v60_0 = A_main_v49 (F := Ideal) x l
  k : s.main_v60_1 = A_main_v52 (F := Ideal) x l
  v : s.main_v60_2 = A_main_v55 (F := Ideal) x l
  g : s.main_v60_3 = A_main_v58 (F := Ideal) x l
  state : ∀ b h k e, s.main_v60_6 (ix4 b h k e) = layerState (low x l) (rowsA x) (statesA S) b h n e k
  rows : ∀ (i : Fin 128) b t h e, i.val < n → s.main_v60_7 (ix5 i b t h e) = layerRaw (low x l) (rowsA x) (statesA S) b h i.val t e

section Step

variable (n : ℕ) (hn : n < 128) (s : State Ideal) (H : Before x l S n s)

include hn H

theorem queries (b : Fin 8) (h : Fin 4) : (fun t k => b5 n s (ix4 b t h k)) = chunkOf (headRows (rowsA x) 0 b h) n := by
  funext t k
  rw [b5_at n hn, H.q, q_at]
  rfl

theorem keys (b : Fin 8) (h : Fin 4) : (fun t k => b11 n s (ix4 b t h k)) = keysOf (headLow (low x l) h) (headRows (rowsA x) 1 b h) n := by
  funext t k
  rw [b11_at n hn, H.k, k_at]
  rfl

theorem vals (b : Fin 8) (h : Fin 4) : (fun t k => b17 n s (ix4 b t h k)) = chunkOf (headRows (rowsA x) 2 b h) n := by
  funext t k
  rw [b17_at n hn, H.v, v_at]
  rfl

theorem cums (b : Fin 8) (h : Fin 4) : (fun t k => b26 n s (ix4 b t h k)) = cumOf (headLow (low x l) h) (headRows (rowsA x) 1 b h) n := by
  funext t k
  rw [b26_at]
  unfold cumOf
  refine congrArg (fun f => cum f t k) (funext fun r => funext fun e => ?_)
  rw [b23_at n hn, H.g, g_at]
  rfl

theorem states (b : Fin 8) (h : Fin 4) : (fun e k => s.main_v60_6 (ix4 b h k e)) = layerState (low x l) (rowsA x) (statesA S) b h n :=
  funext fun e => funext fun k => H.state b h k e

/-- The next chunk. -/
theorem next : Before x l S (n + 1) (step n s) where
  q := H.q
  k := H.k
  v := H.v
  g := H.g
  state b h k e := by
    rw [step_main_v60_6, b65_at, keys x l S n hn s H, vals x l S n hn s H, cums x l S n hn s H, states x l S n hn s H]
    rfl
  rows i b t h e hi := by
    rw [step_main_v60_7, b71_at n hn]
    by_cases hin : i.val = n
    · rw [if_pos hin, b52_at, queries x l S n hn s H, keys x l S n hn s H, vals x l S n hn s H, cums x l S n hn s H, states x l S n hn s H, hin]
      rfl
    · rw [if_neg hin]
      exact H.rows i b t h e (by omega)

end Step

/-- Before every chunk. -/
theorem before (n : ℕ) (hn : n ≤ 128) : Before x l S n (loop x l S n) := by
  induction n with
  | zero => exact ⟨rfl, rfl, rfl, rfl, fun b h k e => rfl, fun i b t h e hi => absurd hi (Nat.not_lt_zero _)⟩
  | succ n ih => exact next x l S n (by omega) _ (ih (by omega))

/-- THE STATES the reference returns. -/
theorem states_at (b : Fin 8) (h : Fin 4) (k e : Fin 128) :
    (loop x l S 128).main_v60_6 (ix4 b h k e) = layerState (low x l) (rowsA x) (statesA S) b h 128 e k :=
  (before x l S 128 le_rfl).state b h k e

/-- The rows the reference returns, of the loop's rows. -/
theorem norm_at (s : State Ideal) (b : Fin 8) (r : Fin 2048) (h : Fin 4) (e : Fin 128) :
    R_main_v73 s (ix3 b r (lane h e))
      = rmsRow (fun e => s.main_v60_7 (ix5 ⟨r.val / 16, by omega⟩ b ⟨r.val % 16, by omega⟩ h e)) e := by
  have e1 : ∀ p, (⟨(lane h e).val / 128, p⟩ : Fin 4) = h := fun p => Fin.ext (by show (128 * h.val + e.val) / 128 = h.val; omega)
  have e2 : ∀ p, (⟨(lane h e).val % 128, p⟩ : Fin 128) = e := fun p => Fin.ext (by show (128 * h.val + e.val) % 128 = e.val; omega)
  pointwise [R_main_v73, rmsRow]
  simp only [e1, e2]

/-- THE ROWS the reference returns. -/
theorem rows_at (b : Fin 8) (r : Fin 2048) (h : Fin 4) (e : Fin 128) :
    R_main_v73 (loop x l S 128) (ix3 b r (lane h e)) = layerRows (low x l) (rowsA x) (statesA S) b h r e := by
  rw [norm_at]
  refine congrArg (fun f => rmsRow f e) (funext fun e => ?_)
  exact (before x l S 128 le_rfl).rows ⟨r.val / 16, by omega⟩ b ⟨r.val % 16, by omega⟩ h e (by show r.val / 16 < 128; omega)

end Cert.ReferenceIdeal.At
-- ==== Proof.RefTrips.lean ====
/- The reference's counted loop, trip by trip: at contents that hold a state (the carried arrays, the loop's constants, the
   trip's number) each value that one trip computes is the value of that name in the module of one trip, so one trip turns
   contents that hold a state into contents that hold the next one; and the results of a run are the fields of the state after
   128 trips. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v60_6) = s.main_v60_6
  f_7 : V0 (Proc.devRef .tc main_v60_7) = s.main_v60_7
  f_0 : V0 (Proc.devRef .tc main_v60_0) = s.main_v60_0
  f_1 : V0 (Proc.devRef .tc main_v60_1) = s.main_v60_1
  f_2 : V0 (Proc.devRef .tc main_v60_2) = s.main_v60_2
  f_3 : V0 (Proc.devRef .tc main_v60_3) = s.main_v60_3
  n_5 : V0 (Proc.devRef .tc main_v60_5) = constantI S_ 32 (BitVec.ofNat 32 j)
  k_4 : V0 (Proc.devRef .tc main_v60_4) = Cert.ReferenceIdeal.Step.K_main_v46 (F := F)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call2_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call2_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x8x16x4x128 (V0 (Proc.devRef .tc main_v60_0)) (fun k => (((![V0 (Proc.devRef .tc main_v60_5), constantI S_ 32 0#32, constantI S_ 32 0#32, constantI S_ 32 0#32, constantI S_ 32 0#32] : Fin 5 → (⟨S_, .i32⟩ : BufTy).Contents (Elt F))) k (Shape.Idx.first h_S_)).toInt) sliceFits_S128x8x16x4x128_S1x8x16x4x128 : (Proc.devRef .tc main_while0b_call2_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (res_main_while0b_v74 V0 : (Proc.devRef .tc main_while0b_v74 : DevRef τ sig).ty.Contents (Elt F)) = Cert.ReferenceIdeal.Step.b5 j s := by
  unfold res_main_while0b_v74 Cert.ReferenceIdeal.Step.b5
  rw [← al_4 h]
  try rfl
set_option maxRecDepth 8192 in
theorem al_6 (h : Holds V0 s j) : (constantI S_ 32 0#32 : (Proc.devRef .tc main_while0b_call3_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call3_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call3_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call3_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x8x16x4x128 (V0 (Proc.devRef .tc main_v60_1)) (fun k => (((![V0 (Proc.devRef .tc main_v60_5), constantI S_ 32 0#32, constantI S_ 32 0#32, constantI S_ 32 0#32, constantI S_ 32 0#32] : Fin 5 → (⟨S_, .i32⟩ : BufTy).Contents (Elt F))) k (Shape.Idx.first h_S_)).toInt) sliceFits_S128x8x16x4x128_S1x8x16x4x128 : (Proc.devRef .tc main_while0b_call3_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (res_main_while0b_v75 V0 : (Proc.devRef .tc main_while0b_v75 : DevRef τ sig).ty.Contents (Elt F)) = Cert.ReferenceIdeal.Step.b11 j s := by
  unfold res_main_while0b_v75 Cert.ReferenceIdeal.Step.b11
  rw [← al_10 h]
  try rfl
set_option maxRecDepth 8192 in
theorem al_12 (h : Holds V0 s j) : (constantI S_ 32 0#32 : (Proc.devRef .tc main_while0b_call4_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call4_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call4_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call4_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x8x16x4x128 (V0 (Proc.devRef .tc main_v60_2)) (fun k => (((![V0 (Proc.devRef .tc main_v60_5), constantI S_ 32 0#32, constantI S_ 32 0#32, constantI S_ 32 0#32, constantI S_ 32 0#32] : Fin 5 → (⟨S_, .i32⟩ : BufTy).Contents (Elt F))) k (Shape.Idx.first h_S_)).toInt) sliceFits_S128x8x16x4x128_S1x8x16x4x128 : (Proc.devRef .tc main_while0b_call4_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (res_main_while0b_v76 V0 : (Proc.devRef .tc main_while0b_v76 : DevRef τ sig).ty.Contents (Elt F)) = Cert.ReferenceIdeal.Step.b17 j s := by
  unfold res_main_while0b_v76 Cert.ReferenceIdeal.Step.b17
  rw [← al_16 h]
  try rfl
set_option maxRecDepth 8192 in
theorem al_18 (h : Holds V0 s j) : (constantI S_ 32 0#32 : (Proc.devRef .tc main_while0b_call5_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call5_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call5_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call5_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x8x16x4x128 (V0 (Proc.devRef .tc main_v60_3)) (fun k => (((![V0 (Proc.devRef .tc main_v60_5), constantI S_ 32 0#32, constantI S_ 32 0#32, constantI S_ 32 0#32, constantI S_ 32 0#32] : Fin 5 → (⟨S_, .i32⟩ : BufTy).Contents (Elt F))) k (Shape.Idx.first h_S_)).toInt) sliceFits_S128x8x16x4x128_S1x8x16x4x128 : (Proc.devRef .tc main_while0b_call5_v0 : DevRef τ sig).ty.Contents (Elt F)) = Cert.ReferenceIdeal.Step.b22 j s := by
  unfold Cert.ReferenceIdeal.Step.b22
  rw [← al_18 h, ← al_19 h, ← al_20 h, ← al_21 h, h.f_3, h.n_5]
  try rfl
set_option maxRecDepth 8192 in
theorem al_23 (h : Holds V0 s j) : (shapeCast S8x16x4x128 (Host.dynamicSlice S1x8x16x4x128 (V0 (Proc.devRef .tc main_v60_3)) (fun k => (((![V0 (Proc.devRef .tc main_v60_5), constantI S_ 32 0#32, constantI S_ 32 0#32, constantI S_ 32 0#32, constantI S_ 32 0#32] : Fin 5 → (⟨S_, .i32⟩ : BufTy).Contents (Elt F))) k (Shape.Idx.first h_S_)).toInt) sliceFits_S128x8x16x4x128_S1x8x16x4x128) shapeCasts_S1x8x16x4x128_S8x16x4x128 : (Proc.devRef .tc main_while0b_v77 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constant S_ .f32 0x00000000#32 : (Proc.devRef .tc main_while0b_call6_call0_cst : DevRef τ sig).ty.Contents (Elt F)) = Cert.ReferenceIdeal.Step.b24 j s := by
  unfold Cert.ReferenceIdeal.Step.b24
  rfl
set_option maxRecDepth 8192 in
theorem al_25 (h : Holds V0 s j) : (broadcastInDim S_ ![] bcast_S_S_ (constant S_ .f32 0x00000000#32) : (Proc.devRef .tc main_while0b_call6_call0_v0 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v78 V0 : (Proc.devRef .tc main_while0b_v78 : DevRef τ sig).ty.Contents (Elt F)) = Cert.ReferenceIdeal.Step.b26 j s := by
  unfold res_main_while0b_v78 Cert.ReferenceIdeal.Step.b26
  rw [← al_23 h, ← al_25 h]
  try rfl
set_option maxRecDepth 8192 in
theorem al_27 (h : Holds V0 s j) : (broadcastInDim S8x16x1x4x128 ![0, 1, 3, 4] bcast_S8x16x4x128_S8x16x1x4x128_0_1_3_4 (res_main_while0b_v78 V0) : (Proc.devRef .tc main_while0b_v79 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (broadcastInDim S8x1x16x4x128 ![0, 2, 3, 4] bcast_S8x16x4x128_S8x1x16x4x128_0_2_3_4 (res_main_while0b_v78 V0) : (Proc.devRef .tc main_while0b_v80 : DevRef τ sig).ty.Contents (Elt F)) = Cert.ReferenceIdeal.Step.b28 j s := by
  unfold Cert.ReferenceIdeal.Step.b28
  rw [← al_26 h]
  try rfl
set_option maxRecDepth 8192 in
theorem al_29 (h : Holds V0 s j) : (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v78 V0)) : (Proc.devRef .tc main_while0b_v81 : DevRef τ sig).ty.Contents (Elt F)) = Cert.ReferenceIdeal.Step.b29 j s := by
  unfold Cert.ReferenceIdeal.Step.b29
  rw [← al_27 h]
  try rfl
set_option maxRecDepth 8192 in
theorem al_30 (h : Holds V0 s j) : (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v78 V0)) : (Proc.devRef .tc main_while0b_v82 : DevRef τ sig).ty.Contents (Elt F)) = Cert.ReferenceIdeal.Step.b30 j s := by
  unfold Cert.ReferenceIdeal.Step.b30
  rw [← al_28 h]
  try rfl
set_option maxRecDepth 8192 in
theorem al_31 (h : Holds V0 s j) : (subf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v78 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v78 V0))) : (Proc.devRef .tc main_while0b_v83 : DevRef τ sig).ty.Contents (Elt F)) = Cert.ReferenceIdeal.Step.b31 j s := by
  unfold Cert.ReferenceIdeal.Step.b31
  rw [← al_29 h, ← al_30 h]
  try rfl
set_option maxRecDepth 8192 in
theorem al_32 (h : Holds V0 s j) : (constant S_ .f32 0xFF800000#32 : (Proc.devRef .tc main_while0b_cst_20 : DevRef τ sig).ty.Contents (Elt F)) = Cert.ReferenceIdeal.Step.b32 j s := by
  unfold Cert.ReferenceIdeal.Step.b32
  rfl
set_option maxRecDepth 8192 in
theorem al_33 (h : Holds V0 s j) : (id (constant S_ .f32 0xFF800000#32) : (Proc.devRef .tc main_while0b_call7_v0 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (broadcastInDim S8x16x16x4x128 ![0, 1, 2, 3, 4] bcast_S1x16x16x1x1_S8x16x16x4x128_0_1_2_3_4 (V0 (Proc.devRef .tc main_v60_4)) : (Proc.devRef .tc main_while0b_call7_v1 : DevRef τ sig).ty.Contents (Elt F)) = Cert.ReferenceIdeal.Step.b34 j s := by
  unfold Cert.ReferenceIdeal.Step.b34
  rw [h.k_4]
  try rfl
set_option maxRecDepth 8192 in
theorem al_35 (h : Holds V0 s j) : (broadcastInDim S8x16x16x4x128 ![] bcast_S_S8x16x16x4x128 (id (constant S_ .f32 0xFF800000#32)) : (Proc.devRef .tc main_while0b_call7_v2 : DevRef τ sig).ty.Contents (Elt F)) = Cert.ReferenceIdeal.Step.b35 j s := by
  unfold Cert.ReferenceIdeal.Step.b35
  rw [← al_33 h]
  try rfl
set_option maxRecDepth 8192 in
theorem al_36 (h : Holds V0 s j) : (select (broadcastInDim S8x16x16x4x128 ![0, 1, 2, 3, 4] bcast_S1x16x16x1x1_S8x16x16x4x128_0_1_2_3_4 (V0 (Proc.devRef .tc main_v60_4))) (subf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v78 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v78 V0)))) (broadcastInDim S8x16x16x4x128 ![] bcast_S_S8x16x16x4x128 (id (constant S_ .f32 0xFF800000#32))) : (Proc.devRef .tc main_while0b_v84 : DevRef τ sig).ty.Contents (Elt F)) = Cert.ReferenceIdeal.Step.b36 j s := by
  unfold Cert.ReferenceIdeal.Step.b36
  rw [← al_34 h, ← al_31 h, ← al_35 h]
  try rfl
set_option maxRecDepth 8192 in
theorem al_37 (h : Holds V0 s j) : (Host.exp (select (broadcastInDim S8x16x16x4x128 ![0, 1, 2, 3, 4] bcast_S1x16x16x1x1_S8x16x16x4x128_0_1_2_3_4 (V0 (Proc.devRef .tc main_v60_4))) (subf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v78 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v78 V0)))) (broadcastInDim S8x16x16x4x128 ![] bcast_S_S8x16x16x4x128 (id (constant S_ .f32 0xFF800000#32)))) : (Proc.devRef .tc main_while0b_v85 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (broadcastInDim S8x16x1x4x128 ![0, 1, 3, 4] bcast_S8x16x4x128_S8x16x1x4x128_0_1_3_4 (res_main_while0b_v74 V0) : (Proc.devRef .tc main_while0b_v86 : DevRef τ sig).ty.Contents (Elt F)) = Cert.ReferenceIdeal.Step.b38 j s := by
  unfold Cert.ReferenceIdeal.Step.b38
  rw [← al_5 h]
  try rfl
set_option maxRecDepth 8192 in
theorem al_39 (h : Holds V0 s j) : (broadcastInDim S8x1x16x4x128 ![0, 2, 3, 4] bcast_S8x16x4x128_S8x1x16x4x128_0_2_3_4 (res_main_while0b_v75 V0) : (Proc.devRef .tc main_while0b_v87 : DevRef τ sig).ty.Contents (Elt F)) = Cert.ReferenceIdeal.Step.b39 j s := by
  unfold Cert.ReferenceIdeal.Step.b39
  rw [← al_11 h]
  try rfl
set_option maxRecDepth 8192 in
theorem al_40 (h : Holds V0 s j) : (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v74 V0)) : (Proc.devRef .tc main_while0b_v88 : DevRef τ sig).ty.Contents (Elt F)) = Cert.ReferenceIdeal.Step.b40 j s := by
  unfold Cert.ReferenceIdeal.Step.b40
  rw [← al_38 h]
  try rfl
set_option maxRecDepth 8192 in
theorem al_41 (h : Holds V0 s j) : (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v75 V0)) : (Proc.devRef .tc main_while0b_v89 : DevRef τ sig).ty.Contents (Elt F)) = Cert.ReferenceIdeal.Step.b41 j s := by
  unfold Cert.ReferenceIdeal.Step.b41
  rw [← al_39 h]
  try rfl
set_option maxRecDepth 8192 in
theorem al_42 (h : Holds V0 s j) : (mulf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v74 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v75 V0))) : (Proc.devRef .tc main_while0b_v90 : DevRef τ sig).ty.Contents (Elt F)) = Cert.ReferenceIdeal.Step.b42 j s := by
  unfold Cert.ReferenceIdeal.Step.b42
  rw [← al_40 h, ← al_41 h]
  try rfl
set_option maxRecDepth 8192 in
theorem al_43 (h : Holds V0 s j) : (mulf (mulf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v74 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v75 V0)))) (Host.exp (select (broadcastInDim S8x16x16x4x128 ![0, 1, 2, 3, 4] bcast_S1x16x16x1x1_S8x16x16x4x128_0_1_2_3_4 (V0 (Proc.devRef .tc main_v60_4))) (subf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v78 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v78 V0)))) (broadcastInDim S8x16x16x4x128 ![] bcast_S_S8x16x16x4x128 (id (constant S_ .f32 0xFF800000#32))))) : (Proc.devRef .tc main_while0b_v91 : DevRef τ sig).ty.Contents (Elt F)) = Cert.ReferenceIdeal.Step.b43 j s := by
  unfold Cert.ReferenceIdeal.Step.b43
  rw [← al_42 h, ← al_37 h]
  try rfl
set_option maxRecDepth 8192 in
theorem al_44 (h : Holds V0 s j) : (constant S_ .f32 0x00000000#32 : (Proc.devRef .tc main_while0b_cst_21 : DevRef τ sig).ty.Contents (Elt F)) = Cert.ReferenceIdeal.Step.b44 j s := by
  unfold Cert.ReferenceIdeal.Step.b44
  rfl
set_option maxRecDepth 8192 in
theorem al_45 (h : Holds V0 s j) : (Host.reduceAdd (mulf (mulf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v74 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v75 V0)))) (Host.exp (select (broadcastInDim S8x16x16x4x128 ![0, 1, 2, 3, 4] bcast_S1x16x16x1x1_S8x16x16x4x128_0_1_2_3_4 (V0 (Proc.devRef .tc main_v60_4))) (subf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v78 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v78 V0)))) (broadcastInDim S8x16x16x4x128 ![] bcast_S_S8x16x16x4x128 (id (constant S_ .f32 0xFF800000#32)))))) (constant S_ .f32 0x00000000#32) reducesTo_S8x16x16x4x128_S8x16x16x4_d4 h_S_ : (Proc.devRef .tc main_while0b_v92 : DevRef τ sig).ty.Contents (Elt F)) = Cert.ReferenceIdeal.Step.b45 j s := by
  unfold Cert.ReferenceIdeal.Step.b45
  rw [← al_43 h, ← al_44 h]
  try rfl
set_option maxRecDepth 8192 in
theorem al_46 (h : Holds V0 s j) : (Host.dotGeneral dot_S8x16x4x128_S8x16x16x4_S8x4x128x16_1_2_3_1_02_03 none (res_main_while0b_v76 V0) (Host.reduceAdd (mulf (mulf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v74 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v75 V0)))) (Host.exp (select (broadcastInDim S8x16x16x4x128 ![0, 1, 2, 3, 4] bcast_S1x16x16x1x1_S8x16x16x4x128_0_1_2_3_4 (V0 (Proc.devRef .tc main_v60_4))) (subf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v78 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v78 V0)))) (broadcastInDim S8x16x16x4x128 ![] bcast_S_S8x16x16x4x128 (id (constant S_ .f32 0xFF800000#32)))))) (constant S_ .f32 0x00000000#32) reducesTo_S8x16x16x4x128_S8x16x16x4_d4 h_S_) : (Proc.devRef .tc main_while0b_v93 : DevRef τ sig).ty.Contents (Elt F)) = Cert.ReferenceIdeal.Step.b46 j s := by
  unfold Cert.ReferenceIdeal.Step.b46
  rw [← al_17 h, ← al_45 h]
  try rfl
set_option maxRecDepth 8192 in
theorem al_47 (h : Holds V0 s j) : (transpose S8x16x4x128 [0, 3, 1, 2] (Host.dotGeneral dot_S8x16x4x128_S8x16x16x4_S8x4x128x16_1_2_3_1_02_03 none (res_main_while0b_v76 V0) (Host.reduceAdd (mulf (mulf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v74 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v75 V0)))) (Host.exp (select (broadcastInDim S8x16x16x4x128 ![0, 1, 2, 3, 4] bcast_S1x16x16x1x1_S8x16x16x4x128_0_1_2_3_4 (V0 (Proc.devRef .tc main_v60_4))) (subf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v78 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v78 V0)))) (broadcastInDim S8x16x16x4x128 ![] bcast_S_S8x16x16x4x128 (id (constant S_ .f32 0xFF800000#32)))))) (constant S_ .f32 0x00000000#32) reducesTo_S8x16x16x4x128_S8x16x16x4_d4 h_S_)) transposes_S8x4x128x16_S8x16x4x128_0_3_1_2 : (Proc.devRef .tc main_while0b_v94 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (Host.exp (res_main_while0b_v78 V0) : (Proc.devRef .tc main_while0b_v95 : DevRef τ sig).ty.Contents (Elt F)) = Cert.ReferenceIdeal.Step.b48 j s := by
  unfold Cert.ReferenceIdeal.Step.b48
  rw [← al_26 h]
  try rfl
set_option maxRecDepth 8192 in
theorem al_49 (h : Holds V0 s j) : (mulf (res_main_while0b_v74 V0) (Host.exp (res_main_while0b_v78 V0)) : (Proc.devRef .tc main_while0b_v96 : DevRef τ sig).ty.Contents (Elt F)) = Cert.ReferenceIdeal.Step.b49 j s := by
  unfold Cert.ReferenceIdeal.Step.b49
  rw [← al_5 h, ← al_48 h]
  try rfl
set_option maxRecDepth 8192 in
theorem al_50 (h : Holds V0 s j) : (Host.dotGeneral dot_S8x4x128x128_S8x16x4x128_S8x4x128x16_2_3_3_1_01_02 none (V0 (Proc.devRef .tc main_v60_6)) (mulf (res_main_while0b_v74 V0) (Host.exp (res_main_while0b_v78 V0))) : (Proc.devRef .tc main_while0b_v97 : DevRef τ sig).ty.Contents (Elt F)) = Cert.ReferenceIdeal.Step.b50 j s := by
  unfold Cert.ReferenceIdeal.Step.b50
  rw [← al_49 h, h.f_6]
  try rfl
set_option maxRecDepth 8192 in
theorem al_51 (h : Holds V0 s j) : (transpose S8x16x4x128 [0, 3, 1, 2] (Host.dotGeneral dot_S8x4x128x128_S8x16x4x128_S8x4x128x16_2_3_3_1_01_02 none (V0 (Proc.devRef .tc main_v60_6)) (mulf (res_main_while0b_v74 V0) (Host.exp (res_main_while0b_v78 V0)))) transposes_S8x4x128x16_S8x16x4x128_0_3_1_2 : (Proc.devRef .tc main_while0b_v98 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (addf (transpose S8x16x4x128 [0, 3, 1, 2] (Host.dotGeneral dot_S8x16x4x128_S8x16x16x4_S8x4x128x16_1_2_3_1_02_03 none (res_main_while0b_v76 V0) (Host.reduceAdd (mulf (mulf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v74 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v75 V0)))) (Host.exp (select (broadcastInDim S8x16x16x4x128 ![0, 1, 2, 3, 4] bcast_S1x16x16x1x1_S8x16x16x4x128_0_1_2_3_4 (V0 (Proc.devRef .tc main_v60_4))) (subf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v78 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v78 V0)))) (broadcastInDim S8x16x16x4x128 ![] bcast_S_S8x16x16x4x128 (id (constant S_ .f32 0xFF800000#32)))))) (constant S_ .f32 0x00000000#32) reducesTo_S8x16x16x4x128_S8x16x16x4_d4 h_S_)) transposes_S8x4x128x16_S8x16x4x128_0_3_1_2) (transpose S8x16x4x128 [0, 3, 1, 2] (Host.dotGeneral dot_S8x4x128x128_S8x16x4x128_S8x4x128x16_2_3_3_1_01_02 none (V0 (Proc.devRef .tc main_v60_6)) (mulf (res_main_while0b_v74 V0) (Host.exp (res_main_while0b_v78 V0)))) transposes_S8x4x128x16_S8x16x4x128_0_3_1_2) : (Proc.devRef .tc main_while0b_v99 : DevRef τ sig).ty.Contents (Elt F)) = Cert.ReferenceIdeal.Step.b52 j s := by
  unfold Cert.ReferenceIdeal.Step.b52
  rw [← al_47 h, ← al_51 h]
  try rfl
set_option maxRecDepth 8192 in
theorem al_53 (h : Holds V0 s j) : (extractStridedSlice S8x1x4x128 ![0, 15, 0, 0] (res_main_while0b_v78 V0) slices_S8x16x4x128_S8x1x4x128_0_15_0_0 : (Proc.devRef .tc main_while0b_v100 : DevRef τ sig).ty.Contents (Elt F)) = Cert.ReferenceIdeal.Step.b53 j s := by
  unfold Cert.ReferenceIdeal.Step.b53
  rw [← al_26 h]
  try rfl
set_option maxRecDepth 8192 in
theorem al_54 (h : Holds V0 s j) : (res_main_while0b_v101 V0 : (Proc.devRef .tc main_while0b_v101 : DevRef τ sig).ty.Contents (Elt F)) = Cert.ReferenceIdeal.Step.b54 j s := by
  unfold res_main_while0b_v101 Cert.ReferenceIdeal.Step.b54
  rw [← al_53 h]
  try rfl
set_option maxRecDepth 8192 in
theorem al_55 (h : Holds V0 s j) : (Host.exp (res_main_while0b_v101 V0) : (Proc.devRef .tc main_while0b_v102 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (broadcastInDim S8x4x128x1 ![0, 1, 2] bcast_S8x4x128_S8x4x128x1_0_1_2 (Host.exp (res_main_while0b_v101 V0)) : (Proc.devRef .tc main_while0b_v103 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (Host.exp (res_main_while0b_v101 V0))) : (Proc.devRef .tc main_while0b_v104 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (mulf (broadcastInDim S8x4x128x128 ![0, 1, 2, 3] bcast_S8x4x128x1_S8x4x128x128_0_1_2_3 (broadcastInDim S8x4x128x1 ![0, 1, 2] bcast_S8x4x128_S8x4x128x1_0_1_2 (Host.exp (res_main_while0b_v101 V0)))) (V0 (Proc.devRef .tc main_v60_6)) : (Proc.devRef .tc main_while0b_v105 : DevRef τ sig).ty.Contents (Elt F)) = Cert.ReferenceIdeal.Step.b58 j s := by
  unfold Cert.ReferenceIdeal.Step.b58
  rw [← al_57 h, h.f_6]
  try rfl
set_option maxRecDepth 8192 in
theorem al_59 (h : Holds V0 s j) : (broadcastInDim S8x1x4x128 ![0, 2, 3] bcast_S8x4x128_S8x1x4x128_0_2_3 (res_main_while0b_v101 V0) : (Proc.devRef .tc main_while0b_v106 : DevRef τ sig).ty.Contents (Elt F)) = Cert.ReferenceIdeal.Step.b59 j s := by
  unfold Cert.ReferenceIdeal.Step.b59
  rw [← al_54 h]
  try rfl
set_option maxRecDepth 8192 in
theorem al_60 (h : Holds V0 s j) : (broadcastInDim S8x16x4x128 ![0, 1, 2, 3] bcast_S8x1x4x128_S8x16x4x128_0_1_2_3 (broadcastInDim S8x1x4x128 ![0, 2, 3] bcast_S8x4x128_S8x1x4x128_0_2_3 (res_main_while0b_v101 V0)) : (Proc.devRef .tc main_while0b_v107 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (subf (broadcastInDim S8x16x4x128 ![0, 1, 2, 3] bcast_S8x1x4x128_S8x16x4x128_0_1_2_3 (broadcastInDim S8x1x4x128 ![0, 2, 3] bcast_S8x4x128_S8x1x4x128_0_2_3 (res_main_while0b_v101 V0))) (res_main_while0b_v78 V0) : (Proc.devRef .tc main_while0b_v108 : DevRef τ sig).ty.Contents (Elt F)) = Cert.ReferenceIdeal.Step.b61 j s := by
  unfold Cert.ReferenceIdeal.Step.b61
  rw [← al_60 h, ← al_26 h]
  try rfl
set_option maxRecDepth 8192 in
theorem al_62 (h : Holds V0 s j) : (Host.exp (subf (broadcastInDim S8x16x4x128 ![0, 1, 2, 3] bcast_S8x1x4x128_S8x16x4x128_0_1_2_3 (broadcastInDim S8x1x4x128 ![0, 2, 3] bcast_S8x4x128_S8x1x4x128_0_2_3 (res_main_while0b_v101 V0))) (res_main_while0b_v78 V0)) : (Proc.devRef .tc main_while0b_v109 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (mulf (res_main_while0b_v75 V0) (Host.exp (subf (broadcastInDim S8x16x4x128 ![0, 1, 2, 3] bcast_S8x1x4x128_S8x16x4x128_0_1_2_3 (broadcastInDim S8x1x4x128 ![0, 2, 3] bcast_S8x4x128_S8x1x4x128_0_2_3 (res_main_while0b_v101 V0))) (res_main_while0b_v78 V0))) : (Proc.devRef .tc main_while0b_v110 : DevRef τ sig).ty.Contents (Elt F)) = Cert.ReferenceIdeal.Step.b63 j s := by
  unfold Cert.ReferenceIdeal.Step.b63
  rw [← al_11 h, ← al_62 h]
  try rfl
set_option maxRecDepth 8192 in
theorem al_64 (h : Holds V0 s j) : (Host.dotGeneral dot_S8x16x4x128_S8x16x4x128_S8x4x128x128_1_1_3_3_02_02 none (mulf (res_main_while0b_v75 V0) (Host.exp (subf (broadcastInDim S8x16x4x128 ![0, 1, 2, 3] bcast_S8x1x4x128_S8x16x4x128_0_1_2_3 (broadcastInDim S8x1x4x128 ![0, 2, 3] bcast_S8x4x128_S8x1x4x128_0_2_3 (res_main_while0b_v101 V0))) (res_main_while0b_v78 V0)))) (res_main_while0b_v76 V0) : (Proc.devRef .tc main_while0b_v111 : DevRef τ sig).ty.Contents (Elt F)) = Cert.ReferenceIdeal.Step.b64 j s := by
  unfold Cert.ReferenceIdeal.Step.b64
  rw [← al_63 h, ← al_17 h]
  try rfl
set_option maxRecDepth 8192 in
theorem al_65 (h : Holds V0 s j) : (addf (mulf (broadcastInDim S8x4x128x128 ![0, 1, 2, 3] bcast_S8x4x128x1_S8x4x128x128_0_1_2_3 (broadcastInDim S8x4x128x1 ![0, 1, 2] bcast_S8x4x128_S8x4x128x1_0_1_2 (Host.exp (res_main_while0b_v101 V0)))) (V0 (Proc.devRef .tc main_v60_6))) (Host.dotGeneral dot_S8x16x4x128_S8x16x4x128_S8x4x128x128_1_1_3_3_02_02 none (mulf (res_main_while0b_v75 V0) (Host.exp (subf (broadcastInDim S8x16x4x128 ![0, 1, 2, 3] bcast_S8x1x4x128_S8x16x4x128_0_1_2_3 (broadcastInDim S8x1x4x128 ![0, 2, 3] bcast_S8x4x128_S8x1x4x128_0_2_3 (res_main_while0b_v101 V0))) (res_main_while0b_v78 V0)))) (res_main_while0b_v76 V0)) : (Proc.devRef .tc main_while0b_v112 : DevRef τ sig).ty.Contents (Elt F)) = Cert.ReferenceIdeal.Step.b65 j s := by
  unfold Cert.ReferenceIdeal.Step.b65
  rw [← al_58 h, ← al_64 h]
  try rfl
set_option maxRecDepth 8192 in
theorem al_66 (h : Holds V0 s j) : (broadcastInDim S1x8x16x4x128 ![1, 2, 3, 4] bcast_S8x16x4x128_S1x8x16x4x128_1_2_3_4 (addf (transpose S8x16x4x128 [0, 3, 1, 2] (Host.dotGeneral dot_S8x16x4x128_S8x16x16x4_S8x4x128x16_1_2_3_1_02_03 none (res_main_while0b_v76 V0) (Host.reduceAdd (mulf (mulf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v74 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v75 V0)))) (Host.exp (select (broadcastInDim S8x16x16x4x128 ![0, 1, 2, 3, 4] bcast_S1x16x16x1x1_S8x16x16x4x128_0_1_2_3_4 (V0 (Proc.devRef .tc main_v60_4))) (subf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v78 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v78 V0)))) (broadcastInDim S8x16x16x4x128 ![] bcast_S_S8x16x16x4x128 (id (constant S_ .f32 0xFF800000#32)))))) (constant S_ .f32 0x00000000#32) reducesTo_S8x16x16x4x128_S8x16x16x4_d4 h_S_)) transposes_S8x4x128x16_S8x16x4x128_0_3_1_2) (transpose S8x16x4x128 [0, 3, 1, 2] (Host.dotGeneral dot_S8x4x128x128_S8x16x4x128_S8x4x128x16_2_3_3_1_01_02 none (V0 (Proc.devRef .tc main_v60_6)) (mulf (res_main_while0b_v74 V0) (Host.exp (res_main_while0b_v78 V0)))) transposes_S8x4x128x16_S8x16x4x128_0_3_1_2)) : (Proc.devRef .tc main_while0b_call8_v0 : DevRef τ sig).ty.Contents (Elt F)) = Cert.ReferenceIdeal.Step.b66 j s := by
  unfold Cert.ReferenceIdeal.Step.b66
  rw [← al_52 h]
  try rfl
set_option maxRecDepth 8192 in
theorem al_67 (h : Holds V0 s j) : (constantI S_ 32 0#32 : (Proc.devRef .tc main_while0b_call8_c : DevRef τ sig).ty.Contents (Elt F)) = Cert.ReferenceIdeal.Step.b67 j s := by
  unfold Cert.ReferenceIdeal.Step.b67
  rfl
set_option maxRecDepth 8192 in
theorem al_68 (h : Holds V0 s j) : (constantI S_ 32 0#32 : (Proc.devRef .tc main_while0b_call8_c_0 : DevRef τ sig).ty.Contents (Elt F)) = Cert.ReferenceIdeal.Step.b68 j s := by
  unfold Cert.ReferenceIdeal.Step.b68
  rfl
set_option maxRecDepth 8192 in
theorem al_69 (h : Holds V0 s j) : (constantI S_ 32 0#32 : (Proc.devRef .tc main_while0b_call8_c_1 : DevRef τ sig).ty.Contents (Elt F)) = Cert.ReferenceIdeal.Step.b69 j s := by
  unfold Cert.ReferenceIdeal.Step.b69
  rfl
set_option maxRecDepth 8192 in
theorem al_70 (h : Holds V0 s j) : (constantI S_ 32 0#32 : (Proc.devRef .tc main_while0b_call8_c_2 : DevRef τ sig).ty.Contents (Elt F)) = Cert.ReferenceIdeal.Step.b70 j s := by
  unfold Cert.ReferenceIdeal.Step.b70
  rfl
set_option maxRecDepth 8192 in
theorem al_71 (h : Holds V0 s j) : (Host.dynamicUpdateSlice (V0 (Proc.devRef .tc main_v60_7)) (broadcastInDim S1x8x16x4x128 ![1, 2, 3, 4] bcast_S8x16x4x128_S1x8x16x4x128_1_2_3_4 (addf (transpose S8x16x4x128 [0, 3, 1, 2] (Host.dotGeneral dot_S8x16x4x128_S8x16x16x4_S8x4x128x16_1_2_3_1_02_03 none (res_main_while0b_v76 V0) (Host.reduceAdd (mulf (mulf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v74 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v75 V0)))) (Host.exp (select (broadcastInDim S8x16x16x4x128 ![0, 1, 2, 3, 4] bcast_S1x16x16x1x1_S8x16x16x4x128_0_1_2_3_4 (V0 (Proc.devRef .tc main_v60_4))) (subf (broadcastInDim S8x16x16x4x128 ![0, 1, 2, 3, 4] bcast_S8x16x1x4x128_S8x16x16x4x128_0_1_2_3_4 (broadcastInDim S8x16x1x4x128 ![0, 1, 3, 4] bcast_S8x16x4x128_S8x16x1x4x128_0_1_3_4 (res_main_while0b_v78 V0))) (broadcastInDim S8x16x16x4x128 ![0, 1, 2, 3, 4] bcast_S8x1x16x4x128_S8x16x16x4x128_0_1_2_3_4 (broadcastInDim S8x1x16x4x128 ![0, 2, 3, 4] bcast_S8x16x4x128_S8x1x16x4x128_0_2_3_4 (res_main_while0b_v78 V0)))) (broadcastInDim S8x16x16x4x128 ![] bcast_S_S8x16x16x4x128 (id (constant S_ .f32 0xFF800000#32)))))) (constant S_ .f32 0x00000000#32) reducesTo_S8x16x16x4x128_S8x16x16x4_d4 h_S_)) transposes_S8x4x128x16_S8x16x4x128_0_3_1_2) (transpose S8x16x4x128 [0, 3, 1, 2] (Host.dotGeneral dot_S8x4x128x128_S8x16x4x128_S8x4x128x16_2_3_3_1_01_02 none (V0 (Proc.devRef .tc main_v60_6)) (mulf (res_main_while0b_v74 V0) (Host.exp (res_main_while0b_v78 V0)))) transposes_S8x4x128x16_S8x16x4x128_0_3_1_2))) (fun k => (((![V0 (Proc.devRef .tc main_v60_5), constantI S_ 32 0#32, constantI S_ 32 0#32, constantI S_ 32 0#32, constantI S_ 32 0#32] : Fin 5 → (⟨S_, .i32⟩ : BufTy).Contents (Elt F))) k (Shape.Idx.first h_S_)).toInt) updateFits_S128x8x16x4x128_S1x8x16x4x128 : (Proc.devRef .tc main_while0b_v113 : DevRef τ sig).ty.Contents (Elt F)) = Cert.ReferenceIdeal.Step.b71 j s := by
  unfold Cert.ReferenceIdeal.Step.b71
  rw [← al_66 h, ← al_67 h, ← al_68 h, ← al_69 h, ← al_70 h, h.f_7, h.n_5]
  try rfl

/-! One trip's step of the carried values is `step`, field by field; a counter steps to the next number. -/

theorem step_6 (h : Holds V0 s j) : step_main_v60_6 V0 = (step j s).main_v60_6 := by
  unfold step_main_v60_6 Cert.ReferenceIdeal.Step.step
  show id (addf (mulf (broadcastInDim S8x4x128x128 ![0, 1, 2, 3] bcast_S8x4x128x1_S8x4x128x128_0_1_2_3 (broadcastInDim S8x4x128x1 ![0, 1, 2] bcast_S8x4x128_S8x4x128x1_0_1_2 (Host.exp (res_main_while0b_v101 V0)))) (V0 (Proc.devRef .tc main_v60_6))) (Host.dotGeneral dot_S8x16x4x128_S8x16x4x128_S8x4x128x128_1_1_3_3_02_02 none (mulf (res_main_while0b_v75 V0) (Host.exp (subf (broadcastInDim S8x16x4x128 ![0, 1, 2, 3] bcast_S8x1x4x128_S8x16x4x128_0_1_2_3 (broadcastInDim S8x1x4x128 ![0, 2, 3] bcast_S8x4x128_S8x1x4x128_0_2_3 (res_main_while0b_v101 V0))) (res_main_while0b_v78 V0)))) (res_main_while0b_v76 V0))) = _
  rw [al_65 h]
  try rfl
theorem step_7 (h : Holds V0 s j) : step_main_v60_7 V0 = (step j s).main_v60_7 := by
  unfold step_main_v60_7 Cert.ReferenceIdeal.Step.step
  exact al_71 h
theorem step_5 (h : Holds V0 s j) : step_main_v60_5 V0 = constantI S_ 32 (BitVec.ofNat 32 (j + 1)) := by
  unfold step_main_v60_5
  rw [h.n_5]
  funext i
  show BitVec.ofNat 32 j + 1#32 = BitVec.ofNat 32 (j + 1)
  simp only [BitVec.ofNat_add]

set_option maxRecDepth 8192 in
theorem out_main_v73_holds (h : Holds V0 s j) : out_main_v73 V0 = Cert.ReferenceIdeal.Step.R_main_v73 s := by
  unfold out_main_v73 Cert.ReferenceIdeal.Step.R_main_v73
  rw [h.f_7]
  try rfl

/-- One trip keeps the valuation holding: `step` of the state, the same set-up values, the next number. -/
theorem holds_step (h : Holds V0 s j) : Holds (STEP V0) (step j s) (j + 1) where
  f_6 := (STEP_main_v60_6 V0).trans (step_6 h)
  f_7 := (STEP_main_v60_7 V0).trans (step_7 h)
  n_5 := (STEP_main_v60_5 V0).trans (step_5 h)
  k_4 := (STEP_main_v60_4 V0).trans h.k_4
  f_0 := (STEP_main_v60_0 V0).trans h.f_0
  f_1 := (STEP_main_v60_1 V0).trans h.f_1
  f_2 := (STEP_main_v60_2 V0).trans h.f_2
  f_3 := (STEP_main_v60_3 V0).trans h.f_3

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v73) = Cert.ReferenceIdeal.Step.R_main_v73 (it c 128)
      ∧ r.2.mem ((c.tc : Thread nD τ).loc main_v60_6) = (it c 128).main_v60_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 128
    ⟨(h c).1.trans (out_main_v73_holds hk), (h c).2.1.trans hk.f_6, (h c).2.2.1, (h c).2.2.2.1, (h c).2.2.2.2⟩) (Value.run m ρ)

end Cert.ReferenceIdeal.Trips

end
-- ==== Proof.HgrnTie.lean ====
/- The kernel and the reference over the extended reals: the same lower bounds, hence the same rows and the same states. -/
module

public import proofs.«01_k».proof.Proof.HgrnArray
public import proofs.«01_k».proof.Proof.RefLayer
public import proofs.«01_k».proof.Proof.RefTrips

@[expose] public section

set_option maxRecDepth 16384

noncomputable section

namespace Cert.Tie

open Cert.KernelIdeal.Hgrn Cert.ReferenceIdeal.At Cert.ReferenceIdeal.Step Cert.Hgrn Idealize.ShloMosaic

/-- The kernel's memory. -/
abbrev MemK := (ℓ : Loc Cert.KernelIdeal.nD Cert.KernelIdeal.τ Cert.KernelIdeal.sig) → Buf (Elt Ideal) ℓ

variable (m : MemK) (c : Dev Cert.KernelIdeal.nD)

/-- The projected rows the kernel is given. -/
abbrev argX : FVec Ideal Cert.ReferenceIdeal.S8x2048x2560 .f32 := m ((c.tc : Thread Cert.KernelIdeal.nD Cert.KernelIdeal.τ).loc Cert.KernelIdeal.main_arg0)
/-- The logits of the lower bounds the kernel is given. -/
abbrev argL : FVec Ideal Cert.ReferenceIdeal.S2x512 .f32 := m ((c.tc : Thread Cert.KernelIdeal.nD Cert.KernelIdeal.τ).loc Cert.KernelIdeal.main_arg1)
/-- The states the kernel is given. -/
abbrev argS : FVec Ideal Cert.ReferenceIdeal.S8x4x128x128 .f32 := m ((c.tc : Thread Cert.KernelIdeal.nD Cert.KernelIdeal.τ).loc Cert.KernelIdeal.main_arg2)

/-- The kernel's lower bounds are the reference's. -/
theorem low_eq : argLow m c = low (argX m c) (argL m c) := by
  funext j
  unfold argLow low
  unfold Cert.KernelIdeal.Gen.V
  after_reads_at
  pointwise [A_main_v13, A_main_v12]
  rfl

/-- THE ROWS agree. -/
theorem rows_tie : arrRows m c = R_main_v73 (loop (argX m c) (argL m c) (argS m c) 128) := by
  funext i
  obtain ⟨b, r, j, rfl⟩ : ∃ (b : Fin 8) (r : Fin 2048) (j : Fin 512), i = ix3 b r j := ⟨i 0, i 1, i 2, eq_ix3 i⟩
  obtain ⟨h, e, rfl⟩ : ∃ (h : Fin 4) (e : Fin 128), j = lane h e :=
    ⟨⟨j.val / 128, by omega⟩, ⟨j.val % 128, by omega⟩, Fin.ext (by show j.val = 128 * (j.val / 128) + j.val % 128; omega)⟩
  refine (arrRows_at m c b h r e).trans ?_
  rw [low_eq]
  exact (rows_at _ _ _ b r h e).symm

/-- THE STATES agree. -/
theorem states_tie : arrStates m c = (loop (argX m c) (argL m c) (argS m c) 128).main_v60_6 := by
  funext i
  obtain ⟨b, h, k, e, rfl⟩ : ∃ (b : Fin 8) (h : Fin 4) (k e : Fin 128), i = ix4 b h k e := ⟨i 0, i 1, i 2, i 3, eq_ix4 i⟩
  refine Eq.trans ?_ (states_at _ _ _ b h k e).symm
  rw [← low_eq]
  rfl

end Cert.Tie
-- ==== Proof.RowNorm.lean ====
/- The layer norm of one row of 1024 entries over the extended reals. -/
module

public import Idealize.ShloMosaic.Lib.Pointwise

@[expose] public section

noncomputable section

namespace Cert.Norm

open Idealize.ShloMosaic

/-- The mean of a row. -/
def mean (x : Fin 1024 → EReal) : EReal := Ideal.div (∑ k, x k) (Ideal.ofBits .f32 0x44800000#32)

/-- A row less its mean. -/
def centred (x : Fin 1024 → EReal) (k : Fin 1024) : EReal := x k - mean x

/-- The layer norm: the centred row over the root of its mean square, scaled by `g` and shifted by `b`. -/
def norm (x g b : Fin 1024 → EReal) (j : Fin 1024) : EReal :=
  centred x j * Ideal.rsqrt (mean (fun k => centred x k * centred x k) + Ideal.ofBits .f32 0x3727C5AC#32) * g j + b j

end Cert.Norm
-- ==== Proof.ProjAt.lean ====
/- The ideal input projection's payloads and its reference read at an index. -/
module

public import proofs.«01_k».proof.Proof.Gen.Kernel2Ideal.Value
public import proofs.«01_k».proof.Proof.Gen.Reference2Ideal.Run
public import proofs.«01_k».proof.Proof.RowNorm
public import Idealize.ShloMosaic.Lib.Pointwise

@[expose] public section

set_option maxRecDepth 16384

noncomputable section

namespace Cert.Kernel2Ideal.Proj

open Cert.Kernel2Ideal Cert.Kernel2Ideal.Gen Cert.Norm Idealize.ShloMosaic

/-- The normed row a block's first store holds. -/
theorem pay1_at (x : Vec Ideal S512x1024 .f32) (g b : Vec Ideal S1x1024 .f32) (r : Fin 512) (j : Fin 1024) :
    k0_pay1 x g b (ix2 r j) = norm (fun k => x (ix2 r k)) (fun k => g (ix2 0 k)) (fun k => b (ix2 0 k)) j := by
  pointwise [k0_pay1]
  rfl

/-- The projected row a block's second store holds. -/
theorem pay2_at (x : Vec Ideal S512x1024 .f32) (g b : Vec Ideal S1x1024 .f32) (w : Vec Ideal S1024x2560 .bf16) (bi : Vec Ideal S1x2560 .f32)
    (r : Fin 512) (j : Fin 2560) :
    k0_pay2 x g b w bi (ix2 r j)
      = (∑ k : Fin 1024, norm (fun k => x (ix2 r k)) (fun k => g (ix2 0 k)) (fun k => b (ix2 0 k)) k * w (ix2 k j)) + bi (ix2 0 j) := by
  pointwise [k0_pay2, pay1_at]

end Cert.Kernel2Ideal.Proj
-- ==== Proof.ProjArray.lean ====
/- The ideal input projection's two result arrays and its reference's: the normed rows, and their products with the weights. -/
module

public import proofs.«01_k».proof.Proof.ProjAt
public import Idealize.ShloMosaic.Lib.Pipeline.ValueKit
public import Idealize.ShloMosaic.Lib.StableHlo.ReadAt
public import Idealize.ShloMosaic.Lib.Tactic.CleanTypes

@[expose] public section

set_option maxRecDepth 16384

noncomputable section

namespace Cert.Proj

open Cert.Norm Idealize.ShloMosaic

/-- Row `i` of all sequences' rows, one sequence after the other. -/
def token (x : FVec Ideal Cert.Kernel2Ideal.S8x2048x1024 .f32) (i : Fin 16384) (k : Fin 1024) : EReal :=
  x (ix3 ⟨i.val / 2048, by omega⟩ ⟨i.val % 2048, by omega⟩ k)

/-- Entry `j` of the layer norm of row `i`. -/
def normed (x : FVec Ideal Cert.Kernel2Ideal.S8x2048x1024 .f32) (g b : FVec Ideal Cert.Kernel2Ideal.S1024 .f32) (i : Fin 16384) (j : Fin 1024) : EReal :=
  norm (token x i) (fun k => g (ix1 k)) (fun k => b (ix1 k)) j

/-- Entry `j` of the projection of row `i`. -/
def projected (x : FVec Ideal Cert.Kernel2Ideal.S8x2048x1024 .f32) (g b : FVec Ideal Cert.Kernel2Ideal.S1024 .f32)
    (w : FVec Ideal Cert.Kernel2Ideal.S1x1024x2560 .f32) (bi : FVec Ideal Cert.Kernel2Ideal.S1x2560 .f32) (i : Fin 16384) (j : Fin 2560) : EReal :=
  (∑ k : Fin 1024, normed x g b i k * w (ix3 0 k j)) + bi (ix2 0 j)

end Cert.Proj

namespace Cert.Kernel2Ideal.Proj

open Cert.Kernel2Ideal Cert.Kernel2Ideal.Gen Cert.Norm Cert.Proj Idealize.ShloMosaic

variable (m : (ℓ : Loc nD τ sig) → Buf (Elt Ideal) ℓ) (c : Dev nD)

/-- The arguments: rows, gain, shift, weights, bias. -/
abbrev argX : FVec Ideal S8x2048x1024 .f32 := m ((c.tc : Thread nD τ).loc main_arg0)
abbrev argG : FVec Ideal S1024 .f32 := m ((c.tc : Thread nD τ).loc main_arg1)
abbrev argB : FVec Ideal S1024 .f32 := m ((c.tc : Thread nD τ).loc main_arg2)
abbrev argW : FVec Ideal S1x1024x2560 .f32 := m ((c.tc : Thread nD τ).loc main_arg3)
abbrev argBi : FVec Ideal S1x2560 .f32 := m ((c.tc : Thread nD τ).loc main_arg4)

/-- What the host hands the kernel, at an index. -/
theorem hostX (i : Fin 16384) (k : Fin 1024) : (V m c main_v0 : FVec Ideal S16384x1024 .f32) (ix2 i k) = token (argX m c) i k := by
  unfold V
  after_reads_at
  clean_types
  pointwise [token]

theorem hostG (k : Fin 1024) : (V m c main_v4 : FVec Ideal S1x1024 .f32) (ix2 0 k) = argG m c (ix1 k) := by
  unfold V
  after_reads_at

theorem hostB (k : Fin 1024) : (V m c main_v5 : FVec Ideal S1x1024 .f32) (ix2 0 k) = argB m c (ix1 k) := by
  unfold V
  after_reads_at

theorem hostW (k : Fin 1024) (j : Fin 2560) : (V m c main_v2 : FVec Ideal S1024x2560 .bf16) (ix2 k j) = argW m c (ix3 0 k j) := by
  unfold V
  after_reads_at

theorem hostBi (j : Fin 2560) : (V m c main_v6 : FVec Ideal S1x2560 .f32) (ix2 0 j) = argBi m c (ix2 0 j) := by
  unfold V
  after_reads_at

theorem zeros : (![0, 0] : Fin 2 → Nat) = fun _ => 0 := by decide

/-- The windows' places, over the grid. -/
theorem places : ∀ t : Fin grid0.N,
    win0_0.index t = ![(grid0.coords t 0).val, 0] ∧ win0_1.index t = ![0, 0] ∧ win0_2.index t = ![0, 0] ∧ win0_3.index t = ![0, 0]
    ∧ win0_4.index t = ![0, 0] ∧ win0_5.index t = ![(grid0.coords t 0).val, 0] ∧ win0_6.index t = ![(grid0.coords t 0).val, 0] := by
  decide +kernel

/-- Row `r` of grid point `t`'s block, among all rows. -/
def rowOf (t : Fin grid0.N) (r : Fin 512) : Fin 16384 :=
  ⟨512 * (grid0.coords t 0).val + r.val, by have h : (grid0.coords t 0).val < 32 := (grid0.coords t 0).isLt; omega⟩

theorem block0 (t : Fin grid0.N) (r : Fin 512) (k : Fin 1024) : iblk m c 0 t (ix2 r k) = token (argX m c) (rowOf t r) k := by
  obtain ⟨h0, h1, h2, h3, h4, h5, h6⟩ := places t
  refine Eq.trans ?_ (hostX m c (rowOf t r) k)
  blk_ext [iblk, h0, rowOf]

theorem block1 (t : Fin grid0.N) (k : Fin 1024) : iblk m c 1 t (ix2 (0 : Fin 1) k) = argG m c (ix1 k) := by
  obtain ⟨h0, h1, h2, h3, h4, h5, h6⟩ := places t
  refine Eq.trans ?_ (hostG m c k)
  blk_ext [iblk, h1]

theorem block2 (t : Fin grid0.N) (k : Fin 1024) : iblk m c 2 t (ix2 (0 : Fin 1) k) = argB m c (ix1 k) := by
  obtain ⟨h0, h1, h2, h3, h4, h5, h6⟩ := places t
  refine Eq.trans ?_ (hostB m c k)
  blk_ext [iblk, h2]

theorem block3 (t : Fin grid0.N) (k : Fin 1024) (j : Fin 2560) : iblk m c 3 t (ix2 k j) = argW m c (ix3 0 k j) := by
  obtain ⟨h0, h1, h2, h3, h4, h5, h6⟩ := places t
  refine Eq.trans ?_ (hostW m c k j)
  blk_ext [iblk, h3]

theorem block4 (t : Fin grid0.N) (j : Fin 2560) : iblk m c 4 t (ix2 (0 : Fin 1) j) = argBi m c (ix2 0 j) := by
  obtain ⟨h0, h1, h2, h3, h4, h5, h6⟩ := places t
  refine Eq.trans ?_ (hostBi m c j)
  blk_ext [iblk, h4]

/-- The normed rows. -/
def arrNorm : FVec Ideal S16384x1024 .f32 := fun i => normed (argX m c) (argG m c) (argB m c) (i 0) (i 1)
/-- The projected rows. -/
def arrProj : FVec Ideal S16384x2560 .f32 := fun i => projected (argX m c) (argG m c) (argB m c) (argW m c) (argBi m c) (i 0) (i 1)

/-- THE NORMED ROWS the kernel leaves. -/
theorem norm_eq : (dats m 0 c).arrAt 5 cfg0.N = arrNorm m c := by
  refine (dats m 0 c).arrAt_eq_of_covers 5 _ (by decide +kernel) fun t hf y => ?_
  blk_simp
  rw [after0_5]
  obtain ⟨h0, h1, h2, h3, h4, h5, h6⟩ := places t
  obtain ⟨r, j, rfl⟩ : ∃ (r : Fin 512) (j : Fin 1024), y = ix2 r j := ⟨y 0, y 1, eq_ix2 y⟩
  have hp : (win0_5.blk t).view.emb (ix2 r j) = ix2 (rowOf t r) j := by
    blk_ext [h5, rowOf]
  rw [hp]
  unfold out0_5
  rw [View.canon_unit_zero zeros, View.ld_unit_zero zeros, View.ld_unit_zero zeros, View.ld_unit_zero zeros]
  refine (pay1_at _ _ _ r j).trans ?_
  simp only [block0, block1, block2]
  rfl

/-- THE PROJECTED ROWS the kernel leaves. -/
theorem proj_eq : (dats m 0 c).arrAt 6 cfg0.N = arrProj m c := by
  refine (dats m 0 c).arrAt_eq_of_covers 6 _ (by decide +kernel) fun t hf y => ?_
  blk_simp
  rw [after0_6]
  obtain ⟨h0, h1, h2, h3, h4, h5, h6⟩ := places t
  obtain ⟨r, j, rfl⟩ : ∃ (r : Fin 512) (j : Fin 2560), y = ix2 r j := ⟨y 0, y 1, eq_ix2 y⟩
  have hp : (win0_6.blk t).view.emb (ix2 r j) = ix2 (rowOf t r) j := by
    blk_ext [h6, rowOf]
  rw [hp]
  unfold out0_6
  rw [View.canon_unit_zero zeros, View.ld_unit_zero zeros, View.ld_unit_zero zeros, View.ld_unit_zero zeros, View.ld_unit_zero zeros,
    View.ld_unit_zero zeros]
  refine (pay2_at _ _ _ _ _ r j).trans ?_
  simp only [block0, block1, block2, block3, block4]
  rfl

end Cert.Kernel2Ideal.Proj
-- ==== Proof.ProjTie.lean ====
/- The reference's two result arrays: the same normed rows and the same products, so the kernel's are the reference's. -/
module

public import proofs.«01_k».proof.Proof.ProjArray
public import proofs.«01_k».proof.Proof.Gen.Reference2Ideal.Run
public import Idealize.ShloMosaic.Lib.Pointwise

@[expose] public section

set_option maxRecDepth 16384

noncomputable section

namespace Cert.Reference2Ideal.Proj

open Cert.Reference2Ideal Cert.Reference2Ideal.Gen Cert.Norm Cert.Proj Idealize.ShloMosaic

variable (x : FVec Ideal S8x2048x1024 .f32) (g b : FVec Ideal S1024 .f32) (w : FVec Ideal S1x1024x2560 .f32) (bi : FVec Ideal S1x2560 .f32)

/-- The means along the last axis, as a column. -/
def col : FVec Ideal S8x2048x1 .f32 :=
  Host.divf (broadcastInDim S8x2048x1 ![0, 1] bcast_S8x2048_S8x2048x1_0_1 (Host.reduceAdd x (constant S_ .f32 0x00000000#32) reducesTo_S8x2048x1024_S8x2048_d2 h_S_))
    (broadcastInDim S8x2048x1 ![] bcast_S_S8x2048x1 (constant S_ .f32 0x44800000#32))

/-- The rows less their means. -/
def less : FVec Ideal S8x2048x1024 .f32 := subf x (broadcastInDim S8x2048x1024 ![0, 1, 2] bcast_S8x2048x1_S8x2048x1024_0_1_2 (col x))

/-- The normed rows, scaled and shifted. -/
def rows : FVec Ideal S8x2048x1024 .f32 :=
  addf (mulf (mulf (less x) (broadcastInDim S8x2048x1024 ![0, 1, 2] bcast_S8x2048x1_S8x2048x1024_0_1_2
      (Host.rsqrt (addf (col (mulf (less x) (less x))) (broadcastInDim S8x2048x1 ![] bcast_S_S8x2048x1 (constant S_ .f32 0x3727C5AC#32))))))
    (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S1x1x1024_S8x2048x1024_0_1_2 (broadcastInDim S1x1x1024 ![2] bcast_S1024_S1x1x1024_2 b))

/-- Their products with the weights, and the bias. -/
def prods : FVec Ideal S8x2048x2560 .f32 :=
  addf (Host.dotGeneral dot_S8x2048x1024_S1024x2560_S8x2048x2560_2_0_01_1_n_n none (rows x g b) (shapeCast _ w shapeCasts_S1x1024x2560_S1024x2560))
    (broadcastInDim S8x2048x2560 ![0, 1, 2] bcast_S1x1x2560_S8x2048x2560_0_1_2
      (broadcastInDim S1x1x2560 ![2] bcast_S2560_S1x1x2560_2 (shapeCast _ bi shapeCasts_S1x2560_S2560)))

theorem col_at (p : Fin 8) (q : Fin 2048) : col x (ix3 p q 0) = mean (fun k => x (ix3 p q k)) := by
  pointwise [col]
  rfl

theorem less_at (p : Fin 8) (q : Fin 2048) (k : Fin 1024) : less x (ix3 p q k) = centred (fun k => x (ix3 p q k)) k := by
  pointwise [less, col_at]
  rfl

theorem rows_at (p : Fin 8) (q : Fin 2048) (j : Fin 1024) :
    rows x g b (ix3 p q j) = norm (fun k => x (ix3 p q k)) (fun k => g (ix1 k)) (fun k => b (ix1 k)) j := by
  pointwise [rows, col_at, less_at]
  rfl

theorem prods_at (p : Fin 8) (q : Fin 2048) (j : Fin 2560) :
    prods x g b w bi (ix3 p q j)
      = (∑ k : Fin 1024, norm (fun k => x (ix3 p q k)) (fun k => g (ix1 k)) (fun k => b (ix1 k)) k * w (ix3 0 k j)) + bi (ix2 0 j) := by
  pointwise [prods, rows_at]

/-- The normed rows and the projected rows, one sequence after the other. -/
def refNorm : FVec Ideal S16384x1024 .f32 := fun i => normed x g b (i 0) (i 1)
def refProj : FVec Ideal S16384x2560 .f32 := fun i => projected x g b w bi (i 0) (i 1)

theorem refNorm_eq : shapeCast S16384x1024 (rows x g b) shapeCasts_S8x2048x1024_S16384x1024 = refNorm x g b := by
  funext z
  obtain ⟨i, j, rfl⟩ : ∃ (i : Fin 16384) (j : Fin 1024), z = ix2 i j := ⟨z 0, z 1, eq_ix2 z⟩
  show _ = normed x g b i j
  pointwise [rows_at]
  rfl

theorem refProj_eq : shapeCast S16384x2560 (prods x g b w bi) shapeCasts_S8x2048x2560_S16384x2560 = refProj x g b w bi := by
  funext z
  obtain ⟨i, j, rfl⟩ : ∃ (i : Fin 16384) (j : Fin 2560), z = ix2 i j := ⟨z 0, z 1, eq_ix2 z⟩
  show _ = projected x g b w bi i j
  pointwise [prods_at]
  rfl

end Cert.Reference2Ideal.Proj
-- ==== Proof.MixModel.lean ====
/- The mixing of the two head groups over the extended reals, one row at a time. -/
module

public import proofs.«01_k».proof.Proof.RowNorm

@[expose] public section

noncomputable section

namespace Cert.Mix

open Cert.Norm Idealize.ShloMosaic

/-- The one the programs spell. -/
abbrev one : EReal := Ideal.ofBits .f32 0x3F800000#32

/-- The logistic function. -/
def logi (x : EReal) : EReal := Ideal.div one (one + Ideal.exp (-x))

/-- One entry of the gated head group: the normed entry, its gain and the gate's `x · logi x`. -/
def gated (o g gate : EReal) : EReal := o * g * (gate * logi gate)

/-- One entry of the second head group: the activation and its linear unit's gate. -/
def unit (z w : Fin 512 → EReal) (b : EReal) (zk : EReal) : EReal := zk * logi ((∑ k, z k * w k) + b)

/-- One entry of the row before the norm: the skipped row scaled, and the two groups' products with the weights. -/
def before (x : EReal) (h s u v : Fin 512 → EReal) : EReal :=
  Ideal.ofBits .f32 0x3F9837F0#32 * x + ((∑ k, h k * u k) + ∑ k, s k * v k)

/-- Entry `j` of the mixed and normed row `i`, with `f` the activation. -/
def mixed (f : EReal → EReal) (x : Fin 1024 → EReal) (o gate y : Fin 512 → EReal) (g : Fin 512 → EReal) (wg : Fin 512 → Fin 512 → EReal)
    (bg : Fin 512 → EReal) (u v : Fin 512 → Fin 1024 → EReal) (lg lb : Fin 1024 → EReal) (j : Fin 1024) : EReal :=
  norm (fun j => before (x j) (fun k => gated (o k) (g k) (gate k)) (fun k => unit (fun l => f (y l)) (fun l => wg l k) (bg k) (f (y k)))
    (fun k => u k j) (fun k => v k j)) lg lb j

end Cert.Mix
-- ==== Proof.MixAt.lean ====
/- The ideal mixing kernel's payloads read at an index. -/
module

public import proofs.«01_k».proof.Proof.Gen.Kernel3Ideal.Value
public import proofs.«01_k».proof.Proof.MixModel
public import Idealize.ShloMosaic.Lib.Pointwise

@[expose] public section

set_option maxRecDepth 16384

noncomputable section

namespace Cert.Kernel3Ideal.Mixing

open Cert.Kernel3Ideal Cert.Kernel3Ideal.Gen Cert.Norm Cert.Mix Idealize.ShloMosaic

/-- The kernel's activation of one entry. -/
def act (x : EReal) : EReal :=
  Ideal.div x (one + Ideal.exp (x * (Ideal.ofBits .f32 0xBFCC422A#32 + Named.named (F := Ideal) κ "gelu_cub" (φ := .f32) 0xBD922279#32 * (x * x))))

theorem pay1_at (gate o : Vec Ideal S512x512 .f32) (g : Vec Ideal S1x512 .f32) (r k : Fin 512) :
    k0_pay1 gate o g (ix2 r k) = gated (o (ix2 r k)) (g (ix2 0 k)) (gate (ix2 r k)) := by
  pointwise [k0_pay1, gated, logi]
  rw [zero_sub]

theorem pay2_at (y : Vec Ideal S512x512 .f32) (r k : Fin 512) : k0_pay2 y (ix2 r k) = act (y (ix2 r k)) := by
  pointwise [k0_pay2, act]

theorem pay3_at (y : Vec Ideal S512x512 .f32) (w : Vec Ideal S512x512 .bf16) (b : Vec Ideal S1x512 .f32) (r k : Fin 512) :
    k0_pay3 y w b (ix2 r k) = Ideal.exp (-((∑ l : Fin 512, act (y (ix2 r l)) * w (ix2 l k)) + b (ix2 0 k))) := by
  pointwise [k0_pay3, pay2_at]
  rw [zero_sub]

theorem pay4_at (r k : Fin 512) : k0_pay4 (F := Ideal) (ix2 r k) = one := rfl

/-- The rows a block's store holds. -/
theorem pay5_at (h z e f : FVec Ideal S512x512 .f32) (u v : Vec Ideal S512x1024 .bf16) (x : Vec Ideal S512x1024 .f32) (g b : Vec Ideal S1x1024 .f32)
    (r : Fin 512) (j : Fin 1024) :
    k0_pay5 h z e f u v x g b (ix2 r j)
      = norm (fun j => before (x (ix2 r j)) (fun k => h (ix2 r k)) (fun k => z (ix2 r k) * Ideal.div one (f (ix2 r k) + e (ix2 r k)))
          (fun k => u (ix2 k j)) (fun k => v (ix2 k j))) (fun k => g (ix2 0 k)) (fun k => b (ix2 0 k)) j := by
  pointwise [k0_pay5]
  rfl

end Cert.Kernel3Ideal.Mixing
-- ==== Proof.MixArray.lean ====
/- The ideal mixing kernel's result array: the mixed and normed rows. -/
module

public import proofs.«01_k».proof.Proof.MixAt
public import Idealize.ShloMosaic.Lib.Pipeline.ValueKit
public import Idealize.ShloMosaic.Lib.StableHlo.ReadAt
public import Idealize.ShloMosaic.Lib.Tactic.CleanTypes

@[expose] public section

set_option maxRecDepth 16384

noncomputable section

namespace Cert.Kernel3Ideal.Mixing

open Cert.Kernel3Ideal Cert.Kernel3Ideal.Gen Cert.Norm Cert.Mix Idealize.ShloMosaic

/-- Row `i` of the mixing of whole arrays. -/
def row (f : EReal → EReal) (x : FVec Ideal S16384x1024 .f32) (o : FVec Ideal S16384x512 .f32) (p : FVec Ideal S16384x2560 .f32)
    (y : FVec Ideal S16384x512 .f32) (g : FVec Ideal S1x512 .f32) (wg : FVec Ideal S1x512x512 .f32) (bg : FVec Ideal S1x512 .f32)
    (w : FVec Ideal S1x1024x1024 .f32) (lg lb : FVec Ideal S1x1024 .f32) (i : Fin 16384) : Fin 1024 → EReal :=
  mixed f (fun k => x (ix2 i k)) (fun k => o (ix2 i k)) (fun k => p (ix2 i ⟨1536 + k.val, by omega⟩)) (fun k => y (ix2 i k)) (fun k => g (ix2 0 k))
    (fun l k => wg (ix3 0 l k)) (fun k => bg (ix2 0 k)) (fun k j => w (ix3 0 ⟨k.val, by omega⟩ j)) (fun k j => w (ix3 0 ⟨512 + k.val, by omega⟩ j))
    (fun k => lg (ix2 0 k)) (fun k => lb (ix2 0 k))

variable (m : (ℓ : Loc nD τ sig) → Buf (Elt Ideal) ℓ) (c : Dev nD)

/-- The arguments: the skipped rows, the first group's rows, the projection, the second group's rows, the first group's gain, the linear
    unit's weights and bias, the output weights, the norm's gain and shift. -/
abbrev argX : FVec Ideal S16384x1024 .f32 := m ((c.tc : Thread nD τ).loc main_arg0)
abbrev argO : FVec Ideal S16384x512 .f32 := m ((c.tc : Thread nD τ).loc main_arg1)
abbrev argP : FVec Ideal S16384x2560 .f32 := m ((c.tc : Thread nD τ).loc main_arg2)
abbrev argY : FVec Ideal S16384x512 .f32 := m ((c.tc : Thread nD τ).loc main_arg3)
abbrev argG : FVec Ideal S1x512 .f32 := m ((c.tc : Thread nD τ).loc main_arg4)
abbrev argWg : FVec Ideal S1x512x512 .f32 := m ((c.tc : Thread nD τ).loc main_arg5)
abbrev argBg : FVec Ideal S1x512 .f32 := m ((c.tc : Thread nD τ).loc main_arg6)
abbrev argW : FVec Ideal S1x1024x1024 .f32 := m ((c.tc : Thread nD τ).loc main_arg7)
abbrev argLg : FVec Ideal S1x1024 .f32 := m ((c.tc : Thread nD τ).loc main_arg8)
abbrev argLb : FVec Ideal S1x1024 .f32 := m ((c.tc : Thread nD τ).loc main_arg9)

/-- What the host hands the kernel, at an index. -/
theorem hostG (k : Fin 512) : (V m c main_v12 : FVec Ideal S1x512 .f32) (ix2 0 k) = argG m c (ix2 0 k) := by
  unfold V
  after_reads_at

theorem hostWg (l k : Fin 512) : (V m c main_v1 : FVec Ideal S512x512 .bf16) (ix2 l k) = argWg m c (ix3 0 l k) := by
  unfold V
  after_reads_at

theorem hostBg (k : Fin 512) : (V m c main_v13 : FVec Ideal S1x512 .f32) (ix2 0 k) = argBg m c (ix2 0 k) := by
  unfold V
  after_reads_at

theorem hostU (k : Fin 512) (j : Fin 1024) :
    (V m c main_v4 : FVec Ideal S512x1024 .bf16) (ix2 k j) = argW m c (ix3 0 ⟨k.val, by omega⟩ j) := by
  unfold V
  after_reads_at

theorem hostV (k : Fin 512) (j : Fin 1024) :
    (V m c main_v7 : FVec Ideal S512x1024 .bf16) (ix2 k j) = argW m c (ix3 0 ⟨512 + k.val, by omega⟩ j) := by
  unfold V
  after_reads_at

theorem hostLg (k : Fin 1024) : (V m c main_v14 : FVec Ideal S1x1024 .f32) (ix2 0 k) = argLg m c (ix2 0 k) := by
  unfold V
  after_reads_at

theorem hostLb (k : Fin 1024) : (V m c main_v15 : FVec Ideal S1x1024 .f32) (ix2 0 k) = argLb m c (ix2 0 k) := by
  unfold V
  after_reads_at

/-- The windows' places, over the grid. -/
theorem places : ∀ t : Fin grid0.N,
    win0_0.index t = ![(grid0.coords t 0).val, 0] ∧ win0_1.index t = ![(grid0.coords t 0).val, 0] ∧ win0_2.index t = ![(grid0.coords t 0).val, 3]
    ∧ win0_3.index t = ![(grid0.coords t 0).val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![(grid0.coords t 0).val, 0] := by
  decide +kernel

theorem zeros : (![0, 0] : Fin 2 → Nat) = fun _ => 0 := by decide

/-- Row `r` of grid point `t`'s block, among all rows. -/
def rowOf (t : Fin grid0.N) (r : Fin 512) : Fin 16384 :=
  ⟨512 * (grid0.coords t 0).val + r.val, by have h : (grid0.coords t 0).val < 32 := (grid0.coords t 0).isLt; omega⟩

theorem block0 (t : Fin grid0.N) (r : Fin 512) (k : Fin 1024) : iblk m c 0 t (ix2 r k) = argX m c (ix2 (rowOf t r) k) := by
  obtain ⟨h0, h1, h2, h3, h4, h5, h6, h7, h8, h9, h10, h11⟩ := places t
  refine Eq.trans ?_ (congrFun (V_main_arg0 m c) ((ix2 (rowOf t r) k)))
  blk_ext [iblk, h0, rowOf]

theorem block1 (t : Fin grid0.N) (r k : Fin 512) : iblk m c 1 t (ix2 r k) = argO m c (ix2 (rowOf t r) k) := by
  obtain ⟨h0, h1, h2, h3, h4, h5, h6, h7, h8, h9, h10, h11⟩ := places t
  refine Eq.trans ?_ (congrFun (V_main_arg1 m c) ((ix2 (rowOf t r) k)))
  blk_ext [iblk, h1, rowOf]

theorem block2 (t : Fin grid0.N) (r k : Fin 512) : iblk m c 2 t (ix2 r k) = argP m c (ix2 (rowOf t r) ⟨1536 + k.val, by omega⟩) := by
  obtain ⟨h0, h1, h2, h3, h4, h5, h6, h7, h8, h9, h10, h11⟩ := places t
  refine Eq.trans ?_ (congrFun (V_main_arg2 m c) ((ix2 (rowOf t r) ⟨1536 + k.val, by omega⟩)))
  blk_ext [iblk, h2, rowOf]

theorem block3 (t : Fin grid0.N) (r k : Fin 512) : iblk m c 3 t (ix2 r k) = argY m c (ix2 (rowOf t r) k) := by
  obtain ⟨h0, h1, h2, h3, h4, h5, h6, h7, h8, h9, h10, h11⟩ := places t
  refine Eq.trans ?_ (congrFun (V_main_arg3 m c) ((ix2 (rowOf t r) k)))
  blk_ext [iblk, h3, rowOf]

theorem block4 (t : Fin grid0.N) (k : Fin 512) : iblk m c 4 t (ix2 (0 : Fin 1) k) = argG m c (ix2 0 k) := by
  obtain ⟨h0, h1, h2, h3, h4, h5, h6, h7, h8, h9, h10, h11⟩ := places t
  refine Eq.trans ?_ (hostG m c k)
  blk_ext [iblk, h4]

theorem block5 (t : Fin grid0.N) (l k : Fin 512) : iblk m c 5 t (ix2 l k) = argWg m c (ix3 0 l k) := by
  obtain ⟨h0, h1, h2, h3, h4, h5, h6, h7, h8, h9, h10, h11⟩ := places t
  refine Eq.trans ?_ (hostWg m c l k)
  blk_ext [iblk, h5]

theorem block6 (t : Fin grid0.N) (k : Fin 512) : iblk m c 6 t (ix2 (0 : Fin 1) k) = argBg m c (ix2 0 k) := by
  obtain ⟨h0, h1, h2, h3, h4, h5, h6, h7, h8, h9, h10, h11⟩ := places t
  refine Eq.trans ?_ (hostBg m c k)
  blk_ext [iblk, h6]

theorem block7 (t : Fin grid0.N) (k : Fin 512) (j : Fin 1024) : iblk m c 7 t (ix2 k j) = argW m c (ix3 0 ⟨k.val, by omega⟩ j) := by
  obtain ⟨h0, h1, h2, h3, h4, h5, h6, h7, h8, h9, h10, h11⟩ := places t
  refine Eq.trans ?_ (hostU m c k j)
  blk_ext [iblk, h7]

theorem block8 (t : Fin grid0.N) (k : Fin 512) (j : Fin 1024) : iblk m c 8 t (ix2 k j) = argW m c (ix3 0 ⟨512 + k.val, by omega⟩ j) := by
  obtain ⟨h0, h1, h2, h3, h4, h5, h6, h7, h8, h9, h10, h11⟩ := places t
  refine Eq.trans ?_ (hostV m c k j)
  blk_ext [iblk, h8]

theorem block9 (t : Fin grid0.N) (k : Fin 1024) : iblk m c 9 t (ix2 (0 : Fin 1) k) = argLg m c (ix2 0 k) := by
  obtain ⟨h0, h1, h2, h3, h4, h5, h6, h7, h8, h9, h10, h11⟩ := places t
  refine Eq.trans ?_ (hostLg m c k)
  blk_ext [iblk, h9]

theorem block10 (t : Fin grid0.N) (k : Fin 1024) : iblk m c 10 t (ix2 (0 : Fin 1) k) = argLb m c (ix2 0 k) := by
  obtain ⟨h0, h1, h2, h3, h4, h5, h6, h7, h8, h9, h10, h11⟩ := places t
  refine Eq.trans ?_ (hostLb m c k)
  blk_ext [iblk, h10]

/-- The rows of the result. -/
def arrMix : FVec Ideal S16384x1024 .f32 := fun i =>
  row act (argX m c) (argO m c) (argP m c) (argY m c) (argG m c) (argWg m c) (argBg m c) (argW m c) (argLg m c) (argLb m c) (i 0) (i 1)

/-- THE ROWS the kernel leaves. -/
theorem mix_eq : (dats m 0 c).arrAt 11 cfg0.N = arrMix m c := by
  refine (dats m 0 c).arrAt_eq_of_covers 11 _ (by decide +kernel) fun t hf y => ?_
  blk_simp
  rw [after0_11]
  obtain ⟨h0, h1, h2, h3, h4, h5, h6, h7, h8, h9, h10, h11⟩ := places t
  obtain ⟨r, j, rfl⟩ : ∃ (r : Fin 512) (j : Fin 1024), y = ix2 r j := ⟨y 0, y 1, eq_ix2 y⟩
  have hp : (win0_11.blk t).view.emb (ix2 r j) = ix2 (rowOf t r) j := by
    blk_ext [h11, rowOf]
  rw [hp]
  unfold out0_11
  rw [View.canon_unit_zero zeros]
  rw [View.ld_unit_zero zeros, View.ld_unit_zero zeros, View.ld_unit_zero zeros, View.ld_unit_zero zeros, View.ld_unit_zero zeros, View.ld_unit_zero zeros,
    View.ld_unit_zero zeros, View.ld_unit_zero zeros, View.ld_unit_zero zeros, View.ld_unit_zero zeros, View.ld_unit_zero zeros]
  refine (pay5_at _ _ _ _ _ _ _ _ _ r j).trans ?_
  simp only [pay1_at, pay2_at, pay3_at, pay4_at, block0, block1, block2, block3, block4, block5, block6, block7, block8, block9, block10]
  show _ = row act (argX m c) (argO m c) (argP m c) (argY m c) (argG m c) (argWg m c) (argBg m c) (argW m c) (argLg m c) (argLb m c) (rowOf t r) j
  unfold row mixed unit logi
  rfl

end Cert.Kernel3Ideal.Mixing
-- ==== Proof.Gelu.lean ====
/- The two spellings of the tanh activation over the extended reals: by the exponential, as the kernel has it, and by the hyperbolic
   tangent, as the reference has it. They agree at every extended real. -/
module

public import Idealize.ShloMosaic.PureOps.Ideal

@[expose] public section

noncomputable section

namespace Cert.Gelu

open Idealize.ShloMosaic

/-- `x / (1 + exp (x (-2 s - 2 s c x²)))`. -/
def byExp (s c : ℝ) (x : EReal) : EReal :=
  Ideal.div x (1 + Ideal.exp (x * (((-2 * s : ℝ) : EReal) + ((-2 * s * c : ℝ) : EReal) * (x * x))))

/-- `x ½ (1 + tanh (s (x + c x³)))`. -/
def byTanh (s c : ℝ) (x : EReal) : EReal :=
  x * (((1 / 2 : ℝ) : EReal) * (1 + Ideal.tanh ((s : EReal) * (x + (c : EReal) * ((x * x) * x)))))

/-- The identity at a real. -/
theorem half_one_add_tanh (u : ℝ) : 1 / (1 + Real.exp (-2 * u)) = 1 / 2 * (1 + Real.tanh u) := by
  have ha : 0 < Real.exp u := Real.exp_pos u
  have hb : 0 < Real.exp (-u) := Real.exp_pos (-u)
  have hab : Real.exp u * Real.exp (-u) = 1 := by rw [← Real.exp_add]; simp
  have h2 : Real.exp (-2 * u) = Real.exp (-u) * Real.exp (-u) := by rw [← Real.exp_add]; ring_nf
  rw [h2, Real.tanh_eq_sinh_div_cosh, Real.sinh_eq, Real.cosh_eq]
  have hs : Real.exp u + Real.exp (-u) ≠ 0 := by positivity
  have hq : 1 + Real.exp (-u) * Real.exp (-u) ≠ 0 := by positivity
  field_simp
  linear_combination (-2 * Real.exp (-u)) * hab

theorem byExp_eq {s c : ℝ} (hs : 0 < s) (hc : 0 < c) (x : EReal) : byExp s c x = byTanh s c x := by
  have hn : (-2 * s * c : ℝ) < 0 := by have := mul_pos hs hc; linarith
  unfold byExp byTanh
  induction x with
  | bot =>
    rw [EReal.bot_mul_bot, EReal.coe_mul_top_of_neg hn, EReal.add_bot, EReal.bot_mul_bot, EReal.top_mul_bot, EReal.coe_mul_bot_of_pos hc,
      EReal.bot_add, EReal.coe_mul_bot_of_pos hs]
    have e : (1 : EReal) + -1 = 0 := by
      have : ((1 : ℝ) : EReal) + ((-1 : ℝ) : EReal) = ((0 : ℝ) : EReal) := by rw [← EReal.coe_add]; norm_num
      simpa using this
    rw [Ideal.exp_top, Ideal.tanh_bot, e, mul_zero, mul_zero]
    have e' : (1 : EReal) + ⊤ = ⊤ := EReal.coe_add_top 1
    rw [e']
    unfold Ideal.div
    rw [if_neg (by simp), EReal.inv_top, mul_zero]
  | top =>
    rw [EReal.top_mul_top, EReal.coe_mul_top_of_neg hn, EReal.add_bot, EReal.top_mul_bot, EReal.top_mul_top, EReal.coe_mul_top_of_pos hc,
      EReal.top_add_top, EReal.coe_mul_top_of_pos hs, Ideal.exp_bot, Ideal.tanh_top, add_zero]
    have e : ((1 / 2 : ℝ) : EReal) * (1 + 1) = 1 := by
      have : ((1 / 2 : ℝ) : EReal) * (((1 : ℝ) : EReal) + ((1 : ℝ) : EReal)) = ((1 : ℝ) : EReal) := by
        rw [← EReal.coe_add, ← EReal.coe_mul]; norm_num
      simpa using this
    rw [e, mul_one, show (1 : EReal) = ((1 : ℝ) : EReal) from rfl, Ideal.div_coe one_ne_zero]
    norm_num
  | coe r =>
    have e1 : (r : EReal) * (((-2 * s : ℝ) : EReal) + ((-2 * s * c : ℝ) : EReal) * ((r : EReal) * (r : EReal)))
        = ((-2 * (s * (r + c * (r * r * r))) : ℝ) : EReal) := by
      rw [← EReal.coe_mul, ← EReal.coe_mul, ← EReal.coe_add, ← EReal.coe_mul]
      congr 1; ring
    have e2 : (s : EReal) * ((r : EReal) + (c : EReal) * (((r : EReal) * (r : EReal)) * (r : EReal)))
        = ((s * (r + c * (r * r * r)) : ℝ) : EReal) := by
      rw [← EReal.coe_mul, ← EReal.coe_mul, ← EReal.coe_mul, ← EReal.coe_add, ← EReal.coe_mul]
    rw [e1, e2, Ideal.exp_coe, Ideal.tanh_coe, show (1 : EReal) = ((1 : ℝ) : EReal) from rfl, ← EReal.coe_add, ← EReal.coe_add,
      Ideal.div_coe (by have := Real.exp_pos (-2 * (s * (r + c * (r * r * r)))); positivity), half_one_add_tanh, EReal.coe_mul (1 / 2)]

end Cert.Gelu
-- ==== Proof.MixTie.lean ====
/- The reference's mixing: the same rows, its activation spelt by the hyperbolic tangent; so the kernel's rows are the reference's. -/
module

public import proofs.«01_k».proof.Proof.MixArray
public import proofs.«01_k».proof.Proof.Gelu
public import proofs.«01_k».proof.Proof.Gen.Reference3Ideal.Run
public import Idealize.ShloMosaic.Lib.Pointwise

@[expose] public section

set_option maxRecDepth 16384

noncomputable section

namespace Cert.Reference3Ideal.Mixing

open Cert.Reference3Ideal Cert.Reference3Ideal.Gen Cert.Norm Cert.Mix Idealize.ShloMosaic

/-- The reference's activation of one entry. -/
def act (x : EReal) : EReal :=
  x * (Ideal.ofBits .f32 0x3F000000#32 * (one + Ideal.tanh (Ideal.ofBits .f32 0x3F4C422A#32 * (x + Ideal.ofBits .f32 0x3D372713#32 * (x * x * x)))))

theorem one_eq : one = 1 := by
  simp [one, Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem root_eq : Ideal.ofBits .f32 0x3F4C422A#32 = ((6693141 / 8388608 : ℝ) : EReal) := by
  simp [Ideal.ofBits, Ideal.ieee, -EReal.coe_mul]; norm_num

theorem cube_eq : Ideal.ofBits .f32 0x3D372713#32 = ((12003091 / 268435456 : ℝ) : EReal) := by
  simp [Ideal.ofBits, Ideal.ieee, -EReal.coe_mul]; norm_num

theorem twice_eq : Ideal.ofBits .f32 0xBFCC422A#32 = ((-2 * (6693141 / 8388608) : ℝ) : EReal) := by
  simp [Ideal.ofBits, Ideal.ieee, -EReal.coe_mul]; norm_num

theorem named_eq : Named.named (F := Ideal) Cert.Kernel3Ideal.κ "gelu_cub" (φ := .f32) 0xBD922279#32
    = ((-2 * (6693141 / 8388608) * (12003091 / 268435456) : ℝ) : EReal) := by
  refine (IdealRules.named_const.ideal_named_scalar _ _ _ ((-80338380498831 / 1125899906842624 : ℝ) : EReal) rfl).trans ?_
  norm_num

/-- The two activations are one function. -/
theorem act_eq : Cert.Kernel3Ideal.Mixing.act = act := by
  funext x
  have h := Cert.Gelu.byExp_eq (s := 6693141 / 8388608) (c := 12003091 / 268435456) (by norm_num) (by norm_num) x
  unfold Cert.Gelu.byExp Cert.Gelu.byTanh at h
  unfold Cert.Kernel3Ideal.Mixing.act act
  rw [one_eq, half_eq, root_eq, cube_eq, twice_eq, named_eq]
  exact h

variable (x : FVec Ideal S16384x1024 .f32) (o : FVec Ideal S16384x512 .f32) (p : FVec Ideal S16384x2560 .f32) (y : FVec Ideal S16384x512 .f32) (g : FVec Ideal S1x512 .f32) (wg : FVec Ideal S1x512x512 .f32) (bg : FVec Ideal S1x512 .f32) (w : FVec Ideal S1x1024x1024 .f32) (lg : FVec Ideal S1x1024 .f32) (lb : FVec Ideal S1x1024 .f32)

/-- The first group: the normed rows, their gain, and the gate. -/
def gate : FVec Ideal S16384x512 .f32 := extractStridedSlice S16384x512 ![0, 1536] p slices_S16384x2560_S16384x512_0_1536
def ones : FVec Ideal S16384x512 .f32 := broadcastInDim S16384x512 ![] bcast_S_S16384x512 (constant S_ .f32 0x3F800000#32)
def logis (z : FVec Ideal S16384x512 .f32) : FVec Ideal S16384x512 .f32 := Host.divf ones (addf ones (Host.exp (Host.negf z)))
def gateds : FVec Ideal S16384x512 .f32 :=
  mulf (mulf o (broadcastInDim S16384x512 ![0, 1] bcast_S1x512_S16384x512_0_1 (broadcastInDim S1x512 ![1] bcast_S512_S1x512_1 (shapeCast _ g shapeCasts_S1x512_S512))))
    (mulf (gate p) (logis (gate p)))

/-- The second group: the activation and its linear unit. -/
def acts : FVec Ideal S16384x512 .f32 :=
  mulf y (mulf (broadcastInDim S16384x512 ![] bcast_S_S16384x512 (constant S_ .f32 0x3F000000#32)) (addf ones
    (Host.tanh (mulf (broadcastInDim S16384x512 ![] bcast_S_S16384x512 (constant S_ .f32 0x3F4C422A#32))
      (addf y (mulf (broadcastInDim S16384x512 ![] bcast_S_S16384x512 (constant S_ .f32 0x3D372713#32)) (mulf (mulf y y) y)))))))
def units : FVec Ideal S16384x512 .f32 :=
  mulf (acts y) (logis (addf (Host.dotGeneral dot_S16384x512_S512x512_S16384x512_1_0_0_1_n_n none (acts y) (shapeCast _ wg shapeCasts_S1x512x512_S512x512))
    (broadcastInDim S16384x512 ![0, 1] bcast_S1x512_S16384x512_0_1 (broadcastInDim S1x512 ![1] bcast_S512_S1x512_1 (shapeCast _ bg shapeCasts_S1x512_S512)))))

/-- The two groups side by side, and the rows before the norm. -/
def sides : FVec Ideal S16384x1024 .f32 :=
  concatenate S16384x1024 1 [⟨S16384x512, gateds o p g⟩, ⟨S16384x512, units y wg bg⟩] concatenates_S16384x512_S16384x512_S16384x1024_d1
def sums (s : FVec Ideal S16384x1024 .f32) : FVec Ideal S16384x1024 .f32 :=
  addf (mulf (broadcastInDim S16384x1024 ![] bcast_S_S16384x1024 (constant S_ .f32 0x3F9837F0#32)) x)
    (Host.dotGeneral dot_S16384x1024_S1024x1024_S16384x1024_1_0_0_1_n_n none s (shapeCast _ w shapeCasts_S1x1024x1024_S1024x1024))

/-- The norm. -/
def col : FVec Ideal S16384x1 .f32 :=
  Host.divf (broadcastInDim S16384x1 ![0] bcast_S16384_S16384x1_0 (Host.reduceAdd x (constant S_ .f32 0x00000000#32) reducesTo_S16384x1024_S16384_d1 h_S_))
    (broadcastInDim S16384x1 ![] bcast_S_S16384x1 (constant S_ .f32 0x44800000#32))
def less : FVec Ideal S16384x1024 .f32 := subf x (broadcastInDim S16384x1024 ![0, 1] bcast_S16384x1_S16384x1024_0_1 (col x))
def rows : FVec Ideal S16384x1024 .f32 :=
  addf (mulf (mulf (less x) (broadcastInDim S16384x1024 ![0, 1] bcast_S16384x1_S16384x1024_0_1
      (Host.rsqrt (addf (col (mulf (less x) (less x))) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 (shapeCast _ lg shapeCasts_S1x1024_S1024))))
    (broadcastInDim S16384x1024 ![0, 1] bcast_S1x1024_S16384x1024_0_1 (broadcastInDim S1x1024 ![1] bcast_S1024_S1x1024_1 (shapeCast _ lb shapeCasts_S1x1024_S1024)))

theorem gate_at (i : Fin 16384) (k : Fin 512) : gate p (ix2 i k) = p (ix2 i ⟨1536 + k.val, by omega⟩) := by
  pointwise [gate]

theorem logis_at (z : FVec Ideal S16384x512 .f32) (i : Fin 16384) (k : Fin 512) : logis z (ix2 i k) = logi (z (ix2 i k)) := by
  pointwise [logis, ones, logi]

theorem gateds_at (i : Fin 16384) (k : Fin 512) :
    gateds o p g (ix2 i k) = gated (o (ix2 i k)) (g (ix2 0 k)) (p (ix2 i ⟨1536 + k.val, by omega⟩)) := by
  pointwise [gateds, gated, gate_at, logis_at]

theorem acts_at (i : Fin 16384) (k : Fin 512) : acts y (ix2 i k) = act (y (ix2 i k)) := by
  pointwise [acts, act, ones]

theorem units_at (i : Fin 16384) (k : Fin 512) :
    units y wg bg (ix2 i k) = unit (fun l => act (y (ix2 i l))) (fun l => wg (ix3 0 l k)) (bg (ix2 0 k)) (act (y (ix2 i k))) := by
  pointwise [units, unit, acts_at, logis_at]

theorem sides_left (i : Fin 16384) (k : Fin 512) : sides o p y g wg bg (ix2 i ⟨k.val, by omega⟩) = gateds o p g (ix2 i k) := by
  unfold sides
  pointwise

theorem sides_right (i : Fin 16384) (k : Fin 512) : sides o p y g wg bg (ix2 i ⟨512 + k.val, by omega⟩) = units y wg bg (ix2 i k) := by
  unfold sides
  pointwise

/-- A sum over the two groups' entries is the two groups' sums. -/
theorem sum_sides (f : Fin 1024 → EReal) : ∑ k, f k = (∑ k : Fin 512, f ⟨k.val, by omega⟩) + ∑ k : Fin 512, f ⟨512 + k.val, by omega⟩ :=
  Fin.sum_univ_add (a := 512) (b := 512) f

theorem sums_at (s : FVec Ideal S16384x1024 .f32) (i : Fin 16384) (j : Fin 1024) :
    sums x w s (ix2 i j) = before (x (ix2 i j)) (fun k => s (ix2 i ⟨k.val, by omega⟩)) (fun k => s (ix2 i ⟨512 + k.val, by omega⟩))
      (fun k => w (ix3 0 ⟨k.val, by omega⟩ j)) (fun k => w (ix3 0 ⟨512 + k.val, by omega⟩ j)) := by
  have h : sums x w s (ix2 i j) = Ideal.ofBits .f32 0x3F9837F0#32 * x (ix2 i j) + ∑ k : Fin 1024, s (ix2 i k) * w (ix3 0 k j) := by
    pointwise [sums]
  rw [h, sum_sides]
  rfl

theorem col_at (i : Fin 16384) : col x (ix2 i 0) = mean (fun k => x (ix2 i k)) := by
  pointwise [col]
  rfl

theorem less_at (i : Fin 16384) (k : Fin 1024) : less x (ix2 i k) = centred (fun k => x (ix2 i k)) k := by
  pointwise [less, col_at]
  rfl

theorem rows_at (i : Fin 16384) (j : Fin 1024) :
    rows x lg lb (ix2 i j) = norm (fun k => x (ix2 i k)) (fun k => lg (ix2 0 k)) (fun k => lb (ix2 0 k)) j := by
  pointwise [rows, col_at, less_at]
  rfl

/-- The rows of the result, of the arguments. -/
def refMix : FVec Ideal S16384x1024 .f32 := fun i => Cert.Kernel3Ideal.Mixing.row act x o p y g wg bg w lg lb (i 0) (i 1)

theorem refMix_eq : rows (sums x w (sides o p y g wg bg)) lg lb = refMix x o p y g wg bg w lg lb := by
  funext z
  obtain ⟨i, j, rfl⟩ : ∃ (i : Fin 16384) (j : Fin 1024), z = ix2 i j := ⟨z 0, z 1, eq_ix2 z⟩
  show _ = Cert.Kernel3Ideal.Mixing.row act x o p y g wg bg w lg lb i j
  rw [rows_at]
  simp only [sums_at, sides_left, sides_right, gateds_at, units_at]
  rfl

/-- The reference's result is these rows. -/
theorem res_eq (m : (ℓ : Loc nD τ sig) → Buf (Elt Ideal) ℓ) (c : Dev nD) :
    Cert.Reference3Ideal.Value.res_out0 m c
      = refMix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show Cert.Reference3Ideal.Value.res_main_v64 m c = _
  refine Eq.trans ?_ (refMix_eq _ _ _ _ _ _ _ _ _ _)
  unfold Cert.Reference3Ideal.Value.res_main_v64
  rfl

end Cert.Reference3Ideal.Mixing
-- ==== Proof.ShortVec.lean ====
/- What one grid point of the gated recurrence's short call computes, as functions of its blocks (16 sequences of eight
   rows, one head): the accumulated log decays, the scores, the rows it stores and the states it leaves. The theorems
   `word_…` say the run's values are these functions. -/
module

public import proofs.«01_k».proof.Proof.Gen.Kernel4Ideal.Frame
public import Idealize.ShloMosaic.Lib.Pipeline.ValueKit
public import Idealize.ShloMosaic.Lib.Pipeline.ReadBack
public import Idealize.ShloMosaic.Lib.VecWindow

@[expose] public section

set_option maxRecDepth 16384

noncomputable section

namespace Cert.Kernel4Ideal.Short

open Cert.Kernel4Ideal Cert.Kernel4Ideal.Gen Idealize.ShloMosaic Idealize.ShloMosaic.TcCoe

variable {F : FTy → Type} [FloatOps F]

theorem slices8 : ∀ g : Fin 16, S16x8x128.Slices ![g.val, 0, 0] S1x8x128 := by decide
theorem slicesRow : ∀ s : Fin 8, S16x8x128.Slices ![0, s.val, 0] S16x1x128 := by decide
theorem slicesAtt : ∀ s : Fin 8, S1024x128.Slices ![128 * s.val, 0] S128x128 := by decide
theorem slices1 : ∀ g : Fin 16, S16x1x128.Slices ![g.val, 0, 0] S1x1x128 := by decide
theorem inbRows : ∀ g : Fin 16, ∀ a, (![g.val, 0, 0] : Fin 3 → ℕ) a + S1x8x128.size a ≤ S16x8x128.size a := by decide
theorem inbStates : ∀ g : Fin 16, ∀ a, (![g.val, 0, 0, 0] : Fin 4 → ℕ) a + S1x1x128x128.size a ≤ S16x1x128x128.size a := by decide

/-- Sequence `g` of a vector of 16 sequences of 8 rows. -/
def rowsV {φ : FTy} (x : FVec F S16x8x128 φ) (g : Fin 16) : FVec F S8x128 φ :=
  shapeCast S8x128 (extractStridedSlice S1x8x128 ![g.val, 0, 0] x (slices8 g)) shapeCasts_S1x8x128_S8x128

/-- Sequence `g` of a block of rows, as loaded. -/
def loadV (x : Vec F S16x8x128 .f32) (g : Fin 16) : Vec F S1x8x128 .f32 :=
  View.ld x (Rect.unit (s := S16x8x128) ![g.val, 0, 0] S1x8x128.size (inbRows g))

/-- A loaded sequence in the shape it is stacked in. -/
def pieceV (x : Vec F S16x8x128 .f32) (g : Fin 16) : FVec F S1x8x128 .f32 :=
  shapeCast S1x8x128 (shapeCast S8x128 (loadV x g) shapeCasts_S1x8x128_S8x128) shapeCasts_S8x128_S1x8x128

/-- The block's sequences, loaded one by one and stacked. -/
def takeV (x : Vec F S16x8x128 .f32) : FVec F S16x8x128 .f32 :=
  concatenate S16x8x128 0 [⟨S1x8x128, pieceV x 0⟩, ⟨S1x8x128, pieceV x 1⟩, ⟨S1x8x128, pieceV x 2⟩, ⟨S1x8x128, pieceV x 3⟩, ⟨S1x8x128, pieceV x 4⟩, ⟨S1x8x128, pieceV x 5⟩, ⟨S1x8x128, pieceV x 6⟩, ⟨S1x8x128, pieceV x 7⟩, ⟨S1x8x128, pieceV x 8⟩, ⟨S1x8x128, pieceV x 9⟩, ⟨S1x8x128, pieceV x 10⟩, ⟨S1x8x128, pieceV x 11⟩, ⟨S1x8x128, pieceV x 12⟩, ⟨S1x8x128, pieceV x 13⟩, ⟨S1x8x128, pieceV x 14⟩, ⟨S1x8x128, pieceV x 15⟩]
    concatenates_S1x8x128_S1x8x128_S1x8x128_S1x8x128_S1x8x128_S1x8x128_S1x8x128_S1x8x128_S1x8x128_S1x8x128_S1x8x128_S1x8x128_S1x8x128_S1x8x128_S1x8x128_S1x8x128_S16x8x128_d0

/-- The state sequence `g` starts from, values first. -/
def startV (x : Vec F S16x1x128x128 .f32) (g : Fin 16) : FVec F S1x128x128 .f32 :=
  shapeCast S1x128x128 (transpose S128x128 [1, 0] (shapeCast S128x128
      (View.ld x (Rect.unit (s := S16x1x128x128) ![g.val, 0, 0, 0] S1x1x128x128.size (inbStates g)))
    shapeCasts_S1x1x128x128_S128x128) transposes_S128x128_p1_0_S128x128) shapeCasts_S128x128_S1x128x128

/-- The decay of sequence `g`, the same for every row of the state. -/
def decayV (dec : FVec F S16x1x128 .f32) (g : Fin 16) : FVec F S128x128 .f32 :=
  broadcastTo S128x128 (shapeCast S1x128 (extractStridedSlice S1x1x128 ![g.val, 0, 0] dec (slices1 g)) shapeCasts_S1x1x128_S1x128) broadcasts_S1x128_S128x128

/-- What sequence `g` adds to its state: its values against its keys. -/
def addV (kt vb : FVec F S16x8x128 .bf16) (g : Fin 16) : FVec F S128x128 .f32 :=
  matmul dot_S8x128_S8x128_S128x128_0_0_1_1_n_n none (rowsV vb g) (rowsV kt g) (constant S128x128 .f32 0x00000000#32)

/-- The state sequence `g` leaves. -/
def nextV (dec : FVec F S16x1x128 .f32) (kt vb : FVec F S16x8x128 .bf16) (st : Vec F S1x128x128 .f32) (g : Fin 16) : FVec F S1x128x128 .f32 :=
  shapeCast S1x128x128 (addf (mulf (shapeCast S128x128 st shapeCasts_S1x128x128_S128x128) (decayV dec g)) (addV kt vb g))
    shapeCasts_S128x128_S1x128x128

/-- The rows of sequence `g` before normalisation: the part within the sequence and the part through the state. -/
def rawV (o : FVec F S16x8x128 .f32) (qs : FVec F S16x8x128 .bf16) (st : Vec F S1x128x128 .f32) (g : Fin 16) : FVec F S8x128 .f32 :=
  addf (rowsV o g) (matmul dot_S8x128_S128x128_S8x128_1_1_0_0_n_n none (rowsV qs g)
    (truncf .bf16 (shapeCast S128x128 st shapeCasts_S1x128x128_S128x128) bitsLt_bf16_f32) (constant S8x128 .f32 0x00000000#32))

/-- Rows divided by the root of their mean square. -/
def normV (x : FVec F S8x128 .f32) : FVec F S1x8x128 .f32 := k0_pay169 x

/-- A state turned keys first. -/
def turnV (x : Vec F S1x128x128 .f32) : FVec F S1x1x128x128 .f32 := k0_pay194 x

/-- A row number below 8. -/
def row8 (n : ℕ) : Fin 8 := ⟨n % 8, Nat.mod_lt _ (by decide)⟩

/-- Row `s` of every sequence. -/
def nearV {φ : FTy} (x : FVec F S16x8x128 φ) (s : Fin 8) : FVec F S16x1x128 φ :=
  shapeCast S16x1x128 (extractStridedSlice S16x1x128 ![0, s.val, 0] x (slicesRow s)) shapeCasts_S16x1x128_S16x1x128

/-- The mask of the rows from `s` on. -/
def fromV (v3 : IVec S16x8x128 32) (s : Fin 8) : IVec S16x8x128 1 :=
  cmpi .sge v3 (broadcast S16x8x128 (BitVec.ofNat 32 s.val))

/-- The log decays of the first `n` rows, accumulated over the rows at or below each row. -/
def cumN (v3 : IVec S16x8x128 32) (lf : FVec F S16x8x128 .f32) : ℕ → FVec F S16x8x128 .f32
  | 0 => broadcast S16x8x128 (Scalar.ofBits .f32 0x00000000#32)
  | n + 1 => addf (cumN v3 lf n) (select (fromV v3 (row8 n))
      (broadcastTo S16x8x128 (nearV lf (row8 n)) broadcasts_S16x1x128_S16x8x128)
      (broadcast S16x8x128 (Scalar.ofBits .f32 0x00000000#32)))

/-- The products of the queries with key `s`, for all rows. -/
def prodV (v3 : IVec S16x8x128 32) (q kk bc : FVec F S16x8x128 .f32) (s : Fin 8) : FVec F S128x128 .f32 :=
  shapeCast S128x128 (mulf (mulf q (select (fromV v3 s)
      (exp (subf bc (broadcastTo S16x8x128 (nearV bc s) broadcasts_S16x1x128_S16x8x128)))
      (broadcast S16x8x128 (Scalar.ofBits .f32 0x00000000#32))))
    (broadcastTo S16x8x128 (nearV kk s) broadcasts_S16x1x128_S16x8x128)) shapeCasts_S16x8x128_S128x128

/-- The products of every key, stacked. -/
def stackV (p : Fin 8 → FVec F S128x128 .f32) : FVec F S1024x128 .f32 :=
  concatenate S1024x128 0 [⟨S128x128, p 0⟩, ⟨S128x128, p 1⟩, ⟨S128x128, p 2⟩, ⟨S128x128, p 3⟩, ⟨S128x128, p 4⟩, ⟨S128x128, p 5⟩, ⟨S128x128, p 6⟩, ⟨S128x128, p 7⟩]
    concatenates_S128x128_S128x128_S128x128_S128x128_S128x128_S128x128_S128x128_S128x128_S1024x128_d0

/-- The scores: the products summed over the key width, one block of rows per key. -/
def attV (v3 : IVec S16x8x128 32) (q kk bc : FVec F S16x8x128 .f32) : FVec F S1024x128 .f32 :=
  matmul dot_S1024x128_S128x128_S1024x128_1_0_0_1_n_n none
    (truncf .bf16 (stackV (prodV v3 q kk bc)) bitsLt_bf16_f32) k0_pay4 (constant S1024x128 .f32 0x00000000#32)

/-- The scores against the values, over the first `n` keys. -/
def inV (v : FVec F S16x8x128 .f32) (att : FVec F S1024x128 .f32) : ℕ → FVec F S16x8x128 .f32
  | 0 => broadcast S16x8x128 (Scalar.ofBits .f32 0x00000000#32)
  | n + 1 => addf (inV v att n) (mulf
      (shapeCast S16x8x128 (extractStridedSlice S128x128 ![128 * (row8 n).val, 0] att (slicesAtt (row8 n))) shapeCasts_S128x128_S16x8x128)
      (broadcastTo S16x8x128 (nearV v (row8 n)) broadcasts_S16x1x128_S16x8x128))

/-- The row numbers. -/
abbrev rowNo : IVec S16x8x128 32 := kernelRun0_A.sl.v3

section Block

variable (x0 x1 x2 : Vec F S16x8x128 .f32) (x3 : Vec F S1x128 .f32) (x4 : Vec F S16x1x128x128 .f32)

/-- The block's queries, keys, values and log decays, zero from row 4 on. -/
def qV : FVec F S16x8x128 .f32 := k0_pay63 rowNo (takeV x0)
def keyV : FVec F S16x8x128 .f32 := k0_pay62 (k0_pay3 x3) rowNo (takeV x1)
def valV : FVec F S16x8x128 .f32 := k0_pay64 rowNo (takeV x2)
def logV : FVec F S16x8x128 .f32 := k0_pay61 (k0_pay3 x3) rowNo (k0_pay57 (k0_pay3 x3)) (k0_pay58 (takeV x1)) k0_pay59
/-- The accumulated log decays. -/
def cumV : FVec F S16x8x128 .f32 := cumN rowNo (logV x1 x3) 8
/-- The part within the sequences. -/
def nearOut : FVec F S16x8x128 .f32 := inV (valV x2) (attV rowNo (qV x0) (keyV x1 x3) (cumV x1 x3)) 8
/-- The rows of sequence `g` before normalisation. -/
def rowV (g : Fin 16) : FVec F S8x128 .f32 := rawV (nearOut x0 x1 x2 x3) (k0_pay86 (qV x0) (cumV x1 x3)) (startV x4 g) g
/-- The state sequence `g` leaves. -/
def leftV (g : Fin 16) : FVec F S1x128x128 .f32 :=
  nextV (k0_pay89 (cumV x1 x3)) (k0_pay87 (keyV x1 x3) (cumV x1 x3)) (k0_pay88 (valV x2)) (startV x4 g) g

end Block

section Words

variable (c : Dev nD) (arg2 : Memref sig .tc .vmem S16x8x128 .f32) (harg2 : arg2.IsWhole) (arg3 : Memref sig .tc .vmem S16x8x128 .f32) (harg3 : arg3.IsWhole) (arg4 : Memref sig .tc .vmem S16x8x128 .f32) (harg4 : arg4.IsWhole) (arg5 : Memref sig .tc .vmem S1x128 .f32) (harg5 : arg5.IsWhole) (arg6 : Memref sig .tc .vmem S16x1x128x128 .f32) (harg6 : arg6.IsWhole) (arg9 : Memref sig .tc .vmem S16x128x128 .f32)
  (x0 x1 x2 : Vec F S16x8x128 .f32) (x3 : Vec F S1x128 .f32) (x4 : Vec F S16x1x128x128 .f32)

/-- A load of a whole staging buffer's sequence `g`. -/
theorem load_rows (a : Memref sig .tc .vmem S16x8x128 .f32) (ha : a.IsWhole) (x : Vec F S16x8x128 .f32) (g : Fin 16) :
    View.readAt (Elt F) a.view (Rect.unit (s := S16x8x128) ![g.val, 0, 0] S1x8x128.size (inbRows g)).toLoadRect (ha.unread x) = loadV x g :=
  congrArg (fun z => View.ld z _) (ha.read_unread x)

theorem load_states (a : Memref sig .tc .vmem S16x1x128x128 .f32) (ha : a.IsWhole) (x : Vec F S16x1x128x128 .f32) (g : Fin 16) :
    View.readAt (Elt F) a.view (Rect.unit (s := S16x1x128x128) ![g.val, 0, 0, 0] S1x1x128x128.size (inbStates g)).toLoadRect (ha.unread x)
      = View.ld x (Rect.unit (s := S16x1x128x128) ![g.val, 0, 0, 0] S1x1x128x128.size (inbStates g)) :=
  congrArg (fun z => View.ld z _) (ha.read_unread x)

/-- The stack of sixteen loads. -/
theorem stack_loads (a : Memref sig .tc .vmem S16x8x128 .f32) (ha : a.IsWhole) (x : Vec F S16x8x128 .f32) :
    concatenate S16x8x128 0 [⟨S1x8x128, shapeCast S1x8x128 (shapeCast S8x128 (View.readAt (Elt F) a.view (Rect.unit (s := S16x8x128) ![(0 : Fin 16).val, 0, 0] S1x8x128.size (inbRows 0)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(1 : Fin 16).val, 0, 0] S1x8x128.size (inbRows 1)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(2 : Fin 16).val, 0, 0] S1x8x128.size (inbRows 2)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(3 : Fin 16).val, 0, 0] S1x8x128.size (inbRows 3)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(4 : Fin 16).val, 0, 0] S1x8x128.size (inbRows 4)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(5 : Fin 16).val, 0, 0] S1x8x128.size (inbRows 5)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(6 : Fin 16).val, 0, 0] S1x8x128.size (inbRows 6)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(7 : Fin 16).val, 0, 0] S1x8x128.size (inbRows 7)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(8 : Fin 16).val, 0, 0] S1x8x128.size (inbRows 8)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(9 : Fin 16).val, 0, 0] S1x8x128.size (inbRows 9)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(10 : Fin 16).val, 0, 0] S1x8x128.size (inbRows 10)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(11 : Fin 16).val, 0, 0] S1x8x128.size (inbRows 11)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(12 : Fin 16).val, 0, 0] S1x8x128.size (inbRows 12)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(13 : Fin 16).val, 0, 0] S1x8x128.size (inbRows 13)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(14 : Fin 16).val, 0, 0] S1x8x128.size (inbRows 14)).toLoadRect (ha.unread x)) shapeCasts_S1x8x128_S8x128) shapeCasts_S8x128_S1x8x128⟩, ⟨S1x8x128, shapeCast S1x8x128 (shapeCast S8x128 (View.readAt (Elt F) a.view (Rect.unit (s := S16x8x128) ![(15 : Fin 16).val, 0, 0] S1x8x128.size (inbRows 15)).toLoadRect (ha.unread x)) shapeCasts_S1x8x128_S8x128) shapeCasts_S8x128_S1x8x128⟩]
      concatenates_S1x8x128_S1x8x128_S1x8x128_S1x8x128_S1x8x128_S1x8x128_S1x8x128_S1x8x128_S1x8x128_S1x8x128_S1x8x128_S1x8x128_S1x8x128_S1x8x128_S1x8x128_S1x8x128_S16x8x128_d0 = takeV x := by
  rw [load_rows a ha x 0, load_rows a ha x 1, load_rows a ha x 2, load_rows a ha x 3, load_rows a ha x 4, load_rows a ha x 5, load_rows a ha x 6, load_rows a ha x 7, load_rows a ha x 8, load_rows a ha x 9, load_rows a ha x 10, load_rows a ha x 11, load_rows a ha x 12, load_rows a ha x 13, load_rows a ha x 14, load_rows a ha x 15]
  rfl

theorem word_q :
    (kernelRun0_A.sl.v166 (F := F) c arg2 harg2 x0) = takeV x0 := by
  exact stack_loads arg2 harg2 x0

theorem word_f :
    (kernelRun0_A.sl.v231 (F := F) c arg3 harg3 x1) = takeV x1 := by
  exact stack_loads arg3 harg3 x1

theorem word_v :
    (kernelRun0_A.sl.r_2 (F := F) c arg4 harg4 x2) = takeV x2 := by
  exact stack_loads arg4 harg4 x2

theorem word_low : (kernelRun0_A.sl.r (F := F) c arg5 harg5 x3) = k0_pay3 x3 := by
  unfold kernelRun0_A.sl.r
  refine congrArg k0_pay3 ?_
  rw [View.readAt_full, harg5.read_unread]

theorem word_r_5 :
    (kernelRun0_A.sl.r_5 (F := F) c arg3 harg3 arg5 harg5 x1 x3) = logV x1 x3 := by
  unfold kernelRun0_A.sl.r_5 kernelRun0_A.sl.r_3 kernelRun0_A.sl.r_4
  rw [word_f, word_low]
  rfl

theorem word_r_6 :
    (kernelRun0_A.sl.r_6 (F := F) c arg3 harg3 arg5 harg5 x1 x3) = keyV x1 x3 := by
  unfold kernelRun0_A.sl.r_6
  rw [word_f, word_low]
  rfl

theorem word_r_7 :
    (kernelRun0_A.sl.r_7 (F := F) c arg2 harg2 x0) = qV x0 := by
  unfold kernelRun0_A.sl.r_7
  rw [word_q]
  rfl

theorem word_r_8 :
    (kernelRun0_A.sl.r_8 (F := F) c arg4 harg4 x2) = valV x2 := by
  unfold kernelRun0_A.sl.r_8
  rw [word_v]
  rfl

theorem word_r_13 :
    (kernelRun0_A.sl.r_13 (F := F) c arg3 harg3 arg5 harg5 x1 x3) = cumV x1 x3 := by
  unfold cumV
  rw [← word_r_5 c arg3 harg3 arg5 harg5 x1 x3]
  rfl

theorem word_r_23 :
    (kernelRun0_A.sl.r_23 (F := F) c arg2 harg2 arg3 harg3 arg5 harg5 x0 x1 x3) = attV rowNo (qV x0) (keyV x1 x3) (cumV x1 x3) := by
  rw [← word_r_7 c arg2 harg2 x0, ← word_r_6 c arg3 harg3 arg5 harg5 x1 x3, ← word_r_13 c arg3 harg3 arg5 harg5 x1 x3]
  rfl

theorem word_r_26 :
    (kernelRun0_A.sl.r_26 (F := F) c arg2 harg2 arg3 harg3 arg4 harg4 arg5 harg5 x0 x1 x2 x3) = nearOut x0 x1 x2 x3 := by
  unfold nearOut
  rw [← word_r_23 c arg2 harg2 arg3 harg3 arg5 harg5 x0 x1 x3, ← word_r_8 c arg4 harg4 x2]
  rfl

theorem word_r_27 :
    (kernelRun0_A.sl.r_27 (F := F) c arg2 harg2 arg3 harg3 arg5 harg5 x0 x1 x3) = k0_pay86 (qV x0) (cumV x1 x3) := by
  unfold kernelRun0_A.sl.r_27
  rw [word_r_7, word_r_13]

theorem word_r_28 :
    (kernelRun0_A.sl.r_28 (F := F) c arg3 harg3 arg5 harg5 x1 x3) = k0_pay87 (keyV x1 x3) (cumV x1 x3) := by
  unfold kernelRun0_A.sl.r_28
  rw [word_r_6, word_r_13]

theorem word_r_29 :
    (kernelRun0_A.sl.r_29 (F := F) c arg4 harg4 x2) = k0_pay88 (valV x2) := by
  unfold kernelRun0_A.sl.r_29
  rw [word_r_8]

theorem word_r_30 :
    (kernelRun0_A.sl.r_30 (F := F) c arg3 harg3 arg5 harg5 x1 x3) = k0_pay89 (cumV x1 x3) := by
  unfold kernelRun0_A.sl.r_30
  rw [word_r_13]

theorem word_start_0 :
    (kernelRun0_A.sl.v675 (F := F) c arg6 harg6 arg9 x4) = startV x4 0 := by
  unfold kernelRun0_A.sl.v675
  iterate 15 refine (View.readCov_skip _ _ _ _ _ (by sl_kernel_rfl)).trans ?_
  refine (View.readCov_cons_toLoadRect _ _ _ _).trans ?_
  unfold startV
  rw [← load_states arg6 harg6 x4 0]
  rfl

theorem word_start_1 :
    (kernelRun0_A.sl.v692 (F := F) c arg3 harg3 arg4 harg4 arg5 harg5 arg6 harg6 arg9 x1 x2 x3 x4) = startV x4 1 := by
  unfold kernelRun0_A.sl.v692
  iterate 15 refine (View.readCov_skip _ _ _ _ _ (by sl_kernel_rfl)).trans ?_
  refine (View.readCov_cons_toLoadRect _ _ _ _).trans ?_
  unfold startV
  rw [← load_states arg6 harg6 x4 1]
  rfl

theorem word_start_2 :
    (kernelRun0_A.sl.v709 (F := F) c arg3 harg3 arg4 harg4 arg5 harg5 arg6 harg6 arg9 x1 x2 x3 x4) = startV x4 2 := by
  unfold kernelRun0_A.sl.v709
  iterate 15 refine (View.readCov_skip _ _ _ _ _ (by sl_kernel_rfl)).trans ?_
  refine (View.readCov_cons_toLoadRect _ _ _ _).trans ?_
  unfold startV
  rw [← load_states arg6 harg6 x4 2]
  rfl

theorem word_start_3 :
    (kernelRun0_A.sl.v726 (F := F) c arg3 harg3 arg4 harg4 arg5 harg5 arg6 harg6 arg9 x1 x2 x3 x4) = startV x4 3 := by
  unfold kernelRun0_A.sl.v726
  iterate 15 refine (View.readCov_skip _ _ _ _ _ (by sl_kernel_rfl)).trans ?_
  refine (View.readCov_cons_toLoadRect _ _ _ _).trans ?_
  unfold startV
  rw [← load_states arg6 harg6 x4 3]
  rfl

theorem word_start_4 :
    (kernelRun0_A.sl.v743 (F := F) c arg3 harg3 arg4 harg4 arg5 harg5 arg6 harg6 arg9 x1 x2 x3 x4) = startV x4 4 := by
  unfold kernelRun0_A.sl.v743
  iterate 15 refine (View.readCov_skip _ _ _ _ _ (by sl_kernel_rfl)).trans ?_
  refine (View.readCov_cons_toLoadRect _ _ _ _).trans ?_
  unfold startV
  rw [← load_states arg6 harg6 x4 4]
  rfl

theorem word_start_5 :
    (kernelRun0_A.sl.v760 (F := F) c arg3 harg3 arg4 harg4 arg5 harg5 arg6 harg6 arg9 x1 x2 x3 x4) = startV x4 5 := by
  unfold kernelRun0_A.sl.v760
  iterate 15 refine (View.readCov_skip _ _ _ _ _ (by sl_kernel_rfl)).trans ?_
  refine (View.readCov_cons_toLoadRect _ _ _ _).trans ?_
  unfold startV
  rw [← load_states arg6 harg6 x4 5]
  rfl

theorem word_start_6 :
    (kernelRun0_A.sl.v777 (F := F) c arg3 harg3 arg4 harg4 arg5 harg5 arg6 harg6 arg9 x1 x2 x3 x4) = startV x4 6 := by
  unfold kernelRun0_A.sl.v777
  iterate 15 refine (View.readCov_skip _ _ _ _ _ (by sl_kernel_rfl)).trans ?_
  refine (View.readCov_cons_toLoadRect _ _ _ _).trans ?_
  unfold startV
  rw [← load_states arg6 harg6 x4 6]
  rfl

theorem word_start_7 :
    (kernelRun0_A.sl.v794 (F := F) c arg3 harg3 arg4 harg4 arg5 harg5 arg6 harg6 arg9 x1 x2 x3 x4) = startV x4 7 := by
  unfold kernelRun0_A.sl.v794
  iterate 15 refine (View.readCov_skip _ _ _ _ _ (by sl_kernel_rfl)).trans ?_
  refine (View.readCov_cons_toLoadRect _ _ _ _).trans ?_
  unfold startV
  rw [← load_states arg6 harg6 x4 7]
  rfl

theorem word_start_8 :
    (kernelRun0_A.sl.v811 (F := F) c arg3 harg3 arg4 harg4 arg5 harg5 arg6 harg6 arg9 x1 x2 x3 x4) = startV x4 8 := by
  unfold kernelRun0_A.sl.v811
  iterate 15 refine (View.readCov_skip _ _ _ _ _ (by sl_kernel_rfl)).trans ?_
  refine (View.readCov_cons_toLoadRect _ _ _ _).trans ?_
  unfold startV
  rw [← load_states arg6 harg6 x4 8]
  rfl

theorem word_start_9 :
    (kernelRun0_A.sl.v828 (F := F) c arg3 harg3 arg4 harg4 arg5 harg5 arg6 harg6 arg9 x1 x2 x3 x4) = startV x4 9 := by
  unfold kernelRun0_A.sl.v828
  iterate 15 refine (View.readCov_skip _ _ _ _ _ (by sl_kernel_rfl)).trans ?_
  refine (View.readCov_cons_toLoadRect _ _ _ _).trans ?_
  unfold startV
  rw [← load_states arg6 harg6 x4 9]
  rfl

theorem word_start_10 :
    (kernelRun0_A.sl.v845 (F := F) c arg3 harg3 arg4 harg4 arg5 harg5 arg6 harg6 arg9 x1 x2 x3 x4) = startV x4 10 := by
  unfold kernelRun0_A.sl.v845
  iterate 15 refine (View.readCov_skip _ _ _ _ _ (by sl_kernel_rfl)).trans ?_
  refine (View.readCov_cons_toLoadRect _ _ _ _).trans ?_
  unfold startV
  rw [← load_states arg6 harg6 x4 10]
  rfl

theorem word_start_11 :
    (kernelRun0_A.sl.v862 (F := F) c arg3 harg3 arg4 harg4 arg5 harg5 arg6 harg6 arg9 x1 x2 x3 x4) = startV x4 11 := by
  unfold kernelRun0_A.sl.v862
  iterate 15 refine (View.readCov_skip _ _ _ _ _ (by sl_kernel_rfl)).trans ?_
  refine (View.readCov_cons_toLoadRect _ _ _ _).trans ?_
  unfold startV
  rw [← load_states arg6 harg6 x4 11]
  rfl

theorem word_start_12 :
    (kernelRun0_A.sl.v879 (F := F) c arg3 harg3 arg4 harg4 arg5 harg5 arg6 harg6 arg9 x1 x2 x3 x4) = startV x4 12 := by
  unfold kernelRun0_A.sl.v879
  iterate 15 refine (View.readCov_skip _ _ _ _ _ (by sl_kernel_rfl)).trans ?_
  refine (View.readCov_cons_toLoadRect _ _ _ _).trans ?_
  unfold startV
  rw [← load_states arg6 harg6 x4 12]
  rfl

theorem word_start_13 :
    (kernelRun0_A.sl.v896 (F := F) c arg3 harg3 arg4 harg4 arg5 harg5 arg6 harg6 arg9 x1 x2 x3 x4) = startV x4 13 := by
  unfold kernelRun0_A.sl.v896
  iterate 15 refine (View.readCov_skip _ _ _ _ _ (by sl_kernel_rfl)).trans ?_
  refine (View.readCov_cons_toLoadRect _ _ _ _).trans ?_
  unfold startV
  rw [← load_states arg6 harg6 x4 13]
  rfl

theorem word_start_14 :
    (kernelRun0_A.sl.v913 (F := F) c arg3 harg3 arg4 harg4 arg5 harg5 arg6 harg6 arg9 x1 x2 x3 x4) = startV x4 14 := by
  unfold kernelRun0_A.sl.v913
  iterate 15 refine (View.readCov_skip _ _ _ _ _ (by sl_kernel_rfl)).trans ?_
  refine (View.readCov_cons_toLoadRect _ _ _ _).trans ?_
  unfold startV
  rw [← load_states arg6 harg6 x4 14]
  rfl

theorem word_start_15 :
    (kernelRun0_A.sl.v930 (F := F) c arg3 harg3 arg4 harg4 arg5 harg5 arg6 harg6 arg9 x1 x2 x3 x4) = startV x4 15 := by
  unfold kernelRun0_A.sl.v930
  iterate 15 refine (View.readCov_skip _ _ _ _ _ (by sl_kernel_rfl)).trans ?_
  refine (View.readCov_cons_toLoadRect _ _ _ _).trans ?_
  unfold startV
  rw [← load_states arg6 harg6 x4 15]
  rfl

theorem word_raw_0 :
    (kernelRun0_A.sl.r_49 (F := F) c arg2 harg2 arg3 harg3 arg4 harg4 arg5 harg5 arg6 harg6 arg9 x0 x1 x2 x3 x4) = rowV x0 x1 x2 x3 x4 0 := by
  unfold rowV
  rw [← word_r_26 c arg2 harg2 arg3 harg3 arg4 harg4 arg5 harg5 x0 x1 x2 x3, ← word_r_27 c arg2 harg2 arg3 harg3 arg5 harg5 x0 x1 x3, ← word_start_0 c arg6 harg6 arg9 x4]
  rfl

theorem word_raw_1 :
    (kernelRun0_A.sl.r_52 (F := F) c arg2 harg2 arg3 harg3 arg4 harg4 arg5 harg5 arg6 harg6 arg9 x0 x1 x2 x3 x4) = rowV x0 x1 x2 x3 x4 1 := by
  unfold rowV
  rw [← word_r_26 c arg2 harg2 arg3 harg3 arg4 harg4 arg5 harg5 x0 x1 x2 x3, ← word_r_27 c arg2 harg2 arg3 harg3 arg5 harg5 x0 x1 x3, ← word_start_1 c arg3 harg3 arg4 harg4 arg5 harg5 arg6 harg6 arg9 x1 x2 x3 x4]
  rfl

theorem word_raw_2 :
    (kernelRun0_A.sl.r_53 (F := F) c arg2 harg2 arg3 harg3 arg4 harg4 arg5 harg5 arg6 harg6 arg9 x0 x1 x2 x3 x4) = rowV x0 x1 x2 x3 x4 2 := by
  unfold rowV
  rw [← word_r_26 c arg2 harg2 arg3 harg3 arg4 harg4 arg5 harg5 x0 x1 x2 x3, ← word_r_27 c arg2 harg2 arg3 harg3 arg5 harg5 x0 x1 x3, ← word_start_2 c arg3 harg3 arg4 harg4 arg5 harg5 arg6 harg6 arg9 x1 x2 x3 x4]
  rfl

theorem word_raw_3 :
    (kernelRun0_A.sl.r_54 (F := F) c arg2 harg2 arg3 harg3 arg4 harg4 arg5 harg5 arg6 harg6 arg9 x0 x1 x2 x3 x4) = rowV x0 x1 x2 x3 x4 3 := by
  unfold rowV
  rw [← word_r_26 c arg2 harg2 arg3 harg3 arg4 harg4 arg5 harg5 x0 x1 x2 x3, ← word_r_27 c arg2 harg2 arg3 harg3 arg5 harg5 x0 x1 x3, ← word_start_3 c arg3 harg3 arg4 harg4 arg5 harg5 arg6 harg6 arg9 x1 x2 x3 x4]
  rfl

theorem word_raw_4 :
    (kernelRun0_A.sl.r_58 (F := F) c arg2 harg2 arg3 harg3 arg4 harg4 arg5 harg5 arg6 harg6 arg9 x0 x1 x2 x3 x4) = rowV x0 x1 x2 x3 x4 4 := by
  unfold rowV
  rw [← word_r_26 c arg2 harg2 arg3 harg3 arg4 harg4 arg5 harg5 x0 x1 x2 x3, ← word_r_27 c arg2 harg2 arg3 harg3 arg5 harg5 x0 x1 x3, ← word_start_4 c arg3 harg3 arg4 harg4 arg5 harg5 arg6 harg6 arg9 x1 x2 x3 x4]
  rfl

theorem word_raw_5 :
    (kernelRun0_A.sl.r_59 (F := F) c arg2 harg2 arg3 harg3 arg4 harg4 arg5 harg5 arg6 harg6 arg9 x0 x1 x2 x3 x4) = rowV x0 x1 x2 x3 x4 5 := by
  unfold rowV
  rw [← word_r_26 c arg2 harg2 arg3 harg3 arg4 harg4 arg5 harg5 x0 x1 x2 x3, ← word_r_27 c arg2 harg2 arg3 harg3 arg5 harg5 x0 x1 x3, ← word_start_5 c arg3 harg3 arg4 harg4 arg5 harg5 arg6 harg6 arg9 x1 x2 x3 x4]
  rfl

theorem word_raw_6 :
    (kernelRun0_A.sl.r_62 (F := F) c arg2 harg2 arg3 harg3 arg4 harg4 arg5 harg5 arg6 harg6 arg9 x0 x1 x2 x3 x4) = rowV x0 x1 x2 x3 x4 6 := by
  unfold rowV
  rw [← word_r_26 c arg2 harg2 arg3 harg3 arg4 harg4 arg5 harg5 x0 x1 x2 x3, ← word_r_27 c arg2 harg2 arg3 harg3 arg5 harg5 x0 x1 x3, ← word_start_6 c arg3 harg3 arg4 harg4 arg5 harg5 arg6 harg6 arg9 x1 x2 x3 x4]
  rfl

theorem word_raw_7 :
    (kernelRun0_A.sl.r_63 (F := F) c arg2 harg2 arg3 harg3 arg4 harg4 arg5 harg5 arg6 harg6 arg9 x0 x1 x2 x3 x4) = rowV x0 x1 x2 x3 x4 7 := by
  unfold rowV
  rw [← word_r_26 c arg2 harg2 arg3 harg3 arg4 harg4 arg5 harg5 x0 x1 x2 x3, ← word_r_27 c arg2 harg2 arg3 harg3 arg5 harg5 x0 x1 x3, ← word_start_7 c arg3 harg3 arg4 harg4 arg5 harg5 arg6 harg6 arg9 x1 x2 x3 x4]
  rfl

theorem word_raw_8 :
    (kernelRun0_A.sl.r_64 (F := F) c arg2 harg2 arg3 harg3 arg4 harg4 arg5 harg5 arg6 harg6 arg9 x0 x1 x2 x3 x4) = rowV x0 x1 x2 x3 x4 8 := by
  unfold rowV
  rw [← word_r_26 c arg2 harg2 arg3 harg3 arg4 harg4 arg5 harg5 x0 x1 x2 x3, ← word_r_27 c arg2 harg2 arg3 harg3 arg5 harg5 x0 x1 x3, ← word_start_8 c arg3 harg3 arg4 harg4 arg5 harg5 arg6 harg6 arg9 x1 x2 x3 x4]
  rfl

theorem word_raw_9 :
    (kernelRun0_A.sl.r_65 (F := F) c arg2 harg2 arg3 harg3 arg4 harg4 arg5 harg5 arg6 harg6 arg9 x0 x1 x2 x3 x4) = rowV x0 x1 x2 x3 x4 9 := by
  unfold rowV
  rw [← word_r_26 c arg2 harg2 arg3 harg3 arg4 harg4 arg5 harg5 x0 x1 x2 x3, ← word_r_27 c arg2 harg2 arg3 harg3 arg5 harg5 x0 x1 x3, ← word_start_9 c arg3 harg3 arg4 harg4 arg5 harg5 arg6 harg6 arg9 x1 x2 x3 x4]
  rfl

theorem word_raw_10 :
    (kernelRun0_A.sl.r_66 (F := F) c arg2 harg2 arg3 harg3 arg4 harg4 arg5 harg5 arg6 harg6 arg9 x0 x1 x2 x3 x4) = rowV x0 x1 x2 x3 x4 10 := by
  unfold rowV
  rw [← word_r_26 c arg2 harg2 arg3 harg3 arg4 harg4 arg5 harg5 x0 x1 x2 x3, ← word_r_27 c arg2 harg2 arg3 harg3 arg5 harg5 x0 x1 x3, ← word_start_10 c arg3 harg3 arg4 harg4 arg5 harg5 arg6 harg6 arg9 x1 x2 x3 x4]
  rfl

theorem word_raw_11 :
    (kernelRun0_A.sl.r_69 (F := F) c arg2 harg2 arg3 harg3 arg4 harg4 arg5 harg5 arg6 harg6 arg9 x0 x1 x2 x3 x4) = rowV x0 x1 x2 x3 x4 11 := by
  unfold rowV
  rw [← word_r_26 c arg2 harg2 arg3 harg3 arg4 harg4 arg5 harg5 x0 x1 x2 x3, ← word_r_27 c arg2 harg2 arg3 harg3 arg5 harg5 x0 x1 x3, ← word_start_11 c arg3 harg3 arg4 harg4 arg5 harg5 arg6 harg6 arg9 x1 x2 x3 x4]
  rfl

theorem word_raw_12 :
    (kernelRun0_A.sl.r_70 (F := F) c arg2 harg2 arg3 harg3 arg4 harg4 arg5 harg5 arg6 harg6 arg9 x0 x1 x2 x3 x4) = rowV x0 x1 x2 x3 x4 12 := by
  unfold rowV
  rw [← word_r_26 c arg2 harg2 arg3 harg3 arg4 harg4 arg5 harg5 x0 x1 x2 x3, ← word_r_27 c arg2 harg2 arg3 harg3 arg5 harg5 x0 x1 x3, ← word_start_12 c arg3 harg3 arg4 harg4 arg5 harg5 arg6 harg6 arg9 x1 x2 x3 x4]
  rfl

theorem word_raw_13 :
    (kernelRun0_A.sl.r_73 (F := F) c arg2 harg2 arg3 harg3 arg4 harg4 arg5 harg5 arg6 harg6 arg9 x0 x1 x2 x3 x4) = rowV x0 x1 x2 x3 x4 13 := by
  unfold rowV
  rw [← word_r_26 c arg2 harg2 arg3 harg3 arg4 harg4 arg5 harg5 x0 x1 x2 x3, ← word_r_27 c arg2 harg2 arg3 harg3 arg5 harg5 x0 x1 x3, ← word_start_13 c arg3 harg3 arg4 harg4 arg5 harg5 arg6 harg6 arg9 x1 x2 x3 x4]
  rfl

theorem word_raw_14 :
    (kernelRun0_A.sl.r_74 (F := F) c arg2 harg2 arg3 harg3 arg4 harg4 arg5 harg5 arg6 harg6 arg9 x0 x1 x2 x3 x4) = rowV x0 x1 x2 x3 x4 14 := by
  unfold rowV
  rw [← word_r_26 c arg2 harg2 arg3 harg3 arg4 harg4 arg5 harg5 x0 x1 x2 x3, ← word_r_27 c arg2 harg2 arg3 harg3 arg5 harg5 x0 x1 x3, ← word_start_14 c arg3 harg3 arg4 harg4 arg5 harg5 arg6 harg6 arg9 x1 x2 x3 x4]
  rfl

theorem word_raw_15 :
    (kernelRun0_A.sl.r_75 (F := F) c arg2 harg2 arg3 harg3 arg4 harg4 arg5 harg5 arg6 harg6 arg9 x0 x1 x2 x3 x4) = rowV x0 x1 x2 x3 x4 15 := by
  unfold rowV
  rw [← word_r_26 c arg2 harg2 arg3 harg3 arg4 harg4 arg5 harg5 x0 x1 x2 x3, ← word_r_27 c arg2 harg2 arg3 harg3 arg5 harg5 x0 x1 x3, ← word_start_15 c arg3 harg3 arg4 harg4 arg5 harg5 arg6 harg6 arg9 x1 x2 x3 x4]
  rfl

theorem word_left_0 :
    (kernelRun0_A.sl.v1171 (F := F) c arg3 harg3 arg4 harg4 arg5 harg5 arg6 harg6 arg9 x1 x2 x3 x4) = leftV x1 x2 x3 x4 0 := by
  unfold kernelRun0_A.sl.v1171
  iterate 15 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_0 c arg6 harg6 arg9 x4]
  rfl

theorem word_left_1 :
    (kernelRun0_A.sl.v1177 (F := F) c arg3 harg3 arg4 harg4 arg5 harg5 arg6 harg6 arg9 x1 x2 x3 x4) = leftV x1 x2 x3 x4 1 := by
  unfold kernelRun0_A.sl.v1177
  iterate 14 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_1 c arg3 harg3 arg4 harg4 arg5 harg5 arg6 harg6 arg9 x1 x2 x3 x4]
  rfl

theorem word_left_2 :
    (kernelRun0_A.sl.v1183 (F := F) c arg3 harg3 arg4 harg4 arg5 harg5 arg6 harg6 arg9 x1 x2 x3 x4) = leftV x1 x2 x3 x4 2 := by
  unfold kernelRun0_A.sl.v1183
  iterate 13 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_2 c arg3 harg3 arg4 harg4 arg5 harg5 arg6 harg6 arg9 x1 x2 x3 x4]
  rfl

theorem word_left_3 :
    (kernelRun0_A.sl.v1189 (F := F) c arg3 harg3 arg4 harg4 arg5 harg5 arg6 harg6 arg9 x1 x2 x3 x4) = leftV x1 x2 x3 x4 3 := by
  unfold kernelRun0_A.sl.v1189
  iterate 12 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_3 c arg3 harg3 arg4 harg4 arg5 harg5 arg6 harg6 arg9 x1 x2 x3 x4]
  rfl

theorem word_left_4 :
    (kernelRun0_A.sl.v1195 (F := F) c arg3 harg3 arg4 harg4 arg5 harg5 arg6 harg6 arg9 x1 x2 x3 x4) = leftV x1 x2 x3 x4 4 := by
  unfold kernelRun0_A.sl.v1195
  iterate 11 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_4 c arg3 harg3 arg4 harg4 arg5 harg5 arg6 harg6 arg9 x1 x2 x3 x4]
  rfl

theorem word_left_5 :
    (kernelRun0_A.sl.v1201 (F := F) c arg3 harg3 arg4 harg4 arg5 harg5 arg6 harg6 arg9 x1 x2 x3 x4) = leftV x1 x2 x3 x4 5 := by
  unfold kernelRun0_A.sl.v1201
  iterate 10 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_5 c arg3 harg3 arg4 harg4 arg5 harg5 arg6 harg6 arg9 x1 x2 x3 x4]
  rfl

theorem word_left_6 :
    (kernelRun0_A.sl.v1207 (F := F) c arg3 harg3 arg4 harg4 arg5 harg5 arg6 harg6 arg9 x1 x2 x3 x4) = leftV x1 x2 x3 x4 6 := by
  unfold kernelRun0_A.sl.v1207
  iterate 9 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_6 c arg3 harg3 arg4 harg4 arg5 harg5 arg6 harg6 arg9 x1 x2 x3 x4]
  rfl

theorem word_left_7 :
    (kernelRun0_A.sl.v1213 (F := F) c arg3 harg3 arg4 harg4 arg5 harg5 arg6 harg6 arg9 x1 x2 x3 x4) = leftV x1 x2 x3 x4 7 := by
  unfold kernelRun0_A.sl.v1213
  iterate 8 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_7 c arg3 harg3 arg4 harg4 arg5 harg5 arg6 harg6 arg9 x1 x2 x3 x4]
  rfl

theorem word_left_8 :
    (kernelRun0_A.sl.v1219 (F := F) c arg3 harg3 arg4 harg4 arg5 harg5 arg6 harg6 arg9 x1 x2 x3 x4) = leftV x1 x2 x3 x4 8 := by
  unfold kernelRun0_A.sl.v1219
  iterate 7 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_8 c arg3 harg3 arg4 harg4 arg5 harg5 arg6 harg6 arg9 x1 x2 x3 x4]
  rfl

theorem word_left_9 :
    (kernelRun0_A.sl.v1225 (F := F) c arg3 harg3 arg4 harg4 arg5 harg5 arg6 harg6 arg9 x1 x2 x3 x4) = leftV x1 x2 x3 x4 9 := by
  unfold kernelRun0_A.sl.v1225
  iterate 6 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_9 c arg3 harg3 arg4 harg4 arg5 harg5 arg6 harg6 arg9 x1 x2 x3 x4]
  rfl

theorem word_left_10 :
    (kernelRun0_A.sl.v1231 (F := F) c arg3 harg3 arg4 harg4 arg5 harg5 arg6 harg6 arg9 x1 x2 x3 x4) = leftV x1 x2 x3 x4 10 := by
  unfold kernelRun0_A.sl.v1231
  iterate 5 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_10 c arg3 harg3 arg4 harg4 arg5 harg5 arg6 harg6 arg9 x1 x2 x3 x4]
  rfl

theorem word_left_11 :
    (kernelRun0_A.sl.v1237 (F := F) c arg3 harg3 arg4 harg4 arg5 harg5 arg6 harg6 arg9 x1 x2 x3 x4) = leftV x1 x2 x3 x4 11 := by
  unfold kernelRun0_A.sl.v1237
  iterate 4 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_11 c arg3 harg3 arg4 harg4 arg5 harg5 arg6 harg6 arg9 x1 x2 x3 x4]
  rfl

theorem word_left_12 :
    (kernelRun0_A.sl.v1243 (F := F) c arg3 harg3 arg4 harg4 arg5 harg5 arg6 harg6 arg9 x1 x2 x3 x4) = leftV x1 x2 x3 x4 12 := by
  unfold kernelRun0_A.sl.v1243
  iterate 3 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_12 c arg3 harg3 arg4 harg4 arg5 harg5 arg6 harg6 arg9 x1 x2 x3 x4]
  rfl

theorem word_left_13 :
    (kernelRun0_A.sl.v1249 (F := F) c arg3 harg3 arg4 harg4 arg5 harg5 arg6 harg6 arg9 x1 x2 x3 x4) = leftV x1 x2 x3 x4 13 := by
  unfold kernelRun0_A.sl.v1249
  iterate 2 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_13 c arg3 harg3 arg4 harg4 arg5 harg5 arg6 harg6 arg9 x1 x2 x3 x4]
  rfl

theorem word_left_14 :
    (kernelRun0_A.sl.v1255 (F := F) c arg3 harg3 arg4 harg4 arg5 harg5 arg6 harg6 arg9 x1 x2 x3 x4) = leftV x1 x2 x3 x4 14 := by
  unfold kernelRun0_A.sl.v1255
  iterate 1 refine (View.readCov_skip _ _ _ _ _ (by sl_kernel_rfl)).trans ?_
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_14 c arg3 harg3 arg4 harg4 arg5 harg5 arg6 harg6 arg9 x1 x2 x3 x4]
  rfl

theorem word_left_15 :
    (kernelRun0_A.sl.v1261 (F := F) c arg3 harg3 arg4 harg4 arg5 harg5 arg6 harg6 arg9 x1 x2 x3 x4) = leftV x1 x2 x3 x4 15 := by
  unfold kernelRun0_A.sl.v1261
  refine (View.readCov_cons_toLoadRect _ _ _ _).trans ?_
  unfold leftV
  rw [← word_r_30 c arg3 harg3 arg5 harg5 x1 x3, ← word_r_28 c arg3 harg3 arg5 harg5 x1 x3, ← word_r_29 c arg4 harg4 x2, ← word_start_15 c arg3 harg3 arg4 harg4 arg5 harg5 arg6 harg6 arg9 x1 x2 x3 x4]
  rfl

end Words

end Cert.Kernel4Ideal.Short
-- ==== Proof.ShortModel.lean ====
/- The gated linear recurrence of one short sequence over the extended reals, one head of width 128: the accumulated log
   decays, the scores, the rows and the state after the sequence, for any number of rows. A sequence of four rows padded
   with four rows of zeros (queries, keys, values and log decays) has the rows and the state of the four. The state is
   indexed by value column first and key column second. -/
module

public import proofs.«01_k».proof.Proof.HgrnModel

@[expose] public section

noncomputable section

namespace Cert.Short

open Cert.Hgrn Idealize.ShloMosaic

variable {n : ℕ}

/-- The log decays accumulated over the rows at or below row `t`. -/
def cum (lf : Fin n → Fin 128 → EReal) (t : Fin n) (k : Fin 128) : EReal := ∑ s : Fin n, if s ≤ t then lf s k else 0

/-- The decay from row `s` to row `t`; zero above the diagonal. -/
def wt (B : Fin n → Fin 128 → EReal) (t s : Fin n) (k : Fin 128) : EReal := if s ≤ t then Ideal.exp (B t k - B s k) else 0

/-- The score of query `t` with key `s`. -/
def score (q kk B : Fin n → Fin 128 → EReal) (t s : Fin n) : EReal := ∑ k : Fin 128, q t k * wt B t s k * kk s k

/-- Row `t`, column `e`, before normalisation. -/
def out (q kk v B : Fin n → Fin 128 → EReal) (S : Fin 128 → Fin 128 → EReal) (t : Fin n) (e : Fin 128) : EReal :=
  ∑ s : Fin n, score q kk B t s * v s e + ∑ k : Fin 128, q t k * Ideal.exp (B t k) * S e k

/-- The state after the sequence, whose last row is `l`. -/
def next (l : Fin n) (kk v B : Fin n → Fin 128 → EReal) (S : Fin 128 → Fin 128 → EReal) (e k : Fin 128) : EReal :=
  S e k * Ideal.exp (B l k) + ∑ s : Fin n, v s e * (kk s k * Ideal.exp (B l k - B s k))

/-- Four rows and four rows of zeros. -/
def padded (x : Fin 4 → Fin 128 → EReal) (t : Fin 8) (k : Fin 128) : EReal := if h : t.val < 4 then x ⟨t.val, h⟩ k else 0

theorem padded_low (x : Fin 4 → Fin 128 → EReal) (t : Fin 8) (h : t.val < 4) (k : Fin 128) : padded x t k = x ⟨t.val, h⟩ k := dif_pos h
theorem padded_high (x : Fin 4 → Fin 128 → EReal) (t : Fin 8) (h : ¬ t.val < 4) (k : Fin 128) : padded x t k = 0 := dif_neg h

/-- A sum over eight rows whose last four terms vanish. -/
theorem sum_pad (f : Fin 8 → EReal) (g : Fin 4 → EReal) (hl : ∀ s : Fin 4, f ⟨s.val, by omega⟩ = g s) (hh : ∀ s : Fin 8, ¬ s.val < 4 → f s = 0) :
    ∑ s : Fin 8, f s = ∑ s : Fin 4, g s := by
  rw [Fin.sum_univ_two_halves 4 4 rfl, Finset.sum_congr rfl fun s _ => hl s,
    Finset.sum_eq_zero (s := Finset.univ) (f := fun s : Fin 4 => f ⟨4 + s.val, by omega⟩) (fun s _ => hh _ (by show ¬ 4 + s.val < 4; omega)), add_zero]

/-- The padded log decays accumulate as the four do, -/
theorem cum_pad_low (lf : Fin 4 → Fin 128 → EReal) (t : Fin 8) (h : t.val < 4) (k : Fin 128) : cum (padded lf) t k = cum lf ⟨t.val, h⟩ k := by
  refine sum_pad _ _ (fun s => ?_) (fun s hs => ?_)
  · show (if (⟨s.val, _⟩ : Fin 8) ≤ t then padded lf ⟨s.val, _⟩ k else 0) = if s ≤ ⟨t.val, h⟩ then lf s k else 0
    rw [padded_low lf _ s.isLt]
    rfl
  · rw [padded_high lf s hs, ite_self]

/-- and the last row's is the fourth's. -/
theorem cum_pad_last (lf : Fin 4 → Fin 128 → EReal) (k : Fin 128) : cum (padded lf) 7 k = cum lf 3 k := by
  refine sum_pad _ _ (fun s => ?_) (fun s hs => ?_)
  · show (if (⟨s.val, _⟩ : Fin 8) ≤ 7 then padded lf ⟨s.val, _⟩ k else 0) = if s ≤ 3 then lf s k else 0
    rw [padded_low lf _ s.isLt, if_pos (by show s.val ≤ 7; omega), if_pos (by show s.val ≤ 3; omega)]
  · rw [padded_high lf s hs, ite_self]

/-- The padded scores of two of the four rows. -/
theorem score_pad (q kk lf : Fin 4 → Fin 128 → EReal) (t s : Fin 8) (ht : t.val < 4) (hs : s.val < 4) :
    score (padded q) (padded kk) (cum (padded lf)) t s = score q kk (cum lf) ⟨t.val, ht⟩ ⟨s.val, hs⟩ := by
  refine Finset.sum_congr rfl fun k _ => ?_
  unfold wt
  rw [padded_low q t ht, padded_low kk s hs, cum_pad_low lf t ht, cum_pad_low lf s hs]
  rfl

/-- THE PADDED ROWS are the four's, -/
theorem out_pad_low (q kk v lf : Fin 4 → Fin 128 → EReal) (S : Fin 128 → Fin 128 → EReal) (t : Fin 8) (h : t.val < 4) (e : Fin 128) :
    out (padded q) (padded kk) (padded v) (cum (padded lf)) S t e = out q kk v (cum lf) S ⟨t.val, h⟩ e := by
  unfold out
  congr 1
  · refine sum_pad _ _ (fun s => ?_) (fun s hs => ?_)
    · rw [score_pad q kk lf t _ h s.isLt, padded_low v _ s.isLt]
    · rw [padded_high v s hs, mul_zero]
  · refine Finset.sum_congr rfl fun k _ => ?_
    rw [padded_low q t h, cum_pad_low lf t h]

/-- and zero below them. -/
theorem out_pad_high (q kk v lf : Fin 4 → Fin 128 → EReal) (S : Fin 128 → Fin 128 → EReal) (t : Fin 8) (h : ¬ t.val < 4) (e : Fin 128) :
    out (padded q) (padded kk) (padded v) (cum (padded lf)) S t e = 0 := by
  unfold out score
  simp only [padded_high q t h, zero_mul, Finset.sum_const_zero, add_zero]

/-- THE PADDED STATE is the four's. -/
theorem next_pad (kk v lf : Fin 4 → Fin 128 → EReal) (S : Fin 128 → Fin 128 → EReal) (e k : Fin 128) :
    next 7 (padded kk) (padded v) (cum (padded lf)) S e k = next 3 kk v (cum lf) S e k := by
  unfold next
  rw [cum_pad_last]
  refine congrArg _ ?_
  refine sum_pad _ _ (fun s => ?_) (fun s hs => ?_)
  · rw [padded_low v _ s.isLt, padded_low kk _ s.isLt, cum_pad_low lf _ s.isLt]
  · rw [padded_high v s hs, zero_mul]

/-- The log decays and keys of four rows of forget logits over the lower bounds. -/
def gates (b : Fin 128 → EReal) (f : Fin 4 → Fin 128 → EReal) (t : Fin 4) (k : Fin 128) : EReal := gate (b k) (f t k)
def keys (b : Fin 128 → EReal) (f : Fin 4 → Fin 128 → EReal) (t : Fin 4) (k : Fin 128) : EReal := key (b k) (f t k)

/-- THE FOUR ROWS before normalisation, of lower bounds, queries, forget logits, values and the state. -/
def raw (b : Fin 128 → EReal) (q f v : Fin 4 → Fin 128 → EReal) (S : Fin 128 → Fin 128 → EReal) : Fin 4 → Fin 128 → EReal :=
  out q (keys b f) v (cum (gates b f)) S

/-- THE STATE after the four rows. -/
def left (b : Fin 128 → EReal) (f v : Fin 4 → Fin 128 → EReal) (S : Fin 128 → Fin 128 → EReal) : Fin 128 → Fin 128 → EReal :=
  next 3 (keys b f) v (cum (gates b f)) S

/-- The eight rows the call leaves: four normalised rows and four of zeros. -/
def rows (b : Fin 128 → EReal) (q f v : Fin 4 → Fin 128 → EReal) (S : Fin 128 → Fin 128 → EReal) (t : Fin 8) (e : Fin 128) : EReal :=
  padded (fun t e => rmsRow (raw b q f v S t) e) t e

/-- A row of zeros, normalised. -/
theorem rmsRow_zero (x : Fin 128 → EReal) (h : ∀ k, x k = 0) (e : Fin 128) : rmsRow x e = 0 := by
  unfold rmsRow
  rw [h e, zero_mul]

/-- The normalised padded rows. -/
theorem rows_pad (b : Fin 128 → EReal) (q f v : Fin 4 → Fin 128 → EReal) (S : Fin 128 → Fin 128 → EReal) (t : Fin 8) (e : Fin 128) :
    rmsRow (out (padded q) (padded (keys b f)) (padded v) (cum (padded (gates b f))) S t) e = rows b q f v S t e := by
  unfold rows
  by_cases h : t.val < 4
  · rw [padded_low _ t h]
    exact congrArg (fun x => rmsRow x e) (funext fun k => out_pad_low q (keys b f) v (gates b f) S t h k)
  · rw [padded_high _ t h]
    exact rmsRow_zero _ (fun k => out_pad_high q (keys b f) v (gates b f) S t h k) e

end Cert.Short
-- ==== Proof.ShortAt.lean ====
/- One grid point of the recurrence's short call read at an index: the accumulated log decays, the scores, the rows and
   the states of its sixteen sequences, as sums and products of extended reals. -/
module

public import proofs.«01_k».proof.Proof.ShortVec
public import proofs.«01_k».proof.Proof.ShortModel
public import Idealize.ShloMosaic.Lib.Pointwise

@[expose] public section

set_option maxRecDepth 16384

noncomputable section

namespace Cert.Kernel4Ideal.Short

open Cert.Kernel4Ideal Cert.Kernel4Ideal.Gen Cert.Short Idealize.ShloMosaic
open Cert.Hgrn (gate key rmsRow sum_of_steps)

/-- A sequence's part of the block's array. -/
abbrev part {φ : FTy} (x : FVec Ideal S16x8x128 φ) (g : Fin 16) : Fin 8 → Fin 128 → EReal := fun t k => x (ix3 g t k)

/-- Row `s` of every sequence at an index. -/
theorem nearV_at {φ : FTy} (x : FVec Ideal S16x8x128 φ) (s : Fin 8) (g : Fin 16) (k : Fin 128) :
    nearV x s (ix3 g 0 k) = x (ix3 g s k) := by
  pointwise [nearV]

/-- A sequence of an array at an index. -/
theorem rowsV_at {φ : FTy} (x : FVec Ideal S16x8x128 φ) (g : Fin 16) (t : Fin 8) (k : Fin 128) :
    rowsV x g (ix2 t k) = x (ix3 g t k) := by
  pointwise [rowsV]

/-- Comparing two small row numbers as words compares the numbers. -/
theorem sge_at : ∀ t s : Fin 8, IntOp.cmpi .sge (BitVec.ofNat 32 t.val) (BitVec.ofNat 32 s.val) = BitVec.ofBool (decide (s ≤ t)) := by
  decide +kernel

theorem slt_at : ∀ t : Fin 8, IntOp.cmpi .slt (BitVec.ofNat 32 t.val) 4#32 = BitVec.ofBool (decide (t.val < 4)) := by
  decide +kernel

/-- The mask of the rows from `s` on at an index. -/
theorem fromV_at (s : Fin 8) (g : Fin 16) (t : Fin 8) (k : Fin 128) :
    fromV rowNo s (ix3 g t k) = BitVec.ofBool (decide (s ≤ t)) := by
  pointwise [fromV, rowNo, kernelRun0_A.sl.v3]
  exact sge_at t s

/-- The mask of the first four rows at an index. -/
theorem low4_at (g : Fin 16) (t : Fin 8) (k : Fin 128) :
    k0_pay60 rowNo (ix3 g t k) = BitVec.ofBool (decide (t.val < 4)) := by
  pointwise [k0_pay60, rowNo, kernelRun0_A.sl.v3]
  exact slt_at t

/-- A sequence's decay of the state at an index. -/
theorem decayV_at (dec : FVec Ideal S16x1x128 .f32) (g : Fin 16) (v k : Fin 128) :
    decayV dec g (ix2 v k) = dec (ix3 g 0 k) := by
  pointwise [decayV]

/-- What a sequence adds to its state at an index. -/
theorem addV_at (kt vb : FVec Ideal S16x8x128 .bf16) (g : Fin 16) (v k : Fin 128) :
    addV kt vb g (ix2 v k) = ∑ s : Fin 8, vb (ix3 g s v) * kt (ix3 g s k) := by
  pointwise [addV, rowsV_at]

/-- One step of the accumulation at an index. -/
theorem cumN_succ_at (lf : FVec Ideal S16x8x128 .f32) (n : ℕ) (g : Fin 16) (t : Fin 8) (k : Fin 128) :
    cumN rowNo lf (n + 1) (ix3 g t k) = cumN rowNo lf n (ix3 g t k) + if row8 n ≤ t then lf (ix3 g (row8 n) k) else 0 := by
  show (addf (cumN rowNo lf n) _) _ = _
  pointwise [nearV_at, fromV_at]

/-- THE ACCUMULATED LOG DECAYS at an index. -/
theorem cumN_at (lf : FVec Ideal S16x8x128 .f32) (g : Fin 16) (t : Fin 8) (k : Fin 128) :
    cumN rowNo lf 8 (ix3 g t k) = cum (part lf g) t k := by
  rw [sum_of_steps (fun n => cumN rowNo lf n (ix3 g t k)) _ (by show broadcast S16x8x128 _ _ = _; pointwise) (fun n => cumN_succ_at lf n g t k) 8]
  refine Finset.sum_congr rfl fun s _ => ?_
  have e : row8 s.val = s := Fin.ext (Nat.mod_eq_of_lt s.isLt)
  rw [e]

/-- The products with key `s` at an index. -/
theorem prodV_at (q kk bc : FVec Ideal S16x8x128 .f32) (s : Fin 8) (g : Fin 16) (t : Fin 8) (k : Fin 128) :
    prodV rowNo q kk bc s (ix2 ⟨g.val * 8 + t.val, by omega⟩ k) = q (ix3 g t k) * wt (part bc g) t s k * kk (ix3 g s k) := by
  pointwise [prodV, nearV_at, fromV_at, wt]

/-- Row `r` of piece `s` of the stack. -/
theorem stackV_at (p : Fin 8 → FVec Ideal S128x128 .f32) (s : Fin 8) (r k : Fin 128) :
    stackV p (ix2 ⟨128 * s.val + r.val, by omega⟩ k) = p s (ix2 r k) :=
  concatenate_ofFn_apply (s₁ := S128x128) 0 p concatenates_S128x128_S128x128_S128x128_S128x128_S128x128_S128x128_S128x128_S128x128_S1024x128_d0 rfl 128 rfl
    (ix2 ⟨128 * s.val + r.val, by omega⟩ k) s (by show (128 * s.val + r.val) / 128 = s.val; omega) (ix2 r k)
    (by show r.val = (128 * s.val + r.val) % 128; omega) (fun b hb => by match b with | 0 => exact absurd rfl hb | 1 => rfl)

/-- The scores are the stack's rows summed. -/
theorem att_sum (q kk bc : FVec Ideal S16x8x128 .f32) (r : Fin 1024) (e : Fin 128) :
    attV rowNo q kk bc (ix2 r e) = ∑ k : Fin 128, stackV (prodV rowNo q kk bc) (ix2 r k) := by
  pointwise [attV, k0_pay4]

/-- THE SCORES at an index. -/
theorem att_at (q kk bc : FVec Ideal S16x8x128 .f32) (s : Fin 8) (g : Fin 16) (t : Fin 8) (e : Fin 128) :
    attV rowNo q kk bc (ix2 ⟨128 * s.val + (g.val * 8 + t.val), by omega⟩ e) = score (part q g) (part kk g) (part bc g) t s := by
  rw [att_sum]
  refine Finset.sum_congr rfl fun k _ => ?_
  exact (stackV_at _ s ⟨g.val * 8 + t.val, by omega⟩ k).trans (prodV_at q kk bc s g t k)

/-- One step over the keys at an index. -/
theorem inV_succ_at (v : FVec Ideal S16x8x128 .f32) (att : FVec Ideal S1024x128 .f32) (n : ℕ) (g : Fin 16) (t : Fin 8) (e : Fin 128) :
    inV v att (n + 1) (ix3 g t e) = inV v att n (ix3 g t e)
      + att (ix2 ⟨128 * (row8 n).val + (g.val * 8 + t.val), by omega⟩ e) * v (ix3 g (row8 n) e) := by
  show (addf (inV v att n) _) _ = _
  pointwise [nearV_at]

/-- THE PART WITHIN THE SEQUENCES at an index. -/
theorem inV_at (v q kk bc : FVec Ideal S16x8x128 .f32) (g : Fin 16) (t : Fin 8) (e : Fin 128) :
    inV v (attV rowNo q kk bc) 8 (ix3 g t e) = ∑ s : Fin 8, score (part q g) (part kk g) (part bc g) t s * v (ix3 g s e) := by
  rw [sum_of_steps (fun n => inV v (attV rowNo q kk bc) n (ix3 g t e)) _ (by show broadcast S16x8x128 _ _ = _; pointwise) (fun n => inV_succ_at v _ n g t e) 8]
  refine Finset.sum_congr rfl fun s _ => ?_
  have e8 : row8 s.val = s := Fin.ext (Nat.mod_eq_of_lt s.isLt)
  simp only [e8]
  rw [att_at]

/-- THE STATE a sequence leaves at an index. -/
theorem nextV_at (v kk bc : FVec Ideal S16x8x128 .f32) (st : Vec Ideal S1x128x128 .f32) (g : Fin 16) (e k : Fin 128) :
    nextV (k0_pay89 bc) (k0_pay87 kk bc) (k0_pay88 v) st g (ix3 0 e k)
      = next 7 (part kk g) (part v g) (part bc g) (fun e k => st (ix3 0 e k)) e k := by
  pointwise [nextV, decayV_at, addV_at, k0_pay89, k0_pay87, k0_pay88, next]

/-- THE ROWS of a sequence before normalisation at an index. -/
theorem rawV_at (q kk v bc : FVec Ideal S16x8x128 .f32) (st : Vec Ideal S1x128x128 .f32) (g : Fin 16) (t : Fin 8) (e : Fin 128) :
    rawV (inV v (attV rowNo q kk bc) 8) (k0_pay86 q bc) st g (ix2 t e)
      = out (part q g) (part kk g) (part v g) (part bc g) (fun e k => st (ix3 0 e k)) t e := by
  pointwise [rawV, rowsV_at, inV_at, k0_pay86, out]

/-- Rows divided by the root of their mean square, at an index. -/
theorem normV_at (x : FVec Ideal S8x128 .f32) (t : Fin 8) (e : Fin 128) :
    normV x (ix3 0 t e) = rmsRow (fun k => x (ix2 t k)) e := by
  pointwise [normV, k0_pay169, rmsRow]

/-- A state turned keys first at an index. -/
theorem turnV_at (x : Vec Ideal S1x128x128 .f32) (k e : Fin 128) : turnV x (ix4 0 0 k e) = x (ix3 0 e k) := by
  pointwise [turnV, k0_pay194]

/-- A loaded sequence at an index. -/
theorem pieceV_at (x : Vec Ideal S16x8x128 .f32) (g : Fin 16) (t : Fin 8) (k : Fin 128) : pieceV x g (ix3 0 t k) = x (ix3 g t k) := by
  have h : loadV x g (ix3 0 t k) = x (ix3 g t k) := by
    refine congrArg x (funext fun a => Fin.ext ?_)
    match a with
    | 0 => show g.val + 1 * 0 = g.val; omega
    | 1 => show 0 + 1 * t.val = t.val; omega
    | 2 => show 0 + 1 * k.val = k.val; omega
  rw [← h]
  unfold pieceV
  generalize loadV x g = z
  pointwise

/-- The stacked sequences are the block. -/
theorem takeV_at (x : Vec Ideal S16x8x128 .f32) (g : Fin 16) (t : Fin 8) (k : Fin 128) : takeV x (ix3 g t k) = x (ix3 g t k) := by
  refine Eq.trans ?_ (pieceV_at x g t k)
  exact concatenate_ofFn_apply (s₁ := S1x8x128) 0 (pieceV x) concatenates_S1x8x128_S1x8x128_S1x8x128_S1x8x128_S1x8x128_S1x8x128_S1x8x128_S1x8x128_S1x8x128_S1x8x128_S1x8x128_S1x8x128_S1x8x128_S1x8x128_S1x8x128_S1x8x128_S16x8x128_d0 rfl 1 rfl
    (ix3 g t k) g (by show g.val / 1 = g.val; omega) (ix3 0 t k)
    (by show 0 = g.val % 1; omega) (fun b hb => by match b with | 0 => exact absurd rfl hb | 1 => rfl | 2 => rfl)

/-- A loaded state turned values first. -/
theorem turned_at (z : FVec Ideal S1x1x128x128 .f32) (e k : Fin 128) :
    shapeCast S1x128x128 (transpose S128x128 [1, 0] (shapeCast S128x128 z shapeCasts_S1x1x128x128_S128x128) transposes_S128x128_p1_0_S128x128)
      shapeCasts_S128x128_S1x128x128 (ix3 0 e k) = z (ix4 0 0 k e) := by
  pointwise

/-- A loaded state at an index. -/
theorem loaded_at (x4 : Vec Ideal S16x1x128x128 .f32) (g : Fin 16) (k e : Fin 128) :
    View.ld x4 (Rect.unit (s := S16x1x128x128) ![g.val, 0, 0, 0] S1x1x128x128.size (inbStates g)) (ix4 0 0 k e) = x4 (ix4 g 0 k e) := by
  refine congrArg x4 (funext fun a => Fin.ext ?_)
  match a with
  | 0 => show g.val + 1 * 0 = g.val; omega
  | 1 => show 0 + 1 * 0 = 0; omega
  | 2 => show 0 + 1 * k.val = k.val; omega
  | 3 => show 0 + 1 * e.val = e.val; omega

/-- The state a sequence starts from at an index, values first. -/
theorem startV_at (x4 : Vec Ideal S16x1x128x128 .f32) (g : Fin 16) (e k : Fin 128) : startV x4 g (ix3 0 e k) = x4 (ix4 g 0 k e) :=
  (turned_at _ e k).trans (loaded_at x4 g k e)

/-- The lower bounds of the block. -/
abbrev lowB (x3 : Vec Ideal S1x128 .f32) : Fin 128 → EReal := fun k => x3 (ix2 0 k)
/-- The first four rows of a sequence of a block. -/
abbrev seqB (x : Vec Ideal S16x8x128 .f32) (g : Fin 16) : Fin 4 → Fin 128 → EReal := fun t k => x (ix3 g ⟨t.val, by omega⟩ k)
/-- The state a sequence starts from, values first. -/
abbrev stB (x4 : Vec Ideal S16x1x128x128 .f32) (g : Fin 16) : Fin 128 → Fin 128 → EReal := fun e k => x4 (ix4 g 0 k e)

section Block

variable (x0 x1 x2 : Vec Ideal S16x8x128 .f32) (x3 : Vec Ideal S1x128 .f32) (x4 : Vec Ideal S16x1x128x128 .f32) (g : Fin 16)

theorem part_q : part (qV x0) g = padded (seqB x0 g) := by
  funext t k
  unfold padded
  pointwise [qV, k0_pay63, low4_at, takeV_at]
  by_cases h : t.val < 4
  · rw [if_pos h, dif_pos h]
  · rw [if_neg h, dif_neg h]

theorem part_val : part (valV x2) g = padded (seqB x2 g) := by
  funext t k
  unfold padded
  pointwise [valV, k0_pay64, low4_at, takeV_at]
  by_cases h : t.val < 4
  · rw [if_pos h, dif_pos h]
  · rw [if_neg h, dif_neg h]

theorem part_key : part (keyV x1 x3) g = padded (keys (lowB x3) (seqB x1 g)) := by
  funext t k
  unfold padded keys
  pointwise [keyV, k0_pay62, k0_pay3, low4_at, takeV_at, key]
  by_cases h : t.val < 4
  · rw [if_pos h, dif_pos h]
  · rw [if_neg h, dif_neg h]

theorem part_log : part (logV x1 x3) g = padded (gates (lowB x3) (seqB x1 g)) := by
  funext t k
  unfold padded gates
  pointwise [logV, k0_pay61, k0_pay57, k0_pay58, k0_pay59, k0_pay3, low4_at, takeV_at, gate]
  by_cases h : t.val < 4
  · rw [if_pos h, dif_pos h]
  · rw [if_neg h, dif_neg h]

theorem part_cum : part (cumV x1 x3) g = cum (padded (gates (lowB x3) (seqB x1 g))) := by
  rw [← part_log]
  funext t k
  exact cumN_at _ g t k

theorem start_eq : (fun e k => startV x4 g (ix3 0 e k)) = stB x4 g := funext fun e => funext fun k => startV_at x4 g e k

/-- THE BLOCK'S ROWS, normalised, at an index. -/
theorem rowV_at (t : Fin 8) (e : Fin 128) :
    normV (rowV x0 x1 x2 x3 x4 g) (ix3 0 t e) = rows (lowB x3) (seqB x0 g) (seqB x1 g) (seqB x2 g) (stB x4 g) t e := by
  rw [normV_at, ← rows_pad]
  refine congrArg (fun x => rmsRow x e) (funext fun k => ?_)
  refine (rawV_at (qV x0) (keyV x1 x3) (valV x2) (cumV x1 x3) (startV x4 g) g t k).trans ?_
  rw [part_q, part_key, part_val, part_cum, start_eq]

/-- THE BLOCK'S STATES, keys first, at an index. -/
theorem leftV_at (k e : Fin 128) :
    turnV (leftV x1 x2 x3 x4 g) (ix4 0 0 k e) = left (lowB x3) (seqB x1 g) (seqB x2 g) (stB x4 g) e k := by
  rw [turnV_at]
  refine (nextV_at (valV x2) (keyV x1 x3) (cumV x1 x3) (startV x4 g) g e k).trans ?_
  rw [part_key, part_val, part_cum, start_eq, next_pad]
  rfl

end Block

end Cert.Kernel4Ideal.Short
-- ==== Proof.ShortBlock.lean ====
/- The short recurrence's body on one block (16 sequences, one head): every entry it stores is the recurrence's. -/
module

public import proofs.«01_k».proof.Proof.ShortAt

@[expose] public section

set_option maxRecDepth 16384

noncomputable section

namespace Cert.Kernel4Ideal.Short

open Cert.Kernel4Ideal Cert.Kernel4Ideal.Gen Cert.Short Idealize.ShloMosaic

section Pieces

variable (x0 x1 x2 : Vec Ideal S16x8x128 .f32) (x3 : Vec Ideal S1x128 .f32) (x4 : Vec Ideal S16x1x128x128 .f32)

/-- THE BLOCK OF ROWS, a function of the block's queries, forget logits, values, lower bounds and states. -/
def blockRows (z : S16x8x128.Idx) : EReal :=
  rows (lowB x3) (seqB x0 (z 0)) (seqB x1 (z 0)) (seqB x2 (z 0)) (stB x4 (z 0)) (z 1) (z 2)

/-- THE BLOCK OF STATES. -/
def blockStates (z : S16x1x128x128.Idx) : EReal :=
  left (lowB x3) (seqB x1 (z 0)) (seqB x2 (z 0)) (stB x4 (z 0)) (z 3) (z 2)

/-- A stored sequence of rows. -/
theorem rows_piece (g : Fin 16) (off : Fin 3 → ℕ) (ho : off = ![g.val, 0, 0]) (inb : ∀ a, off a + S1x8x128.size a ≤ S16x8x128.size a)
    (z : S1x8x128.Idx → EReal) (hz : z = normV (rowV x0 x1 x2 x3 x4 g)) (y : S1x8x128.Idx) :
    z y = blockRows x0 x1 x2 x3 x4 ((Rect.unit (s := S16x8x128) off S1x8x128.size inb).emb y) := by
  subst ho hz
  obtain ⟨y0, t, e, rfl⟩ : ∃ (y0 : Fin 1) (t : Fin 8) (e : Fin 128), y = ix3 y0 t e := ⟨y 0, y 1, y 2, eq_ix3 y⟩
  obtain rfl : y0 = 0 := Subsingleton.elim _ _
  refine (rowV_at x0 x1 x2 x3 x4 g t e).trans ?_
  have hp : (Rect.unit (s := S16x8x128) ![g.val, 0, 0] S1x8x128.size inb).emb (ix3 (0 : Fin 1) t e) = ix3 g t e := by
    funext a
    apply Fin.ext
    match a with
    | 0 => show g.val + 1 * 0 = g.val; omega
    | 1 => show 0 + 1 * t.val = t.val; omega
    | 2 => show 0 + 1 * e.val = e.val; omega
  exact (congrArg (blockRows x0 x1 x2 x3 x4) hp).symm

/-- A stored state. -/
theorem state_piece (g : Fin 16) (off : Fin 4 → ℕ) (ho : off = ![g.val, 0, 0, 0]) (inb : ∀ a, off a + S1x1x128x128.size a ≤ S16x1x128x128.size a)
    (z : S1x1x128x128.Idx → EReal) (hz : z = turnV (leftV x1 x2 x3 x4 g)) (y : S1x1x128x128.Idx) :
    z y = blockStates x1 x2 x3 x4 ((Rect.unit (s := S16x1x128x128) off S1x1x128x128.size inb).emb y) := by
  subst ho hz
  obtain ⟨y0, y1, k, e, rfl⟩ : ∃ (y0 y1 : Fin 1) (k e : Fin 128), y = ix4 y0 y1 k e := ⟨y 0, y 1, y 2, y 3, eq_ix4 y⟩
  obtain rfl : y0 = 0 := Subsingleton.elim _ _
  obtain rfl : y1 = 0 := Subsingleton.elim _ _
  refine (leftV_at x1 x2 x3 x4 g k e).trans ?_
  have hp : (Rect.unit (s := S16x1x128x128) ![g.val, 0, 0, 0] S1x1x128x128.size inb).emb (ix4 (0 : Fin 1) (0 : Fin 1) k e) = ix4 g 0 k e := by
    funext a
    apply Fin.ext
    match a with
    | 0 => show g.val + 1 * 0 = g.val; omega
    | 1 => rfl
    | 2 => show 0 + 1 * k.val = k.val; omega
    | 3 => show 0 + 1 * e.val = e.val; omega
  exact (congrArg (blockStates x1 x2 x3 x4) hp).symm

end Pieces

section Blocks

variable (c : Dev nD) (i : grid0.Coords) (arg2 : Memref sig .tc .vmem S16x8x128 .f32) (harg2 : arg2.IsWhole) (arg3 : Memref sig .tc .vmem S16x8x128 .f32) (harg3 : arg3.IsWhole) (arg4 : Memref sig .tc .vmem S16x8x128 .f32) (harg4 : arg4.IsWhole) (arg5 : Memref sig .tc .vmem S1x128 .f32) (harg5 : arg5.IsWhole) (arg6 : Memref sig .tc .vmem S16x1x128x128 .f32) (harg6 : arg6.IsWhole) (arg7 : Memref sig .tc .vmem S16x8x128 .f32) (harg7 : arg7.IsWhole) (arg8 : Memref sig .tc .vmem S16x1x128x128 .f32) (harg8 : arg8.IsWhole) (arg9 : Memref sig .tc .vmem S16x128x128 .f32) (harg9 : arg9.IsWhole)
  (x0 x1 x2 : Vec Ideal S16x8x128 .f32) (x3 : Vec Ideal S1x128 .f32) (x4 : Vec Ideal S16x1x128x128 .f32)

/-- Every piece of rows the body stores. -/
theorem rows_pieces : ∀ p ∈ (kernelRun0_A c i arg2 harg2 arg3 harg3 arg4 harg4 arg5 harg5 arg6 harg6 arg7 harg7 arg8 harg8 arg9 harg9 x0 x1 x2 x3 x4).1, ∀ y : p.1.shape.Idx, p.2 y = blockRows x0 x1 x2 x3 x4 (p.1.emb y) := by
  unfold kernelRun0_A
  dsimp only
  exact List.forall_mem_cons.2 ⟨rows_piece x0 x1 x2 x3 x4 15 k0_off16 rfl k0_off16_inb _ (congrArg normV (word_raw_15 c arg2 harg2 arg3 harg3 arg4 harg4 arg5 harg5 arg6 harg6 arg9 x0 x1 x2 x3 x4)),
    List.forall_mem_cons.2 ⟨rows_piece x0 x1 x2 x3 x4 14 k0_off15 rfl k0_off15_inb _ (congrArg normV (word_raw_14 c arg2 harg2 arg3 harg3 arg4 harg4 arg5 harg5 arg6 harg6 arg9 x0 x1 x2 x3 x4)),
    List.forall_mem_cons.2 ⟨rows_piece x0 x1 x2 x3 x4 13 k0_off14 rfl k0_off14_inb _ (congrArg normV (word_raw_13 c arg2 harg2 arg3 harg3 arg4 harg4 arg5 harg5 arg6 harg6 arg9 x0 x1 x2 x3 x4)),
    List.forall_mem_cons.2 ⟨rows_piece x0 x1 x2 x3 x4 12 k0_off13 rfl k0_off13_inb _ (congrArg normV (word_raw_12 c arg2 harg2 arg3 harg3 arg4 harg4 arg5 harg5 arg6 harg6 arg9 x0 x1 x2 x3 x4)),
    List.forall_mem_cons.2 ⟨rows_piece x0 x1 x2 x3 x4 11 k0_off12 rfl k0_off12_inb _ (congrArg normV (word_raw_11 c arg2 harg2 arg3 harg3 arg4 harg4 arg5 harg5 arg6 harg6 arg9 x0 x1 x2 x3 x4)),
    List.forall_mem_cons.2 ⟨rows_piece x0 x1 x2 x3 x4 10 k0_off11 rfl k0_off11_inb _ (congrArg normV (word_raw_10 c arg2 harg2 arg3 harg3 arg4 harg4 arg5 harg5 arg6 harg6 arg9 x0 x1 x2 x3 x4)),
    List.forall_mem_cons.2 ⟨rows_piece x0 x1 x2 x3 x4 9 k0_off10 rfl k0_off10_inb _ (congrArg normV (word_raw_9 c arg2 harg2 arg3 harg3 arg4 harg4 arg5 harg5 arg6 harg6 arg9 x0 x1 x2 x3 x4)),
    List.forall_mem_cons.2 ⟨rows_piece x0 x1 x2 x3 x4 8 k0_off9 rfl k0_off9_inb _ (congrArg normV (word_raw_8 c arg2 harg2 arg3 harg3 arg4 harg4 arg5 harg5 arg6 harg6 arg9 x0 x1 x2 x3 x4)),
    List.forall_mem_cons.2 ⟨rows_piece x0 x1 x2 x3 x4 7 k0_off8 rfl k0_off8_inb _ (congrArg normV (word_raw_7 c arg2 harg2 arg3 harg3 arg4 harg4 arg5 harg5 arg6 harg6 arg9 x0 x1 x2 x3 x4)),
    List.forall_mem_cons.2 ⟨rows_piece x0 x1 x2 x3 x4 6 k0_off7 rfl k0_off7_inb _ (congrArg normV (word_raw_6 c arg2 harg2 arg3 harg3 arg4 harg4 arg5 harg5 arg6 harg6 arg9 x0 x1 x2 x3 x4)),
    List.forall_mem_cons.2 ⟨rows_piece x0 x1 x2 x3 x4 5 k0_off6 rfl k0_off6_inb _ (congrArg normV (word_raw_5 c arg2 harg2 arg3 harg3 arg4 harg4 arg5 harg5 arg6 harg6 arg9 x0 x1 x2 x3 x4)),
    List.forall_mem_cons.2 ⟨rows_piece x0 x1 x2 x3 x4 4 k0_off5 rfl k0_off5_inb _ (congrArg normV (word_raw_4 c arg2 harg2 arg3 harg3 arg4 harg4 arg5 harg5 arg6 harg6 arg9 x0 x1 x2 x3 x4)),
    List.forall_mem_cons.2 ⟨rows_piece x0 x1 x2 x3 x4 3 k0_off4 rfl k0_off4_inb _ (congrArg normV (word_raw_3 c arg2 harg2 arg3 harg3 arg4 harg4 arg5 harg5 arg6 harg6 arg9 x0 x1 x2 x3 x4)),
    List.forall_mem_cons.2 ⟨rows_piece x0 x1 x2 x3 x4 2 k0_off3 rfl k0_off3_inb _ (congrArg normV (word_raw_2 c arg2 harg2 arg3 harg3 arg4 harg4 arg5 harg5 arg6 harg6 arg9 x0 x1 x2 x3 x4)),
    List.forall_mem_cons.2 ⟨rows_piece x0 x1 x2 x3 x4 1 k0_off2 rfl k0_off2_inb _ (congrArg normV (word_raw_1 c arg2 harg2 arg3 harg3 arg4 harg4 arg5 harg5 arg6 harg6 arg9 x0 x1 x2 x3 x4)),
    List.forall_mem_cons.2 ⟨rows_piece x0 x1 x2 x3 x4 0 k0_off1 rfl k0_off1_inb _ (congrArg normV (word_raw_0 c arg2 harg2 arg3 harg3 arg4 harg4 arg5 harg5 arg6 harg6 arg9 x0 x1 x2 x3 x4)),
    List.forall_mem_nil _⟩⟩⟩⟩⟩⟩⟩⟩⟩⟩⟩⟩⟩⟩⟩⟩

/-- Every state the body stores. -/
theorem states_pieces : ∀ p ∈ (kernelRun0_A c i arg2 harg2 arg3 harg3 arg4 harg4 arg5 harg5 arg6 harg6 arg7 harg7 arg8 harg8 arg9 harg9 x0 x1 x2 x3 x4).2.1, ∀ y : p.1.shape.Idx, p.2 y = blockStates x1 x2 x3 x4 (p.1.emb y) := by
  unfold kernelRun0_A
  dsimp only
  exact List.forall_mem_cons.2 ⟨state_piece x1 x2 x3 x4 15 ![15, 0, 0, 0] rfl inb_S16x1x128x128_S1x1x128x128_15_0_0_0 _ (congrArg turnV (word_left_15 c arg3 harg3 arg4 harg4 arg5 harg5 arg6 harg6 arg9 x1 x2 x3 x4)),
    List.forall_mem_cons.2 ⟨state_piece x1 x2 x3 x4 14 ![14, 0, 0, 0] rfl inb_S16x1x128x128_S1x1x128x128_14_0_0_0 _ (congrArg turnV (word_left_14 c arg3 harg3 arg4 harg4 arg5 harg5 arg6 harg6 arg9 x1 x2 x3 x4)),
    List.forall_mem_cons.2 ⟨state_piece x1 x2 x3 x4 13 ![13, 0, 0, 0] rfl inb_S16x1x128x128_S1x1x128x128_13_0_0_0 _ (congrArg turnV (word_left_13 c arg3 harg3 arg4 harg4 arg5 harg5 arg6 harg6 arg9 x1 x2 x3 x4)),
    List.forall_mem_cons.2 ⟨state_piece x1 x2 x3 x4 12 ![12, 0, 0, 0] rfl inb_S16x1x128x128_S1x1x128x128_12_0_0_0 _ (congrArg turnV (word_left_12 c arg3 harg3 arg4 harg4 arg5 harg5 arg6 harg6 arg9 x1 x2 x3 x4)),
    List.forall_mem_cons.2 ⟨state_piece x1 x2 x3 x4 11 ![11, 0, 0, 0] rfl inb_S16x1x128x128_S1x1x128x128_11_0_0_0 _ (congrArg turnV (word_left_11 c arg3 harg3 arg4 harg4 arg5 harg5 arg6 harg6 arg9 x1 x2 x3 x4)),
    List.forall_mem_cons.2 ⟨state_piece x1 x2 x3 x4 10 ![10, 0, 0, 0] rfl inb_S16x1x128x128_S1x1x128x128_10_0_0_0 _ (congrArg turnV (word_left_10 c arg3 harg3 arg4 harg4 arg5 harg5 arg6 harg6 arg9 x1 x2 x3 x4)),
    List.forall_mem_cons.2 ⟨state_piece x1 x2 x3 x4 9 ![9, 0, 0, 0] rfl inb_S16x1x128x128_S1x1x128x128_9_0_0_0 _ (congrArg turnV (word_left_9 c arg3 harg3 arg4 harg4 arg5 harg5 arg6 harg6 arg9 x1 x2 x3 x4)),
    List.forall_mem_cons.2 ⟨state_piece x1 x2 x3 x4 8 ![8, 0, 0, 0] rfl inb_S16x1x128x128_S1x1x128x128_8_0_0_0 _ (congrArg turnV (word_left_8 c arg3 harg3 arg4 harg4 arg5 harg5 arg6 harg6 arg9 x1 x2 x3 x4)),
    List.forall_mem_cons.2 ⟨state_piece x1 x2 x3 x4 7 ![7, 0, 0, 0] rfl inb_S16x1x128x128_S1x1x128x128_7_0_0_0 _ (congrArg turnV (word_left_7 c arg3 harg3 arg4 harg4 arg5 harg5 arg6 harg6 arg9 x1 x2 x3 x4)),
    List.forall_mem_cons.2 ⟨state_piece x1 x2 x3 x4 6 ![6, 0, 0, 0] rfl inb_S16x1x128x128_S1x1x128x128_6_0_0_0 _ (congrArg turnV (word_left_6 c arg3 harg3 arg4 harg4 arg5 harg5 arg6 harg6 arg9 x1 x2 x3 x4)),
    List.forall_mem_cons.2 ⟨state_piece x1 x2 x3 x4 5 ![5, 0, 0, 0] rfl inb_S16x1x128x128_S1x1x128x128_5_0_0_0 _ (congrArg turnV (word_left_5 c arg3 harg3 arg4 harg4 arg5 harg5 arg6 harg6 arg9 x1 x2 x3 x4)),
    List.forall_mem_cons.2 ⟨state_piece x1 x2 x3 x4 4 ![4, 0, 0, 0] rfl inb_S16x1x128x128_S1x1x128x128_4_0_0_0 _ (congrArg turnV (word_left_4 c arg3 harg3 arg4 harg4 arg5 harg5 arg6 harg6 arg9 x1 x2 x3 x4)),
    List.forall_mem_cons.2 ⟨state_piece x1 x2 x3 x4 3 ![3, 0, 0, 0] rfl inb_S16x1x128x128_S1x1x128x128_3_0_0_0 _ (congrArg turnV (word_left_3 c arg3 harg3 arg4 harg4 arg5 harg5 arg6 harg6 arg9 x1 x2 x3 x4)),
    List.forall_mem_cons.2 ⟨state_piece x1 x2 x3 x4 2 ![2, 0, 0, 0] rfl inb_S16x1x128x128_S1x1x128x128_2_0_0_0 _ (congrArg turnV (word_left_2 c arg3 harg3 arg4 harg4 arg5 harg5 arg6 harg6 arg9 x1 x2 x3 x4)),
    List.forall_mem_cons.2 ⟨state_piece x1 x2 x3 x4 1 ![1, 0, 0, 0] rfl inb_S16x1x128x128_S1x1x128x128_1_0_0_0 _ (congrArg turnV (word_left_1 c arg3 harg3 arg4 harg4 arg5 harg5 arg6 harg6 arg9 x1 x2 x3 x4)),
    List.forall_mem_cons.2 ⟨state_piece x1 x2 x3 x4 0 ![0, 0, 0, 0] rfl inb_S16x1x128x128_S1x1x128x128_0_0_0_0 _ (congrArg turnV (word_left_0 c arg3 harg3 arg4 harg4 arg5 harg5 arg6 harg6 arg9 x1 x2 x3 x4)),
    List.forall_mem_nil _⟩⟩⟩⟩⟩⟩⟩⟩⟩⟩⟩⟩⟩⟩⟩⟩

/-- THE BLOCK OF ROWS the body leaves. -/
theorem out5_at (z : S16x8x128.Idx) : out0_A_5 c i arg2 harg2 arg3 harg3 arg4 harg4 arg5 harg5 arg6 harg6 arg7 harg7 arg8 harg8 arg9 harg9 x0 x1 x2 x3 x4 z = blockRows x0 x1 x2 x3 x4 z := by
  unfold out0_A_5
  rw [View.read_writes_junk_eq_canon]
  exact View.canon_apply_of_pieces _ _ (rows_pieces c i arg2 harg2 arg3 harg3 arg4 harg4 arg5 harg5 arg6 harg6 arg7 harg7 arg8 harg8 arg9 harg9 x0 x1 x2 x3 x4) z (cover0_A_5 c i arg2 harg2 arg3 harg3 arg4 harg4 arg5 harg5 arg6 harg6 arg7 harg7 arg8 harg8 arg9 harg9 x0 x1 x2 x3 x4 z)

/-- THE BLOCK OF STATES the body leaves. -/
theorem out6_at (z : S16x1x128x128.Idx) : out0_A_6 c i arg2 harg2 arg3 harg3 arg4 harg4 arg5 harg5 arg6 harg6 arg7 harg7 arg8 harg8 arg9 harg9 x0 x1 x2 x3 x4 z = blockStates x1 x2 x3 x4 z := by
  unfold out0_A_6
  rw [View.read_writes_junk_eq_canon]
  exact View.canon_apply_of_pieces _ _ (states_pieces c i arg2 harg2 arg3 harg3 arg4 harg4 arg5 harg5 arg6 harg6 arg7 harg7 arg8 harg8 arg9 harg9 x0 x1 x2 x3 x4) z (cover0_A_6 c i arg2 harg2 arg3 harg3 arg4 harg4 arg5 harg5 arg6 harg6 arg7 harg7 arg8 harg8 arg9 harg9 x0 x1 x2 x3 x4 z)

end Blocks

end Cert.Kernel4Ideal.Short
-- ==== Proof.ShortLayer.lean ====
/- The short recurrence over the whole layer: 128 sequences of four rows, 4 heads of width 128, the projected rows holding
   queries, forget logits and values side by side. -/
module

public import proofs.«01_k».proof.Proof.ShortModel
public import proofs.«01_k».proof.Proof.HgrnLayer

@[expose] public section

noncomputable section

namespace Cert.Short

open Cert.Hgrn (lane column headLow)
open Idealize.ShloMosaic

/-- The rows of group `c` of head `h` of sequence `n`. -/
def seqRows (x : Fin 128 → Fin 4 → Fin 2560 → EReal) (c : Fin 5) (n : Fin 128) (h : Fin 4) (t : Fin 4) (k : Fin 128) : EReal :=
  x n t (column c h k)

/-- The state a head starts from, values first. -/
def seqState (S : Fin 128 → Fin 4 → Fin 128 → Fin 128 → EReal) (n : Fin 128) (h : Fin 4) (e k : Fin 128) : EReal := S n h k e

/-- THE LAYER'S ROWS of a head of a sequence: four normalised rows and four of zeros. -/
def layer8 (lb : Fin 512 → EReal) (x : Fin 128 → Fin 4 → Fin 2560 → EReal) (S : Fin 128 → Fin 4 → Fin 128 → Fin 128 → EReal)
    (n : Fin 128) (h : Fin 4) : Fin 8 → Fin 128 → EReal :=
  rows (headLow lb h) (seqRows x 0 n h) (seqRows x 1 n h) (seqRows x 2 n h) (seqState S n h)

/-- THE LAYER'S STATE of a head after a sequence, values first. -/
def layerLeft (lb : Fin 512 → EReal) (x : Fin 128 → Fin 4 → Fin 2560 → EReal) (S : Fin 128 → Fin 4 → Fin 128 → Fin 128 → EReal)
    (n : Fin 128) (h : Fin 4) : Fin 128 → Fin 128 → EReal :=
  left (headLow lb h) (seqRows x 1 n h) (seqRows x 2 n h) (seqState S n h)

end Cert.Short
-- ==== Proof.ShortArray.lean ====
/- The short recurrence's two result arrays: every entry is the layer's recurrence at that entry. -/
module

public import proofs.«01_k».proof.Proof.Gen.Kernel4Ideal.Value
public import proofs.«01_k».proof.Proof.ShortBlock
public import proofs.«01_k».proof.Proof.ShortLayer
public import Idealize.ShloMosaic.Lib.Pipeline.ValueKit
public import Idealize.ShloMosaic.Lib.StableHlo.ReadAt
public import Idealize.ShloMosaic.Lib.Tactic.CleanTypes

@[expose] public section

set_option maxRecDepth 16384

noncomputable section

namespace Cert.Kernel4Ideal.Short

open Cert.Kernel4Ideal Cert.Kernel4Ideal.Gen Cert.Short Idealize.ShloMosaic
open Cert.Hgrn (lane column headLow)

variable (m : (ℓ : Loc nD τ sig) → Buf (Elt Ideal) ℓ) (c : Dev nD)

/-- The lower bounds the host hands the kernel. -/
def argLow (j : Fin 512) : EReal := (V m c main_v14 : FVec Ideal S1x512 .f32) (ix2 0 j)
/-- The projected rows. -/
def argRows (n : Fin 128) (t : Fin 4) (j : Fin 2560) : EReal := (m ((c.tc : Thread nD τ).loc main_arg0) : FVec Ideal S128x4x2560 .f32) (ix3 n t j)
/-- The starting states. -/
def argStates (n : Fin 128) (h : Fin 4) (k e : Fin 128) : EReal := (m ((c.tc : Thread nD τ).loc main_arg2) : FVec Ideal S128x4x128x128 .f32) (ix4 n h k e)

/-- The host pads the projected rows to eight: the first four are the rows themselves. -/
theorem hostX (n : Fin 128) (t : Fin 4) (p : t.val < 8) (j : Fin 2560) :
    (V m c main_v15 : FVec Ideal S128x8x2560 .f32) (ix3 n ⟨t.val, p⟩ j) = argRows m c n t j := by
  unfold V argRows
  after_reads_at

/-- The block windows' places, over the grid. -/
theorem places : ∀ t : Fin grid0.N,
    win0_0.index t = ![(grid0.coords t 0).val, 0, (grid0.coords t 1).val]
    ∧ win0_1.index t = ![(grid0.coords t 0).val, 0, 4 + (grid0.coords t 1).val]
    ∧ win0_2.index t = ![(grid0.coords t 0).val, 0, 8 + (grid0.coords t 1).val]
    ∧ win0_3.index t = ![0, (grid0.coords t 1).val]
    ∧ win0_4.index t = ![(grid0.coords t 0).val, (grid0.coords t 1).val, 0, 0]
    ∧ win0_5.index t = ![(grid0.coords t 0).val, 0, (grid0.coords t 1).val]
    ∧ win0_6.index t = ![(grid0.coords t 0).val, (grid0.coords t 1).val, 0, 0] := by decide +kernel

/-- The head of a grid point, and the sequence of a place in its block. -/
def hOf (t : Fin grid0.N) : Fin 4 := ⟨(grid0.coords t 1).val, (grid0.coords t 1).isLt⟩
def nOf (t : Fin grid0.N) (g : Fin 16) : Fin 128 :=
  ⟨16 * (grid0.coords t 0).val + g.val, by have h : (grid0.coords t 0).val < 8 := (grid0.coords t 0).isLt; have := g.isLt; omega⟩

theorem block0 (t : Fin grid0.N) (g : Fin 16) : seqB (iblk m c 0 t) g = seqRows (argRows m c) 0 (nOf t g) (hOf t) := by
  obtain ⟨h0, h1, h2, h3, h4, h5, h6⟩ := places t
  funext r k
  unfold seqB seqRows
  refine Eq.trans ?_ (hostX m c (nOf t g) r (by have := r.isLt; omega) (column 0 (hOf t) k))
  blk_ext [iblk, h0, nOf, hOf, column]

theorem block1 (t : Fin grid0.N) (g : Fin 16) : seqB (iblk m c 1 t) g = seqRows (argRows m c) 1 (nOf t g) (hOf t) := by
  obtain ⟨h0, h1, h2, h3, h4, h5, h6⟩ := places t
  funext r k
  unfold seqB seqRows
  refine Eq.trans ?_ (hostX m c (nOf t g) r (by have := r.isLt; omega) (column 1 (hOf t) k))
  blk_ext [iblk, h1, nOf, hOf, column]

theorem block2 (t : Fin grid0.N) (g : Fin 16) : seqB (iblk m c 2 t) g = seqRows (argRows m c) 2 (nOf t g) (hOf t) := by
  obtain ⟨h0, h1, h2, h3, h4, h5, h6⟩ := places t
  funext r k
  unfold seqB seqRows
  refine Eq.trans ?_ (hostX m c (nOf t g) r (by have := r.isLt; omega) (column 2 (hOf t) k))
  blk_ext [iblk, h2, nOf, hOf, column]

theorem block3 (t : Fin grid0.N) : lowB (iblk m c 3 t) = headLow (argLow m c) (hOf t) := by
  obtain ⟨h0, h1, h2, h3, h4, h5, h6⟩ := places t
  funext k
  unfold lowB headLow argLow
  blk_ext [iblk, h3, hOf, lane]

theorem block4 (t : Fin grid0.N) (g : Fin 16) : stB (iblk m c 4 t) g = seqState (argStates m c) (nOf t g) (hOf t) := by
  obtain ⟨h0, h1, h2, h3, h4, h5, h6⟩ := places t
  funext e k
  unfold stB seqState argStates
  blk_ext [iblk, V, V_main_arg2, h4, nOf, hOf]

/-- The rows array: at sequence `n`, row `r`, column `j`, the layer's rows of the head of `j`. -/
def arrRows : FVec Ideal S128x8x512 .f32 := fun i =>
  layer8 (argLow m c) (argRows m c) (argStates m c) (i 0) ⟨(i 2).val / 128, by have := (i 2).isLt; simp at this; omega⟩ (i 1)
    ⟨(i 2).val % 128, Nat.mod_lt _ (by decide)⟩

/-- The rows array at a head's column. -/
theorem arrRows_at (n : Fin 128) (h : Fin 4) (r : Fin 8) (e : Fin 128) :
    arrRows m c (ix3 n r (lane h e)) = layer8 (argLow m c) (argRows m c) (argStates m c) n h r e := by
  have e1 : (⟨(lane h e).val / 128, by have := (lane h e).isLt; omega⟩ : Fin 4) = h := Fin.ext (by simp only [lane]; omega)
  have e2 : (⟨(lane h e).val % 128, Nat.mod_lt _ (by decide)⟩ : Fin 128) = e := Fin.ext (by simp only [lane]; omega)
  show layer8 _ _ _ n (⟨(lane h e).val / 128, _⟩ : Fin 4) r (⟨(lane h e).val % 128, _⟩ : Fin 128) = _
  rw [e1, e2]

/-- The states array: the layer's states after the four rows, keys first. -/
def arrStates : FVec Ideal S128x4x128x128 .f32 := fun i =>
  layerLeft (argLow m c) (argRows m c) (argStates m c) (i 0) (i 1) (i 3) (i 2)

/-- The rows a grid point leaves in its block. -/
theorem rowsPoint (t : Fin grid0.N) (g : Fin 16) (r : Fin 8) (e : Fin 128) :
    (outsAt0 m c t).1 (ix3 g r e) = layer8 (argLow m c) (argRows m c) (argStates m c) (nOf t g) (hOf t) r e := by
  unfold outsAt0
  dsimp only
  rw [out5_at]
  show rows (lowB (iblk m c 3 t)) (seqB (iblk m c 0 t) g) (seqB (iblk m c 1 t) g) (seqB (iblk m c 2 t) g) (stB (iblk m c 4 t) g) r e = _
  unfold layer8
  rw [block0, block1, block2, block3, block4]

/-- The state a grid point leaves in its block. -/
theorem statePoint (t : Fin grid0.N) (g : Fin 16) (k e : Fin 128) :
    (outsAt0 m c t).2 (ix4 g 0 k e) = layerLeft (argLow m c) (argRows m c) (argStates m c) (nOf t g) (hOf t) e k := by
  unfold outsAt0
  dsimp only
  rw [out6_at]
  show left (lowB (iblk m c 3 t)) (seqB (iblk m c 1 t) g) (seqB (iblk m c 2 t) g) (stB (iblk m c 4 t) g) e k = _
  unfold layerLeft
  rw [block1, block2, block3, block4]

/-- THE ROWS the kernel leaves. -/
theorem rows_eq : (dats m 0 c).arrAt 5 cfg0.N = arrRows m c := by
  refine (dats m 0 c).arrAt_eq_of_covers 5 _ (by decide +kernel) fun t hf y => ?_
  blk_simp
  rw [after0_5]
  obtain ⟨h0, h1, h2, h3, h4, h5, h6⟩ := places t
  obtain ⟨g, r, e, rfl⟩ : ∃ (g : Fin 16) (r : Fin 8) (e : Fin 128), y = ix3 g r e := ⟨y 0, y 1, y 2, eq_ix3 y⟩
  have hp : (win0_5.blk t).view.emb (ix3 g r e) = ix3 (nOf t g) r (lane (hOf t) e) := by
    blk_ext [h5, nOf, hOf, lane]
  rw [hp]
  exact (rowsPoint m c t g r e).trans (arrRows_at m c (nOf t g) (hOf t) r e).symm

/-- THE STATES the kernel leaves. -/
theorem states_eq : (dats m 0 c).arrAt 6 cfg0.N = arrStates m c := by
  refine (dats m 0 c).arrAt_eq_of_covers 6 _ (by decide +kernel) fun t hf y => ?_
  blk_simp
  rw [after0_6]
  obtain ⟨h0, h1, h2, h3, h4, h5, h6⟩ := places t
  obtain ⟨g, y1, k, e, rfl⟩ : ∃ (g : Fin 16) (y1 : Fin 1) (k e : Fin 128), y = ix4 g y1 k e := ⟨y 0, y 1, y 2, y 3, eq_ix4 y⟩
  obtain rfl : y1 = 0 := Subsingleton.elim _ _
  have hp : (win0_6.blk t).view.emb (ix4 g (0 : Fin 1) k e) = ix4 (nOf t g) (hOf t) k e := by
    blk_ext [h6, nOf, hOf]
  rw [hp]
  exact statePoint m c t g k e

end Cert.Kernel4Ideal.Short
-- ==== Proof.ShortRef.lean ====
/- The reference of the recurrence's short call over the extended reals: its lines one by one, and the call's results read
   at an index as the layer's short recurrence. -/
module

public import proofs.«01_k».proof.Proof.Gen.Reference4Ideal.Run
public import proofs.«01_k».proof.Proof.ShortLayer
public import Idealize.ShloMosaic.Lib.Pointwise

@[expose] public section

set_option maxRecDepth 16384

noncomputable section

namespace Cert.Reference4Ideal.Short

open Cert.Reference4Ideal Cert.Reference4Ideal.Gen Cert.Short Idealize.ShloMosaic
open Cert.Hgrn (gate key rmsRow lane column headLow)

section Lines

/-- The projected rows, the logits of the lower bounds, the states. -/
abbrev X := FVec Ideal S128x4x2560 .f32
abbrev L := FVec Ideal S2x512 .f32
abbrev St := FVec Ideal S128x4x128x128 .f32

def t_cst (x : X) (l : L) (S : St) : FVec Ideal S_ .f32 := constant S_ .f32 0xFF800000#32
def t_v0 (x : X) (l : L) (S : St) : FVec Ideal S512 .f32 := Host.reduce FloatOps.maximumf l (t_cst x l S) reducesTo_S2x512_S512_d0 h_S_
def t_cst_0 (x : X) (l : L) (S : St) : FVec Ideal S_ .f32 := constant S_ .f32 0xFF800000#32
def t_v1 (x : X) (l : L) (S : St) : FVec Ideal S512 .f32 := broadcastInDim S512 ![] bcast_S_S512 (t_cst_0 x l S)
def t_v2 (x : X) (l : L) (S : St) : FVec Ideal S512 .f32 := maximumf (t_v1 x l S) (t_v0 x l S)
def t_v3 (x : X) (l : L) (S : St) : FVec Ideal S1x512 .f32 := broadcastInDim S1x512 ![1] bcast_S512_S1x512_1 (t_v2 x l S)
def t_v4 (x : X) (l : L) (S : St) : FVec Ideal S2x512 .f32 := broadcastInDim S2x512 ![0, 1] bcast_S1x512_S2x512_0_1 (t_v3 x l S)
def t_v5 (x : X) (l : L) (S : St) : FVec Ideal S2x512 .f32 := subf l (t_v4 x l S)
def t_v6 (x : X) (l : L) (S : St) : FVec Ideal S2x512 .f32 := Host.exp (t_v5 x l S)
def t_cst_1 (x : X) (l : L) (S : St) : FVec Ideal S_ .f32 := constant S_ .f32 0x00000000#32
def t_v7 (x : X) (l : L) (S : St) : FVec Ideal S512 .f32 := Host.reduceAdd (t_v6 x l S) (t_cst_1 x l S) reducesTo_S2x512_S512_d0 h_S_
def t_v8 (x : X) (l : L) (S : St) : FVec Ideal S1x512 .f32 := broadcastInDim S1x512 ![1] bcast_S512_S1x512_1 (t_v7 x l S)
def t_v9 (x : X) (l : L) (S : St) : FVec Ideal S2x512 .f32 := broadcastInDim S2x512 ![0, 1] bcast_S1x512_S2x512_0_1 (t_v8 x l S)
def t_v10 (x : X) (l : L) (S : St) : FVec Ideal S2x512 .f32 := Host.divf (t_v6 x l S) (t_v9 x l S)
def t_call0_call0_cst (x : X) (l : L) (S : St) : FVec Ideal S_ .f32 := constant S_ .f32 0x00000000#32
def t_call0_call0_v0 (x : X) (l : L) (S : St) : FVec Ideal S_ .f32 := broadcastInDim S_ ![] bcast_S_S_ (t_call0_call0_cst x l S)
def t_v11 (x : X) (l : L) (S : St) : FVec Ideal S2x512 .f32 := Host.reduceWindowAdd ![2, 1] ![1, 1] ![1, 0] ![0, 0] (t_v10 x l S) (t_call0_call0_v0 x l S) reduceWindows_S2x512_S2x512_w2s1p1_0_w1s1p0_0 h_S_
def t_v12 (x : X) (l : L) (S : St) : FVec Ideal S1x512 .f32 := extractStridedSlice S1x512 ![0, 0] (t_v11 x l S) slices_S2x512_S1x512_0_0
def t_v13 (x : X) (l : L) (S : St) : FVec Ideal S512 .f32 := shapeCast S512 (t_v12 x l S) shapeCasts_S1x512_S512
def t_v14 (x : X) (l : L) (S : St) : FVec Ideal S128x4x512 .f32 := extractStridedSlice S128x4x512 ![0, 0, 0] x slices_S128x4x2560_S128x4x512_0_0_0
def t_v15 (x : X) (l : L) (S : St) : FVec Ideal S128x4x512 .f32 := extractStridedSlice S128x4x512 ![0, 0, 512] x slices_S128x4x2560_S128x4x512_0_0_512
def t_v16 (x : X) (l : L) (S : St) : FVec Ideal S128x4x512 .f32 := extractStridedSlice S128x4x512 ![0, 0, 1024] x slices_S128x4x2560_S128x4x512_0_0_1024
def t_cst_2 (x : X) (l : L) (S : St) : FVec Ideal S_ .f32 := constant S_ .f32 0x3F800000#32
def t_v17 (x : X) (l : L) (S : St) : FVec Ideal S512 .f32 := broadcastInDim S512 ![] bcast_S_S512 (t_cst_2 x l S)
def t_v18 (x : X) (l : L) (S : St) : FVec Ideal S512 .f32 := subf (t_v17 x l S) (t_v13 x l S)
def t_v19 (x : X) (l : L) (S : St) : FVec Ideal S128x4x512 .f32 := Host.negf (t_v15 x l S)
def t_v20 (x : X) (l : L) (S : St) : FVec Ideal S128x4x512 .f32 := Host.exp (t_v19 x l S)
def t_cst_3 (x : X) (l : L) (S : St) : FVec Ideal S_ .f32 := constant S_ .f32 0x3F800000#32
def t_v21 (x : X) (l : L) (S : St) : FVec Ideal S128x4x512 .f32 := broadcastInDim S128x4x512 ![] bcast_S_S128x4x512 (t_cst_3 x l S)
def t_v22 (x : X) (l : L) (S : St) : FVec Ideal S128x4x512 .f32 := addf (t_v21 x l S) (t_v20 x l S)
def t_cst_4 (x : X) (l : L) (S : St) : FVec Ideal S_ .f32 := constant S_ .f32 0x3F800000#32
def t_v23 (x : X) (l : L) (S : St) : FVec Ideal S128x4x512 .f32 := broadcastInDim S128x4x512 ![] bcast_S_S128x4x512 (t_cst_4 x l S)
def t_v24 (x : X) (l : L) (S : St) : FVec Ideal S128x4x512 .f32 := Host.divf (t_v23 x l S) (t_v22 x l S)
def t_v25 (x : X) (l : L) (S : St) : FVec Ideal S1x1x512 .f32 := broadcastInDim S1x1x512 ![2] bcast_S512_S1x1x512_2 (t_v18 x l S)
def t_v26 (x : X) (l : L) (S : St) : FVec Ideal S128x4x512 .f32 := broadcastInDim S128x4x512 ![0, 1, 2] bcast_S1x1x512_S128x4x512_0_1_2 (t_v25 x l S)
def t_v27 (x : X) (l : L) (S : St) : FVec Ideal S128x4x512 .f32 := mulf (t_v26 x l S) (t_v24 x l S)
def t_v28 (x : X) (l : L) (S : St) : FVec Ideal S1x1x512 .f32 := broadcastInDim S1x1x512 ![2] bcast_S512_S1x1x512_2 (t_v13 x l S)
def t_v29 (x : X) (l : L) (S : St) : FVec Ideal S128x4x512 .f32 := broadcastInDim S128x4x512 ![0, 1, 2] bcast_S1x1x512_S128x4x512_0_1_2 (t_v28 x l S)
def t_v30 (x : X) (l : L) (S : St) : FVec Ideal S128x4x512 .f32 := addf (t_v29 x l S) (t_v27 x l S)
def t_v31 (x : X) (l : L) (S : St) : FVec Ideal S128x4x512 .f32 := Host.log (t_v30 x l S)
def t_cst_5 (x : X) (l : L) (S : St) : FVec Ideal S_ .f32 := constant S_ .f32 0x3F800000#32
def t_v32 (x : X) (l : L) (S : St) : FVec Ideal S512 .f32 := broadcastInDim S512 ![] bcast_S_S512 (t_cst_5 x l S)
def t_v33 (x : X) (l : L) (S : St) : FVec Ideal S512 .f32 := subf (t_v32 x l S) (t_v13 x l S)
def t_v34 (x : X) (l : L) (S : St) : FVec Ideal S128x4x512 .f32 := Host.negf (t_v15 x l S)
def t_v35 (x : X) (l : L) (S : St) : FVec Ideal S128x4x512 .f32 := Host.negf (t_v34 x l S)
def t_v36 (x : X) (l : L) (S : St) : FVec Ideal S128x4x512 .f32 := Host.exp (t_v35 x l S)
def t_cst_6 (x : X) (l : L) (S : St) : FVec Ideal S_ .f32 := constant S_ .f32 0x3F800000#32
def t_v37 (x : X) (l : L) (S : St) : FVec Ideal S128x4x512 .f32 := broadcastInDim S128x4x512 ![] bcast_S_S128x4x512 (t_cst_6 x l S)
def t_v38 (x : X) (l : L) (S : St) : FVec Ideal S128x4x512 .f32 := addf (t_v37 x l S) (t_v36 x l S)
def t_cst_7 (x : X) (l : L) (S : St) : FVec Ideal S_ .f32 := constant S_ .f32 0x3F800000#32
def t_v39 (x : X) (l : L) (S : St) : FVec Ideal S128x4x512 .f32 := broadcastInDim S128x4x512 ![] bcast_S_S128x4x512 (t_cst_7 x l S)
def t_v40 (x : X) (l : L) (S : St) : FVec Ideal S128x4x512 .f32 := Host.divf (t_v39 x l S) (t_v38 x l S)
def t_v41 (x : X) (l : L) (S : St) : FVec Ideal S1x1x512 .f32 := broadcastInDim S1x1x512 ![2] bcast_S512_S1x1x512_2 (t_v33 x l S)
def t_v42 (x : X) (l : L) (S : St) : FVec Ideal S128x4x512 .f32 := broadcastInDim S128x4x512 ![0, 1, 2] bcast_S1x1x512_S128x4x512_0_1_2 (t_v41 x l S)
def t_v43 (x : X) (l : L) (S : St) : FVec Ideal S128x4x512 .f32 := mulf (t_v42 x l S) (t_v40 x l S)
def t_v44 (x : X) (l : L) (S : St) : FVec Ideal S128x4x4x128 .f32 := shapeCast S128x4x4x128 (t_v14 x l S) shapeCasts_S128x4x512_S128x4x4x128
def t_v45 (x : X) (l : L) (S : St) : FVec Ideal S128x4x4x128 .f32 := shapeCast S128x4x4x128 (t_v43 x l S) shapeCasts_S128x4x512_S128x4x4x128
def t_v46 (x : X) (l : L) (S : St) : FVec Ideal S128x4x4x128 .f32 := shapeCast S128x4x4x128 (t_v16 x l S) shapeCasts_S128x4x512_S128x4x4x128
def t_v47 (x : X) (l : L) (S : St) : FVec Ideal S128x4x4x128 .f32 := shapeCast S128x4x4x128 (t_v31 x l S) shapeCasts_S128x4x512_S128x4x4x128
def t_c (x : X) (l : L) (S : St) : IVec S_ 1 := constantI S_ 1 1#1
def t_v48 (x : X) (l : L) (S : St) : IVec S4x4 1 := broadcastInDim S4x4 ![] bcast_S_S4x4 (t_c x l S)
def t_call1_v0 (x : X) (l : L) (S : St) : IVec S4x4 32 := iotaInDim S4x4 32 0
def t_call1_c (x : X) (l : L) (S : St) : IVec S_ 32 := constantI S_ 32 0#32
def t_call1_v1 (x : X) (l : L) (S : St) : IVec S4x4 32 := broadcastInDim S4x4 ![] bcast_S_S4x4 (t_call1_c x l S)
def t_call1_v2 (x : X) (l : L) (S : St) : IVec S4x4 32 := addi (t_call1_v0 x l S) (t_call1_v1 x l S)
def t_call1_v3 (x : X) (l : L) (S : St) : IVec S4x4 32 := iotaInDim S4x4 32 1
def t_call1_v4 (x : X) (l : L) (S : St) : IVec S4x4 1 := cmpi .sge (t_call1_v2 x l S) (t_call1_v3 x l S)
def t_call1_c_0 (x : X) (l : L) (S : St) : IVec S_ 1 := constantI S_ 1 0#1
def t_call1_v5 (x : X) (l : L) (S : St) : IVec S4x4 1 := broadcastInDim S4x4 ![] bcast_S_S4x4 (t_call1_c_0 x l S)
def t_v49 (x : X) (l : L) (S : St) : IVec S4x4 1 := select (t_call1_v4 x l S) (t_v48 x l S) (t_call1_v5 x l S)
def t_v50 (x : X) (l : L) (S : St) : IVec S1x4x4x1x1 1 := broadcastInDim S1x4x4x1x1 ![1, 2] bcast_S4x4_S1x4x4x1x1_1_2 (t_v49 x l S)
def t_call2_call0_cst (x : X) (l : L) (S : St) : FVec Ideal S_ .f32 := constant S_ .f32 0x00000000#32
def t_call2_call0_v0 (x : X) (l : L) (S : St) : FVec Ideal S_ .f32 := broadcastInDim S_ ![] bcast_S_S_ (t_call2_call0_cst x l S)
def t_v51 (x : X) (l : L) (S : St) : FVec Ideal S128x4x4x128 .f32 := Host.reduceWindowAdd ![1, 4, 1, 1] ![1, 1, 1, 1] ![0, 3, 0, 0] ![0, 0, 0, 0] (t_v47 x l S) (t_call2_call0_v0 x l S) reduceWindows_S128x4x4x128_S128x4x4x128_w1s1p0_0_w4s1p3_0_w1s1p0_0_w1s1p0_0 h_S_
def t_v52 (x : X) (l : L) (S : St) : FVec Ideal S128x4x1x4x128 .f32 := broadcastInDim S128x4x1x4x128 ![0, 1, 3, 4] bcast_S128x4x4x128_S128x4x1x4x128_0_1_3_4 (t_v51 x l S)
def t_v53 (x : X) (l : L) (S : St) : FVec Ideal S128x1x4x4x128 .f32 := broadcastInDim S128x1x4x4x128 ![0, 2, 3, 4] bcast_S128x4x4x128_S128x1x4x4x128_0_2_3_4 (t_v51 x l S)
def t_v54 (x : X) (l : L) (S : St) : FVec Ideal S128x4x4x4x128 .f32 := broadcastInDim S128x4x4x4x128 ![0, 1, 2, 3, 4] bcast_S128x4x1x4x128_S128x4x4x4x128_0_1_2_3_4 (t_v52 x l S)
def t_v55 (x : X) (l : L) (S : St) : FVec Ideal S128x4x4x4x128 .f32 := broadcastInDim S128x4x4x4x128 ![0, 1, 2, 3, 4] bcast_S128x1x4x4x128_S128x4x4x4x128_0_1_2_3_4 (t_v53 x l S)
def t_v56 (x : X) (l : L) (S : St) : FVec Ideal S128x4x4x4x128 .f32 := subf (t_v54 x l S) (t_v55 x l S)
def t_cst_8 (x : X) (l : L) (S : St) : FVec Ideal S_ .f32 := constant S_ .f32 0xFF800000#32
def t_call3_v0 (x : X) (l : L) (S : St) : FVec Ideal S_ .f32 := id (t_cst_8 x l S)
def t_call3_v1 (x : X) (l : L) (S : St) : IVec S128x4x4x4x128 1 := broadcastInDim S128x4x4x4x128 ![0, 1, 2, 3, 4] bcast_S1x4x4x1x1_S128x4x4x4x128_0_1_2_3_4 (t_v50 x l S)
def t_call3_v2 (x : X) (l : L) (S : St) : FVec Ideal S128x4x4x4x128 .f32 := broadcastInDim S128x4x4x4x128 ![] bcast_S_S128x4x4x4x128 (t_call3_v0 x l S)
def t_v57 (x : X) (l : L) (S : St) : FVec Ideal S128x4x4x4x128 .f32 := select (t_call3_v1 x l S) (t_v56 x l S) (t_call3_v2 x l S)
def t_v58 (x : X) (l : L) (S : St) : FVec Ideal S128x4x4x4x128 .f32 := Host.exp (t_v57 x l S)
def t_v59 (x : X) (l : L) (S : St) : FVec Ideal S128x4x1x4x128 .f32 := broadcastInDim S128x4x1x4x128 ![0, 1, 3, 4] bcast_S128x4x4x128_S128x4x1x4x128_0_1_3_4 (t_v44 x l S)
def t_v60 (x : X) (l : L) (S : St) : FVec Ideal S128x1x4x4x128 .f32 := broadcastInDim S128x1x4x4x128 ![0, 2, 3, 4] bcast_S128x4x4x128_S128x1x4x4x128_0_2_3_4 (t_v45 x l S)
def t_v61 (x : X) (l : L) (S : St) : FVec Ideal S128x4x4x4x128 .f32 := broadcastInDim S128x4x4x4x128 ![0, 1, 2, 3, 4] bcast_S128x4x1x4x128_S128x4x4x4x128_0_1_2_3_4 (t_v59 x l S)
def t_v62 (x : X) (l : L) (S : St) : FVec Ideal S128x4x4x4x128 .f32 := broadcastInDim S128x4x4x4x128 ![0, 1, 2, 3, 4] bcast_S128x1x4x4x128_S128x4x4x4x128_0_1_2_3_4 (t_v60 x l S)
def t_v63 (x : X) (l : L) (S : St) : FVec Ideal S128x4x4x4x128 .f32 := mulf (t_v61 x l S) (t_v62 x l S)
def t_v64 (x : X) (l : L) (S : St) : FVec Ideal S128x4x4x4x128 .f32 := mulf (t_v63 x l S) (t_v58 x l S)
def t_cst_9 (x : X) (l : L) (S : St) : FVec Ideal S_ .f32 := constant S_ .f32 0x00000000#32
def t_v65 (x : X) (l : L) (S : St) : FVec Ideal S128x4x4x4 .f32 := Host.reduceAdd (t_v64 x l S) (t_cst_9 x l S) reducesTo_S128x4x4x4x128_S128x4x4x4_d4 h_S_
def t_v66 (x : X) (l : L) (S : St) : FVec Ideal S128x4x128x4 .f32 := Host.dotGeneral dot_S128x4x4x128_S128x4x4x4_S128x4x128x4_1_2_3_1_02_03 none (t_v46 x l S) (t_v65 x l S)
def t_v67 (x : X) (l : L) (S : St) : FVec Ideal S128x4x4x128 .f32 := transpose S128x4x4x128 [0, 3, 1, 2] (t_v66 x l S) transposes_S128x4x128x4_S128x4x4x128_0_3_1_2
def t_v68 (x : X) (l : L) (S : St) : FVec Ideal S128x4x4x128 .f32 := Host.exp (t_v51 x l S)
def t_v69 (x : X) (l : L) (S : St) : FVec Ideal S128x4x4x128 .f32 := mulf (t_v44 x l S) (t_v68 x l S)
def t_v70 (x : X) (l : L) (S : St) : FVec Ideal S128x4x128x4 .f32 := Host.dotGeneral dot_S128x4x128x128_S128x4x4x128_S128x4x128x4_2_3_3_1_01_02 none S (t_v69 x l S)
def t_v71 (x : X) (l : L) (S : St) : FVec Ideal S128x4x4x128 .f32 := transpose S128x4x4x128 [0, 3, 1, 2] (t_v70 x l S) transposes_S128x4x128x4_S128x4x4x128_0_3_1_2
def t_v72 (x : X) (l : L) (S : St) : FVec Ideal S128x4x4x128 .f32 := addf (t_v67 x l S) (t_v71 x l S)
def t_v73 (x : X) (l : L) (S : St) : FVec Ideal S128x1x4x128 .f32 := extractStridedSlice S128x1x4x128 ![0, 3, 0, 0] (t_v51 x l S) slices_S128x4x4x128_S128x1x4x128_0_3_0_0
def t_v74 (x : X) (l : L) (S : St) : FVec Ideal S128x4x128 .f32 := shapeCast S128x4x128 (t_v73 x l S) shapeCasts_S128x1x4x128_S128x4x128
def t_v75 (x : X) (l : L) (S : St) : FVec Ideal S128x4x128 .f32 := Host.exp (t_v74 x l S)
def t_v76 (x : X) (l : L) (S : St) : FVec Ideal S128x4x128x1 .f32 := broadcastInDim S128x4x128x1 ![0, 1, 2] bcast_S128x4x128_S128x4x128x1_0_1_2 (t_v75 x l S)
def t_v77 (x : X) (l : L) (S : St) : FVec Ideal S128x4x128x128 .f32 := broadcastInDim S128x4x128x128 ![0, 1, 2, 3] bcast_S128x4x128x1_S128x4x128x128_0_1_2_3 (t_v76 x l S)
def t_v78 (x : X) (l : L) (S : St) : FVec Ideal S128x4x128x128 .f32 := mulf (t_v77 x l S) S
def t_v79 (x : X) (l : L) (S : St) : FVec Ideal S128x1x4x128 .f32 := broadcastInDim S128x1x4x128 ![0, 2, 3] bcast_S128x4x128_S128x1x4x128_0_2_3 (t_v74 x l S)
def t_v80 (x : X) (l : L) (S : St) : FVec Ideal S128x4x4x128 .f32 := broadcastInDim S128x4x4x128 ![0, 1, 2, 3] bcast_S128x1x4x128_S128x4x4x128_0_1_2_3 (t_v79 x l S)
def t_v81 (x : X) (l : L) (S : St) : FVec Ideal S128x4x4x128 .f32 := subf (t_v80 x l S) (t_v51 x l S)
def t_v82 (x : X) (l : L) (S : St) : FVec Ideal S128x4x4x128 .f32 := Host.exp (t_v81 x l S)
def t_v83 (x : X) (l : L) (S : St) : FVec Ideal S128x4x4x128 .f32 := mulf (t_v45 x l S) (t_v82 x l S)
def t_v84 (x : X) (l : L) (S : St) : FVec Ideal S128x4x128x128 .f32 := Host.dotGeneral dot_S128x4x4x128_S128x4x4x128_S128x4x128x128_1_1_3_3_02_02 none (t_v83 x l S) (t_v46 x l S)
def t_v85 (x : X) (l : L) (S : St) : FVec Ideal S128x4x128x128 .f32 := addf (t_v78 x l S) (t_v84 x l S)
def t_v86 (x : X) (l : L) (S : St) : FVec Ideal S128x4x4x128 .f32 := mulf (t_v72 x l S) (t_v72 x l S)
def t_cst_10 (x : X) (l : L) (S : St) : FVec Ideal S_ .f32 := constant S_ .f32 0x00000000#32
def t_v87 (x : X) (l : L) (S : St) : FVec Ideal S128x4x4 .f32 := Host.reduceAdd (t_v86 x l S) (t_cst_10 x l S) reducesTo_S128x4x4x128_S128x4x4_d3 h_S_
def t_v88 (x : X) (l : L) (S : St) : FVec Ideal S128x4x4x1 .f32 := broadcastInDim S128x4x4x1 ![0, 1, 2] bcast_S128x4x4_S128x4x4x1_0_1_2 (t_v87 x l S)
def t_cst_11 (x : X) (l : L) (S : St) : FVec Ideal S_ .f32 := constant S_ .f32 0x43000000#32
def t_v89 (x : X) (l : L) (S : St) : FVec Ideal S128x4x4x1 .f32 := broadcastInDim S128x4x4x1 ![] bcast_S_S128x4x4x1 (t_cst_11 x l S)
def t_v90 (x : X) (l : L) (S : St) : FVec Ideal S128x4x4x1 .f32 := Host.divf (t_v88 x l S) (t_v89 x l S)
def t_cst_12 (x : X) (l : L) (S : St) : FVec Ideal S_ .f32 := constant S_ .f32 0x358637BD#32
def t_v91 (x : X) (l : L) (S : St) : FVec Ideal S128x4x4x1 .f32 := broadcastInDim S128x4x4x1 ![] bcast_S_S128x4x4x1 (t_cst_12 x l S)
def t_v92 (x : X) (l : L) (S : St) : FVec Ideal S128x4x4x1 .f32 := addf (t_v90 x l S) (t_v91 x l S)
def t_v93 (x : X) (l : L) (S : St) : FVec Ideal S128x4x4x1 .f32 := Host.rsqrt (t_v92 x l S)
def t_v94 (x : X) (l : L) (S : St) : FVec Ideal S128x4x4x128 .f32 := broadcastInDim S128x4x4x128 ![0, 1, 2, 3] bcast_S128x4x4x1_S128x4x4x128_0_1_2_3 (t_v93 x l S)
def t_v95 (x : X) (l : L) (S : St) : FVec Ideal S128x4x4x128 .f32 := mulf (t_v72 x l S) (t_v94 x l S)
def t_v96 (x : X) (l : L) (S : St) : FVec Ideal S128x4x512 .f32 := shapeCast S128x4x512 (t_v95 x l S) shapeCasts_S128x4x4x128_S128x4x512
def t_c_13 (x : X) (l : L) (S : St) : IVec S_ 32 := constantI S_ 32 0#32
def t_call4_v0 (x : X) (l : L) (S : St) : FVec Ideal S_ .f32 := sitofp .f32 (t_c_13 x l S)
def t_v97 (x : X) (l : L) (S : St) : FVec Ideal S128x8x512 .f32 := pad S128x8x512 ![0, 0, 0] ![0, 4, 0] ![0, 0, 0] (t_v96 x l S) (t_call4_v0 x l S) pads_S128x4x512_S128x8x512_000_040_000 h_S_

end Lines

section At

variable (x : FVec Ideal S128x4x2560 .f32) (l : FVec Ideal S2x512 .f32) (S : FVec Ideal S128x4x128x128 .f32)

/-- The lower bounds. -/
def low (j : Fin 512) : EReal := t_v13 x l S (ix1 j)
/-- The projected rows and the states, as arrays. -/
def rowsA (n : Fin 128) (t : Fin 4) (j : Fin 2560) : EReal := x (ix3 n t j)
def statesA (n : Fin 128) (h : Fin 4) (k e : Fin 128) : EReal := S (ix4 n h k e)

/-- A left fold that adds terms is the sum of the terms. -/
theorem foldl_add_eq_sum {α : Type} (L : List α) (g : α → EReal) (r : EReal) : L.foldl (fun r n => r + g n) r = r + (L.map g).sum := by
  induction L generalizing r with
  | nil => simp
  | cons a L ih => rw [List.foldl_cons, ih, List.map_cons, List.sum_cons, add_assoc]

/-- A window of four entries ending at `t`, entries before the first left out, holds the entries at or below `t`. -/
theorem window_sum (f : ℕ → EReal) (t : ℕ) (ht : t < 4) :
    (∑ n ∈ Finset.range 4, if 3 ≤ t + n then f (t + n - 3) else 0) = ∑ s ∈ Finset.range 4, if s ≤ t then f s else 0 := by
  interval_cases t <;> simp [Finset.sum_range_succ]

/-- The window's shape. -/
abbrev Win : Shape := ⟨4, ![1, 4, 1, 1]⟩

/-- The window's positions in order. -/
theorem win_pos : ∀ n : Fin Win.numel, ∀ a : Fin 4, (Win.rowMajor.symm n a).val = if a = 1 then n.val else 0 := by decide +kernel

/-- The running sum of a sequence's rows at an index. -/
theorem running_at (x : FVec Ideal S128x4x4x128 .f32)
    (h : S128x4x4x128.ReduceWindows ![1, 4, 1, 1] ![1, 1, 1, 1] ![0, 3, 0, 0] ![0, 0, 0, 0] S128x4x4x128)
    (b : Fin 128) (t : Fin 4) (e : Fin 4) (k : Fin 128) :
    Ideal.hostReduceWindowAdd ![1, 4, 1, 1] ![1, 1, 1, 1] ![0, 3, 0, 0] ![0, 0, 0, 0] h x 0 (ix4 b t e k)
      = ∑ s : Fin 4, if s ≤ t then x (ix4 b s e k) else 0 := by
  let f : ℕ → EReal := fun s => if hs : s < 4 then x (ix4 b ⟨s, hs⟩ e k) else 0
  unfold Ideal.hostReduceWindowAdd Host.reduceWindow
  dsimp only
  rw [foldl_add_eq_sum, zero_add, ← List.ofFn_eq_map, List.sum_ofFn]
  have e1 : (∑ s : Fin 4, if s ≤ t then x (ix4 b s e k) else 0) = ∑ s ∈ Finset.range 4, if s ≤ t.val then f s else 0 := by
    rw [← Fin.sum_univ_eq_sum_range (fun s => if s ≤ t.val then f s else 0)]
    refine Finset.sum_congr rfl fun s _ => ?_
    show (if s.val ≤ t.val then _ else _) = if s.val ≤ t.val then (if hs : s.val < 4 then _ else _) else _
    rw [dif_pos s.isLt]
  rw [e1, ← window_sum f t.val t.isLt, ← Fin.sum_univ_eq_sum_range (fun n => if 3 ≤ t.val + n then f (t.val + n - 3) else 0)]
  show (∑ n : Fin Win.numel, _) = _
  refine Fintype.sum_equiv (finCongr (by decide : Win.numel = 4)) _ _ fun n => ?_
  have hn : n.val < 4 := n.isLt
  have p := win_pos n
  have p1 : (Win.rowMajor.symm n 1).val = n.val := p 1
  show _ = if 3 ≤ t.val + n.val then f (t.val + n.val - 3) else 0
  split
  · next hin =>
    have h1 := hin 1
    change 3 ≤ t.val * 1 + (Win.rowMajor.symm n 1).val ∧ _ at h1
    rw [p1] at h1
    rw [if_pos (by omega)]
    show _ = if hs : t.val + n.val - 3 < 4 then _ else _
    rw [dif_pos (by omega)]
    refine congrArg x (funext fun a => Fin.ext ?_)
    match a with
    | 0 => show b.val * 1 + (Win.rowMajor.symm n 0).val - 0 = b.val; rw [p 0]; simp
    | 1 => show t.val * 1 + (Win.rowMajor.symm n 1).val - 3 = t.val + n.val - 3; rw [p1]; simp
    | 2 => show e.val * 1 + (Win.rowMajor.symm n 2).val - 0 = e.val; rw [p 2]; simp
    | 3 => show k.val * 1 + (Win.rowMajor.symm n 3).val - 0 = k.val; rw [p 3]; simp
  · next hin =>
    rw [if_neg]
    intro hle
    refine hin fun a => ?_
    match a with
    | 0 => show 0 ≤ b.val * 1 + (Win.rowMajor.symm n 0).val ∧ b.val * 1 + (Win.rowMajor.symm n 0).val - 0 < 128; rw [p 0]; simp
    | 1 => show 3 ≤ t.val * 1 + (Win.rowMajor.symm n 1).val ∧ t.val * 1 + (Win.rowMajor.symm n 1).val - 3 < 4; rw [p1]; omega
    | 2 => show 0 ≤ e.val * 1 + (Win.rowMajor.symm n 2).val ∧ e.val * 1 + (Win.rowMajor.symm n 2).val - 0 < 4; rw [p 2]; simp
    | 3 => show 0 ≤ k.val * 1 + (Win.rowMajor.symm n 3).val ∧ k.val * 1 + (Win.rowMajor.symm n 3).val - 0 < 128; rw [p 3]; simp

/-- Head and column of the lower bounds. -/
theorem lane_of (h : Fin 4) (k : Fin 128) (hb : h.val * 128 + k.val < 512) : (⟨h.val * 128 + k.val, hb⟩ : Fin 512) = lane h k :=
  Fin.ext (by show h.val * 128 + k.val = 128 * h.val + k.val; omega)

/-- Head and column of the forget logits. -/
theorem forget_of (h : Fin 4) (k : Fin 128) (hb : 512 + (h.val * 128 + k.val) < 2560) : (⟨512 + (h.val * 128 + k.val), hb⟩ : Fin 2560) = column 1 h k :=
  Fin.ext (by show 512 + (h.val * 128 + k.val) = 512 * 1 + (128 * h.val + k.val); omega)

/-- The queries. -/
theorem q_at (n : Fin 128) (t : Fin 4) (h : Fin 4) (k : Fin 128) : t_v44 x l S (ix4 n t h k) = x (ix3 n t (column 0 h k)) := by
  pointwise [t_v44, t_v14]
  refine congrArg (fun j => x (ix3 n t j)) (Fin.ext ?_)
  simp only [column, Fin.val_zero]; omega

/-- The values. -/
theorem v_at (n : Fin 128) (t : Fin 4) (h : Fin 4) (k : Fin 128) : t_v46 x l S (ix4 n t h k) = x (ix3 n t (column 2 h k)) := by
  pointwise [t_v46, t_v16]
  refine congrArg (fun j => x (ix3 n t j)) (Fin.ext ?_)
  show 1024 + (h.val * 128 + k.val) = 512 * 2 + (128 * h.val + k.val); omega

/-- The keys. -/
theorem k_at (n : Fin 128) (t : Fin 4) (h : Fin 4) (k : Fin 128) :
    t_v45 x l S (ix4 n t h k) = key (low x l S (lane h k)) (x (ix3 n t (column 1 h k))) := by
  pointwise [t_v45, t_v43, t_v42, t_v41, t_v40, t_v39, t_v38, t_v37, t_v36, t_v35, t_v34, t_v33, t_v32, t_v15, t_cst_5, t_cst_6, t_cst_7]
  simp only [lane_of, forget_of, key, low, zero_sub]

/-- The log decays. -/
theorem g_at (n : Fin 128) (t : Fin 4) (h : Fin 4) (k : Fin 128) :
    t_v47 x l S (ix4 n t h k) = gate (low x l S (lane h k)) (x (ix3 n t (column 1 h k))) := by
  pointwise [t_v47, t_v31, t_v30, t_v29, t_v28, t_v27, t_v26, t_v25, t_v24, t_v23, t_v22, t_v21, t_v20, t_v19, t_v18, t_v17, t_v15, t_cst_2, t_cst_3, t_cst_4]
  simp only [lane_of, forget_of, gate, low, zero_sub]

/-- The accumulated log decays. -/
theorem cum_at (n : Fin 128) (t : Fin 4) (h : Fin 4) (k : Fin 128) :
    t_v51 x l S (ix4 n t h k) = cum (fun r e => t_v47 x l S (ix4 n r h e)) t k := by
  have e : t_call2_call0_v0 x l S (Shape.Idx.first h_S_) = (0 : EReal) := by pointwise [t_call2_call0_v0, t_call2_call0_cst]
  unfold t_v51 Host.reduceWindowAdd
  rw [e]
  exact running_at (t_v47 x l S) _ n t h k

/-- The mask keeps the rows at or below. -/
theorem mask_at : ∀ t r : Fin 4, Scalar.select (IntOp.cmpi CmpIPredicate.sge (IntOp.addi (BitVec.ofNat 32 t.val) 0#32) (BitVec.ofNat 32 r.val)) (1#1) (0#1)
    = if r ≤ t then 1#1 else 0#1 := by decide +kernel

/-- The scores. -/
theorem score_at (n : Fin 128) (t r : Fin 4) (h : Fin 4) :
    t_v65 x l S (ix4 n t r h) = score (fun t k => t_v44 x l S (ix4 n t h k)) (fun t k => t_v45 x l S (ix4 n t h k)) (fun t k => t_v51 x l S (ix4 n t h k)) t r := by
  pointwise [t_v65, t_v64, t_v63, t_v62, t_v61, t_v60, t_v59, t_v58, t_v57, t_v56, t_v55, t_v54, t_v53, t_v52, t_call3_v2, t_call3_v1, t_call3_v0,
    t_v50, t_v49, t_v48, t_call1_v5, t_call1_v4, t_call1_v3, t_call1_v2, t_call1_v1, t_call1_v0, t_call1_c, t_call1_c_0, t_c, t_cst_8, t_cst_9]
  refine Finset.sum_congr rfl fun k _ => ?_
  rw [mask_at]
  unfold wt
  split
  · rw [show ∀ a b : EReal, Scalar.select 1#1 a b = a from fun _ _ => rfl]
    rw [mul_assoc, mul_assoc, mul_comm (t_v45 x l S _)]
  · rw [show ∀ a b : EReal, Scalar.select 0#1 a b = b from fun _ _ => rfl]
    have masked : ∀ a b z c d : EReal, z = ⊥ → a * b * Ideal.exp z = c * 0 * d := by
      intro a b z c d hz
      rw [hz, Ideal.exp_bot]
      simp
    refine masked _ _ _ _ _ ?_
    show Ideal.ofBits .f32 0xFF800000#32 = ⊥
    simp [Ideal.ofBits, Ideal.ieee]

/-- The rows before normalisation. -/
theorem out_at (n : Fin 128) (t : Fin 4) (h : Fin 4) (e : Fin 128) :
    t_v72 x l S (ix4 n t h e) = out (fun t k => t_v44 x l S (ix4 n t h k)) (fun t k => t_v45 x l S (ix4 n t h k)) (fun t k => t_v46 x l S (ix4 n t h k))
      (fun t k => t_v51 x l S (ix4 n t h k)) (fun e k => S (ix4 n h k e)) t e := by
  have e0 : t_v72 x l S (ix4 n t h e) = ∑ r : Fin 4, t_v46 x l S (ix4 n r h e) * t_v65 x l S (ix4 n t r h)
      + ∑ k : Fin 128, S (ix4 n h k e) * (t_v44 x l S (ix4 n t h k) * Ideal.exp (t_v51 x l S (ix4 n t h k))) := by
    pointwise [t_v72, t_v71, t_v70, t_v69, t_v68, t_v67, t_v66]
  rw [e0]
  unfold out
  refine congrArg₂ _ (Finset.sum_congr rfl fun r _ => ?_) (Finset.sum_congr rfl fun k _ => mul_comm _ _)
  rw [score_at, mul_comm]

/-- The state after the sequence. -/
theorem next_at (n : Fin 128) (h : Fin 4) (k e : Fin 128) :
    t_v85 x l S (ix4 n h k e) = next 3 (fun t k => t_v45 x l S (ix4 n t h k)) (fun t k => t_v46 x l S (ix4 n t h k))
      (fun t k => t_v51 x l S (ix4 n t h k)) (fun e k => S (ix4 n h k e)) e k := by
  pointwise [t_v85, t_v84, t_v83, t_v82, t_v81, t_v80, t_v79, t_v78, t_v77, t_v76, t_v75, t_v74, t_v73]
  unfold next
  exact congrArg₂ _ (mul_comm _ _) (Finset.sum_congr rfl fun r _ => mul_comm _ _)

theorem queries (n : Fin 128) (h : Fin 4) : (fun t k => t_v44 x l S (ix4 n t h k)) = seqRows (rowsA x) 0 n h :=
  funext fun t => funext fun k => q_at x l S n t h k

theorem vals (n : Fin 128) (h : Fin 4) : (fun t k => t_v46 x l S (ix4 n t h k)) = seqRows (rowsA x) 2 n h :=
  funext fun t => funext fun k => v_at x l S n t h k

theorem keys_eq (n : Fin 128) (h : Fin 4) : (fun t k => t_v45 x l S (ix4 n t h k)) = keys (headLow (low x l S) h) (seqRows (rowsA x) 1 n h) :=
  funext fun t => funext fun k => k_at x l S n t h k

theorem cums (n : Fin 128) (h : Fin 4) : (fun t k => t_v51 x l S (ix4 n t h k)) = cum (gates (headLow (low x l S) h) (seqRows (rowsA x) 1 n h)) := by
  funext t k
  rw [cum_at]
  exact congrArg (fun f => cum f t k) (funext fun t => funext fun k => g_at x l S n t h k)

/-- THE STATES the reference returns. -/
theorem states_at (n : Fin 128) (h : Fin 4) (k e : Fin 128) :
    t_v85 x l S (ix4 n h k e) = layerLeft (low x l S) (rowsA x) (statesA S) n h e k := by
  rw [next_at, keys_eq, vals, cums]
  rfl

/-- The normalised rows. -/
theorem norm_at (n : Fin 128) (t : Fin 4) (h : Fin 4) (e : Fin 128) :
    t_v95 x l S (ix4 n t h e) = rmsRow (fun e => t_v72 x l S (ix4 n t h e)) e := by
  pointwise [t_v95, t_v94, t_v93, t_v92, t_v91, t_v90, t_v89, t_v88, t_v87, t_v86, t_cst_10, t_cst_11, t_cst_12, rmsRow]

theorem flat_at (n : Fin 128) (t : Fin 4) (h : Fin 4) (e : Fin 128) :
    t_v96 x l S (ix3 n t (lane h e)) = t_v95 x l S (ix4 n t h e) := by
  have e1 : ∀ p, (⟨(lane h e).val / 128, p⟩ : Fin 4) = h := fun p => Fin.ext (by show (128 * h.val + e.val) / 128 = h.val; omega)
  have e2 : ∀ p, (⟨(lane h e).val % 128, p⟩ : Fin 128) = e := fun p => Fin.ext (by show (128 * h.val + e.val) % 128 = e.val; omega)
  pointwise [t_v96]
  simp only [e1, e2]

/-- The zero the rows are padded with. -/
theorem zero_at : t_call4_v0 x l S (Shape.Idx.first h_S_) = (0 : EReal) := by
  pointwise [t_call4_v0, t_c_13]
  show (((0#32 : BitVec 32).toInt : ℝ) : EReal) = 0
  simp

/-- THE ROWS the reference returns. -/
theorem rows_at (n : Fin 128) (t : Fin 8) (h : Fin 4) (e : Fin 128) :
    t_v97 x l S (ix3 n t (lane h e)) = layer8 (low x l S) (rowsA x) (statesA S) n h t e := by
  have hp : t_v97 x l S (ix3 n t (lane h e)) = if ht : t.val < 4 then t_v96 x l S (ix3 n ⟨t.val, ht⟩ (lane h e)) else 0 := by
    rw [← zero_at x l S]
    pointwise [t_v97]
  rw [hp]
  unfold layer8 rows padded
  split
  · rw [flat_at, norm_at]
    refine congrArg (fun f => rmsRow f e) (funext fun e => ?_)
    rw [out_at, queries, keys_eq, vals, cums]
    rfl
  · rfl

end At

end Cert.Reference4Ideal.Short
-- ==== Proof.ShortTie.lean ====
/- The short recurrence and its reference over the extended reals: the same lower bounds, hence the same rows and the same states. -/
module

public import proofs.«01_k».proof.Proof.Gen.Reference4Ideal.Run
public import proofs.«01_k».proof.Proof.ShortArray
public import proofs.«01_k».proof.Proof.ShortRef

@[expose] public section

set_option maxRecDepth 16384

noncomputable section

namespace Cert.ShortTie

open Cert.Kernel4Ideal.Short Cert.Reference4Ideal.Short Cert.Short Idealize.ShloMosaic
open Cert.Hgrn (lane)

/-- The kernel's memory. -/
abbrev MemK := (ℓ : Loc Cert.Kernel4Ideal.nD Cert.Kernel4Ideal.τ Cert.Kernel4Ideal.sig) → Buf (Elt Ideal) ℓ

variable (m : MemK) (c : Dev Cert.Kernel4Ideal.nD)

/-- The projected rows the kernel is given. -/
abbrev argX : FVec Ideal Cert.Reference4Ideal.S128x4x2560 .f32 := m ((c.tc : Thread Cert.Kernel4Ideal.nD Cert.Kernel4Ideal.τ).loc Cert.Kernel4Ideal.main_arg0)
/-- The logits of the lower bounds the kernel is given. -/
abbrev argL : FVec Ideal Cert.Reference4Ideal.S2x512 .f32 := m ((c.tc : Thread Cert.Kernel4Ideal.nD Cert.Kernel4Ideal.τ).loc Cert.Kernel4Ideal.main_arg1)
/-- The states the kernel is given. -/
abbrev argS : FVec Ideal Cert.Reference4Ideal.S128x4x128x128 .f32 := m ((c.tc : Thread Cert.Kernel4Ideal.nD Cert.Kernel4Ideal.τ).loc Cert.Kernel4Ideal.main_arg2)

/-- The kernel's lower bounds are the reference's. -/
theorem low_eq : argLow m c = low (argX m c) (argL m c) (argS m c) := by
  funext j
  unfold argLow low
  unfold Cert.Kernel4Ideal.Gen.V
  after_reads_at
  pointwise [t_v13, t_v12]
  rfl

/-- THE ROWS agree. -/
theorem rows_tie : arrRows m c = t_v97 (argX m c) (argL m c) (argS m c) := by
  funext i
  obtain ⟨n, r, j, rfl⟩ : ∃ (n : Fin 128) (r : Fin 8) (j : Fin 512), i = ix3 n r j := ⟨i 0, i 1, i 2, eq_ix3 i⟩
  obtain ⟨h, e, rfl⟩ : ∃ (h : Fin 4) (e : Fin 128), j = lane h e :=
    ⟨⟨j.val / 128, by omega⟩, ⟨j.val % 128, by omega⟩, Fin.ext (by show j.val = 128 * (j.val / 128) + j.val % 128; omega)⟩
  refine (arrRows_at m c n h r e).trans ?_
  rw [low_eq]
  exact (rows_at _ _ _ n r h e).symm

/-- THE STATES agree. -/
theorem states_tie : arrStates m c = t_v85 (argX m c) (argL m c) (argS m c) := by
  funext i
  obtain ⟨n, h, k, e, rfl⟩ : ∃ (n : Fin 128) (h : Fin 4) (k e : Fin 128), i = ix4 n h k e := ⟨i 0, i 1, i 2, i 3, eq_ix4 i⟩
  refine Eq.trans ?_ (states_at _ _ _ n h k e).symm
  rw [← low_eq]
  rfl

end Cert.ShortTie

namespace Cert.Reference4Ideal.Short

open Cert.Reference4Ideal Idealize.ShloMosaic

variable (m : (ℓ : Loc nD τ sig) → Buf (Elt Ideal) ℓ) (c : Dev nD)

/-- The reference's rows are the staged rows. -/
theorem res_rows : Cert.Reference4Ideal.Value.res_out0 m c
    = t_v97 (m ((c.tc : Thread nD τ).loc main_arg0)) (m ((c.tc : Thread nD τ).loc main_arg1)) (m ((c.tc : Thread nD τ).loc main_arg2)) := by
  show Cert.Reference4Ideal.Value.res_main_v97 m c = _
  unfold Cert.Reference4Ideal.Value.res_main_v97
  rfl

/-- The reference's states are the staged states. -/
theorem res_states : Cert.Reference4Ideal.Value.res_out1 m c
    = t_v85 (m ((c.tc : Thread nD τ).loc main_arg0)) (m ((c.tc : Thread nD τ).loc main_arg1)) (m ((c.tc : Thread nD τ).loc main_arg2)) := by
  show Cert.Reference4Ideal.Value.res_main_v85 m c = _
  unfold Cert.Reference4Ideal.Value.res_main_v85
  rfl

end Cert.Reference4Ideal.Short
-- ==== Proof.TokMixAt.lean ====
/- The ideal mixing kernel's payloads read at an index, for the sampled tokens. -/
module

public import proofs.«01_k».proof.Proof.Gen.Kernel6Ideal.Value
public import proofs.«01_k».proof.Proof.MixModel
public import Idealize.ShloMosaic.Lib.Pointwise

@[expose] public section

set_option maxRecDepth 512

noncomputable section

namespace Cert.Kernel6Ideal.Mixing

open Cert.Kernel6Ideal Cert.Kernel6Ideal.Gen Cert.Norm Cert.Mix Idealize.ShloMosaic

/-- The kernel's activation of one entry. -/
def act (x : EReal) : EReal :=
  Ideal.div x (one + Ideal.exp (x * (Ideal.ofBits .f32 0xBFCC422A#32 + Named.named (F := Ideal) κ "gelu_cub" (φ := .f32) 0xBD922279#32 * (x * x))))

theorem pay1_at (gate o : Vec Ideal S512x512 .f32) (g : Vec Ideal S1x512 .f32) (r k : Fin 512) :
    k0_pay1 gate o g (ix2 r k) = gated (o (ix2 r k)) (g (ix2 0 k)) (gate (ix2 r k)) := by
  pointwise [k0_pay1, gated, logi]
  rw [zero_sub]

theorem pay2_at (y : Vec Ideal S512x512 .f32) (r k : Fin 512) : k0_pay2 y (ix2 r k) = act (y (ix2 r k)) := by
  pointwise [k0_pay2, act]

theorem pay3_at (y : Vec Ideal S512x512 .f32) (w : Vec Ideal S512x512 .bf16) (b : Vec Ideal S1x512 .f32) (r k : Fin 512) :
    k0_pay3 y w b (ix2 r k) = Ideal.exp (-((∑ l : Fin 512, act (y (ix2 r l)) * w (ix2 l k)) + b (ix2 0 k))) := by
  pointwise [k0_pay3, pay2_at]
  rw [zero_sub]

theorem pay4_at (r k : Fin 512) : k0_pay4 (F := Ideal) (ix2 r k) = one := rfl

/-- The rows a block's store holds. -/
theorem pay5_at (h z e f : FVec Ideal S512x512 .f32) (u v : Vec Ideal S512x1024 .bf16) (x : Vec Ideal S512x1024 .f32) (g b : Vec Ideal S1x1024 .f32)
    (r : Fin 512) (j : Fin 1024) :
    k0_pay5 h z e f u v x g b (ix2 r j)
      = norm (fun j => before (x (ix2 r j)) (fun k => h (ix2 r k)) (fun k => z (ix2 r k) * Ideal.div one (f (ix2 r k) + e (ix2 r k)))
          (fun k => u (ix2 k j)) (fun k => v (ix2 k j))) (fun k => g (ix2 0 k)) (fun k => b (ix2 0 k)) j := by
  pointwise [k0_pay5]
  rfl

end Cert.Kernel6Ideal.Mixing
-- ==== Proof.TokMixArray.lean ====
/- The ideal mixing kernel's result array: the mixed and normed rows, for the sampled tokens. -/
module

public import proofs.«01_k».proof.Proof.TokMixAt
public import Idealize.ShloMosaic.Lib.Pipeline.ValueKit
public import Idealize.ShloMosaic.Lib.StableHlo.ReadAt
public import Idealize.ShloMosaic.Lib.Tactic.CleanTypes

@[expose] public section

set_option maxRecDepth 512

noncomputable section

namespace Cert.Kernel6Ideal.Mixing

open Cert.Kernel6Ideal Cert.Kernel6Ideal.Gen Cert.Norm Cert.Mix Idealize.ShloMosaic

/-- Row `i` of the mixing of whole arrays. -/
def row (f : EReal → EReal) (x : FVec Ideal S512x1024 .f32) (o : FVec Ideal S512x512 .f32) (p : FVec Ideal S512x2560 .f32)
    (y : FVec Ideal S512x512 .f32) (g : FVec Ideal S1x512 .f32) (wg : FVec Ideal S1x512x512 .f32) (bg : FVec Ideal S1x512 .f32)
    (w : FVec Ideal S1x1024x1024 .f32) (lg lb : FVec Ideal S1x1024 .f32) (i : Fin 512) : Fin 1024 → EReal :=
  mixed f (fun k => x (ix2 i k)) (fun k => o (ix2 i k)) (fun k => p (ix2 i ⟨1536 + k.val, by omega⟩)) (fun k => y (ix2 i k)) (fun k => g (ix2 0 k))
    (fun l k => wg (ix3 0 l k)) (fun k => bg (ix2 0 k)) (fun k j => w (ix3 0 ⟨k.val, by omega⟩ j)) (fun k j => w (ix3 0 ⟨512 + k.val, by omega⟩ j))
    (fun k => lg (ix2 0 k)) (fun k => lb (ix2 0 k))

variable (m : (ℓ : Loc nD τ sig) → Buf (Elt Ideal) ℓ) (c : Dev nD)

/-- The arguments: the skipped rows, the first group's rows, the projection, the second group's rows, the first group's gain, the linear
    unit's weights and bias, the output weights, the norm's gain and shift. -/
abbrev argX : FVec Ideal S512x1024 .f32 := m ((c.tc : Thread nD τ).loc main_arg0)
abbrev argO : FVec Ideal S512x512 .f32 := m ((c.tc : Thread nD τ).loc main_arg1)
abbrev argP : FVec Ideal S512x2560 .f32 := m ((c.tc : Thread nD τ).loc main_arg2)
abbrev argY : FVec Ideal S512x512 .f32 := m ((c.tc : Thread nD τ).loc main_arg3)
abbrev argG : FVec Ideal S1x512 .f32 := m ((c.tc : Thread nD τ).loc main_arg4)
abbrev argWg : FVec Ideal S1x512x512 .f32 := m ((c.tc : Thread nD τ).loc main_arg5)
abbrev argBg : FVec Ideal S1x512 .f32 := m ((c.tc : Thread nD τ).loc main_arg6)
abbrev argW : FVec Ideal S1x1024x1024 .f32 := m ((c.tc : Thread nD τ).loc main_arg7)
abbrev argLg : FVec Ideal S1x1024 .f32 := m ((c.tc : Thread nD τ).loc main_arg8)
abbrev argLb : FVec Ideal S1x1024 .f32 := m ((c.tc : Thread nD τ).loc main_arg9)

/-- What the host hands the kernel, at an index. -/
theorem hostG (k : Fin 512) : (V m c main_v12 : FVec Ideal S1x512 .f32) (ix2 0 k) = argG m c (ix2 0 k) := by
  unfold V
  after_reads_at

theorem hostWg (l k : Fin 512) : (V m c main_v1 : FVec Ideal S512x512 .bf16) (ix2 l k) = argWg m c (ix3 0 l k) := by
  unfold V
  after_reads_at

theorem hostBg (k : Fin 512) : (V m c main_v13 : FVec Ideal S1x512 .f32) (ix2 0 k) = argBg m c (ix2 0 k) := by
  unfold V
  after_reads_at

theorem hostU (k : Fin 512) (j : Fin 1024) :
    (V m c main_v4 : FVec Ideal S512x1024 .bf16) (ix2 k j) = argW m c (ix3 0 ⟨k.val, by omega⟩ j) := by
  unfold V
  after_reads_at

theorem hostV (k : Fin 512) (j : Fin 1024) :
    (V m c main_v7 : FVec Ideal S512x1024 .bf16) (ix2 k j) = argW m c (ix3 0 ⟨512 + k.val, by omega⟩ j) := by
  unfold V
  after_reads_at

theorem hostLg (k : Fin 1024) : (V m c main_v14 : FVec Ideal S1x1024 .f32) (ix2 0 k) = argLg m c (ix2 0 k) := by
  unfold V
  after_reads_at

theorem hostLb (k : Fin 1024) : (V m c main_v15 : FVec Ideal S1x1024 .f32) (ix2 0 k) = argLb m c (ix2 0 k) := by
  unfold V
  after_reads_at

/-- The windows' places, over the grid. -/
theorem places : ∀ t : Fin grid0.N,
    win0_0.index t = ![(grid0.coords t 0).val, 0] ∧ win0_1.index t = ![(grid0.coords t 0).val, 0] ∧ win0_2.index t = ![(grid0.coords t 0).val, 3]
    ∧ win0_3.index t = ![(grid0.coords t 0).val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![(grid0.coords t 0).val, 0] := by
  decide +kernel

theorem zeros : (![0, 0] : Fin 2 → Nat) = fun _ => 0 := by decide

/-- Row `r` of grid point `t`'s block, among all rows. -/
def rowOf (t : Fin grid0.N) (r : Fin 512) : Fin 512 :=
  ⟨512 * (grid0.coords t 0).val + r.val, by have h : (grid0.coords t 0).val < 1 := (grid0.coords t 0).isLt; omega⟩

theorem block0 (t : Fin grid0.N) (r : Fin 512) (k : Fin 1024) : iblk m c 0 t (ix2 r k) = argX m c (ix2 (rowOf t r) k) := by
  obtain ⟨h0, h1, h2, h3, h4, h5, h6, h7, h8, h9, h10, h11⟩ := places t
  refine Eq.trans ?_ (congrFun (V_main_arg0 m c) ((ix2 (rowOf t r) k)))
  blk_ext [iblk, h0, rowOf]

theorem block1 (t : Fin grid0.N) (r k : Fin 512) : iblk m c 1 t (ix2 r k) = argO m c (ix2 (rowOf t r) k) := by
  obtain ⟨h0, h1, h2, h3, h4, h5, h6, h7, h8, h9, h10, h11⟩ := places t
  refine Eq.trans ?_ (congrFun (V_main_arg1 m c) ((ix2 (rowOf t r) k)))
  blk_ext [iblk, h1, rowOf]

theorem block2 (t : Fin grid0.N) (r k : Fin 512) : iblk m c 2 t (ix2 r k) = argP m c (ix2 (rowOf t r) ⟨1536 + k.val, by omega⟩) := by
  obtain ⟨h0, h1, h2, h3, h4, h5, h6, h7, h8, h9, h10, h11⟩ := places t
  refine Eq.trans ?_ (congrFun (V_main_arg2 m c) ((ix2 (rowOf t r) ⟨1536 + k.val, by omega⟩)))
  blk_ext [iblk, h2, rowOf]

theorem block3 (t : Fin grid0.N) (r k : Fin 512) : iblk m c 3 t (ix2 r k) = argY m c (ix2 (rowOf t r) k) := by
  obtain ⟨h0, h1, h2, h3, h4, h5, h6, h7, h8, h9, h10, h11⟩ := places t
  refine Eq.trans ?_ (congrFun (V_main_arg3 m c) ((ix2 (rowOf t r) k)))
  blk_ext [iblk, h3, rowOf]

theorem block4 (t : Fin grid0.N) (k : Fin 512) : iblk m c 4 t (ix2 (0 : Fin 1) k) = argG m c (ix2 0 k) := by
  obtain ⟨h0, h1, h2, h3, h4, h5, h6, h7, h8, h9, h10, h11⟩ := places t
  refine Eq.trans ?_ (hostG m c k)
  blk_ext [iblk, h4]

theorem block5 (t : Fin grid0.N) (l k : Fin 512) : iblk m c 5 t (ix2 l k) = argWg m c (ix3 0 l k) := by
  obtain ⟨h0, h1, h2, h3, h4, h5, h6, h7, h8, h9, h10, h11⟩ := places t
  refine Eq.trans ?_ (hostWg m c l k)
  blk_ext [iblk, h5]

theorem block6 (t : Fin grid0.N) (k : Fin 512) : iblk m c 6 t (ix2 (0 : Fin 1) k) = argBg m c (ix2 0 k) := by
  obtain ⟨h0, h1, h2, h3, h4, h5, h6, h7, h8, h9, h10, h11⟩ := places t
  refine Eq.trans ?_ (hostBg m c k)
  blk_ext [iblk, h6]

theorem block7 (t : Fin grid0.N) (k : Fin 512) (j : Fin 1024) : iblk m c 7 t (ix2 k j) = argW m c (ix3 0 ⟨k.val, by omega⟩ j) := by
  obtain ⟨h0, h1, h2, h3, h4, h5, h6, h7, h8, h9, h10, h11⟩ := places t
  refine Eq.trans ?_ (hostU m c k j)
  blk_ext [iblk, h7]

theorem block8 (t : Fin grid0.N) (k : Fin 512) (j : Fin 1024) : iblk m c 8 t (ix2 k j) = argW m c (ix3 0 ⟨512 + k.val, by omega⟩ j) := by
  obtain ⟨h0, h1, h2, h3, h4, h5, h6, h7, h8, h9, h10, h11⟩ := places t
  refine Eq.trans ?_ (hostV m c k j)
  blk_ext [iblk, h8]

theorem block9 (t : Fin grid0.N) (k : Fin 1024) : iblk m c 9 t (ix2 (0 : Fin 1) k) = argLg m c (ix2 0 k) := by
  obtain ⟨h0, h1, h2, h3, h4, h5, h6, h7, h8, h9, h10, h11⟩ := places t
  refine Eq.trans ?_ (hostLg m c k)
  blk_ext [iblk, h9]

theorem block10 (t : Fin grid0.N) (k : Fin 1024) : iblk m c 10 t (ix2 (0 : Fin 1) k) = argLb m c (ix2 0 k) := by
  obtain ⟨h0, h1, h2, h3, h4, h5, h6, h7, h8, h9, h10, h11⟩ := places t
  refine Eq.trans ?_ (hostLb m c k)
  blk_ext [iblk, h10]

/-- The rows of the result. -/
def arrMix : FVec Ideal S512x1024 .f32 := fun i =>
  row act (argX m c) (argO m c) (argP m c) (argY m c) (argG m c) (argWg m c) (argBg m c) (argW m c) (argLg m c) (argLb m c) (i 0) (i 1)

/-- THE ROWS the kernel leaves. -/
theorem mix_eq : (dats m 0 c).arrAt 11 cfg0.N = arrMix m c := by
  refine (dats m 0 c).arrAt_eq_of_covers 11 _ (by decide +kernel) fun t hf y => ?_
  blk_simp
  rw [after0_11]
  obtain ⟨h0, h1, h2, h3, h4, h5, h6, h7, h8, h9, h10, h11⟩ := places t
  obtain ⟨r, j, rfl⟩ : ∃ (r : Fin 512) (j : Fin 1024), y = ix2 r j := ⟨y 0, y 1, eq_ix2 y⟩
  have hp : (win0_11.blk t).view.emb (ix2 r j) = ix2 (rowOf t r) j := by
    blk_ext [h11, rowOf]
  rw [hp]
  unfold out0_11
  rw [View.canon_unit_zero zeros]
  rw [View.ld_unit_zero zeros, View.ld_unit_zero zeros, View.ld_unit_zero zeros, View.ld_unit_zero zeros, View.ld_unit_zero zeros, View.ld_unit_zero zeros,
    View.ld_unit_zero zeros, View.ld_unit_zero zeros, View.ld_unit_zero zeros, View.ld_unit_zero zeros, View.ld_unit_zero zeros]
  refine (pay5_at _ _ _ _ _ _ _ _ _ r j).trans ?_
  simp only [pay1_at, pay2_at, pay3_at, pay4_at, block0, block1, block2, block3, block4, block5, block6, block7, block8, block9, block10]
  show _ = row act (argX m c) (argO m c) (argP m c) (argY m c) (argG m c) (argWg m c) (argBg m c) (argW m c) (argLg m c) (argLb m c) (rowOf t r) j
  unfold row mixed unit logi
  rfl

end Cert.Kernel6Ideal.Mixing
-- ==== Proof.TokMixTie.lean ====
/- The reference's mixing: the same rows, its activation spelt by the hyperbolic tangent; so the kernel's rows are the reference's, for the sampled tokens. -/
module

public import proofs.«01_k».proof.Proof.TokMixArray
public import proofs.«01_k».proof.Proof.Gelu
public import proofs.«01_k».proof.Proof.Gen.Reference6Ideal.Run
public import Idealize.ShloMosaic.Lib.Pointwise

@[expose] public section

set_option maxRecDepth 512

noncomputable section

namespace Cert.Reference6Ideal.Mixing

open Cert.Reference6Ideal Cert.Reference6Ideal.Gen Cert.Norm Cert.Mix Idealize.ShloMosaic

/-- The reference's activation of one entry. -/
def act (x : EReal) : EReal :=
  x * (Ideal.ofBits .f32 0x3F000000#32 * (one + Ideal.tanh (Ideal.ofBits .f32 0x3F4C422A#32 * (x + Ideal.ofBits .f32 0x3D372713#32 * (x * x * x)))))

theorem one_eq : one = 1 := by
  simp [one, Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem root_eq : Ideal.ofBits .f32 0x3F4C422A#32 = ((6693141 / 8388608 : ℝ) : EReal) := by
  simp [Ideal.ofBits, Ideal.ieee, -EReal.coe_mul]; norm_num

theorem cube_eq : Ideal.ofBits .f32 0x3D372713#32 = ((12003091 / 268435456 : ℝ) : EReal) := by
  simp [Ideal.ofBits, Ideal.ieee, -EReal.coe_mul]; norm_num

theorem twice_eq : Ideal.ofBits .f32 0xBFCC422A#32 = ((-2 * (6693141 / 8388608) : ℝ) : EReal) := by
  simp [Ideal.ofBits, Ideal.ieee, -EReal.coe_mul]; norm_num

theorem named_eq : Named.named (F := Ideal) Cert.Kernel6Ideal.κ "gelu_cub" (φ := .f32) 0xBD922279#32
    = ((-2 * (6693141 / 8388608) * (12003091 / 268435456) : ℝ) : EReal) := by
  refine (IdealRules.named_const.ideal_named_scalar _ _ _ ((-80338380498831 / 1125899906842624 : ℝ) : EReal) rfl).trans ?_
  norm_num

/-- The two activations are one function. -/
theorem act_eq : Cert.Kernel6Ideal.Mixing.act = act := by
  funext x
  have h := Cert.Gelu.byExp_eq (s := 6693141 / 8388608) (c := 12003091 / 268435456) (by norm_num) (by norm_num) x
  unfold Cert.Gelu.byExp Cert.Gelu.byTanh at h
  unfold Cert.Kernel6Ideal.Mixing.act act
  rw [one_eq, half_eq, root_eq, cube_eq, twice_eq, named_eq]
  exact h

variable (x : FVec Ideal S512x1024 .f32) (o : FVec Ideal S512x512 .f32) (p : FVec Ideal S512x2560 .f32) (y : FVec Ideal S512x512 .f32) (g : FVec Ideal S1x512 .f32) (wg : FVec Ideal S1x512x512 .f32) (bg : FVec Ideal S1x512 .f32) (w : FVec Ideal S1x1024x1024 .f32) (lg : FVec Ideal S1x1024 .f32) (lb : FVec Ideal S1x1024 .f32)

/-- The first group: the normed rows, their gain, and the gate. -/
def gate : FVec Ideal S512x512 .f32 := extractStridedSlice S512x512 ![0, 1536] p slices_S512x2560_S512x512_0_1536
def ones : FVec Ideal S512x512 .f32 := broadcastInDim S512x512 ![] bcast_S_S512x512 (constant S_ .f32 0x3F800000#32)
def logis (z : FVec Ideal S512x512 .f32) : FVec Ideal S512x512 .f32 := Host.divf ones (addf ones (Host.exp (Host.negf z)))
def gateds : FVec Ideal S512x512 .f32 :=
  mulf (mulf o (broadcastInDim S512x512 ![0, 1] bcast_S1x512_S512x512_0_1 (broadcastInDim S1x512 ![1] bcast_S512_S1x512_1 (shapeCast _ g shapeCasts_S1x512_S512))))
    (mulf (gate p) (logis (gate p)))

/-- The second group: the activation and its linear unit. -/
def acts : FVec Ideal S512x512 .f32 :=
  mulf y (mulf (broadcastInDim S512x512 ![] bcast_S_S512x512 (constant S_ .f32 0x3F000000#32)) (addf ones
    (Host.tanh (mulf (broadcastInDim S512x512 ![] bcast_S_S512x512 (constant S_ .f32 0x3F4C422A#32))
      (addf y (mulf (broadcastInDim S512x512 ![] bcast_S_S512x512 (constant S_ .f32 0x3D372713#32)) (mulf (mulf y y) y)))))))
def units : FVec Ideal S512x512 .f32 :=
  mulf (acts y) (logis (addf (Host.dotGeneral dot_S512x512_S512x512_S512x512_1_0_0_1_n_n none (acts y) (shapeCast _ wg shapeCasts_S1x512x512_S512x512))
    (broadcastInDim S512x512 ![0, 1] bcast_S1x512_S512x512_0_1 (broadcastInDim S1x512 ![1] bcast_S512_S1x512_1 (shapeCast _ bg shapeCasts_S1x512_S512)))))

/-- The two groups side by side, and the rows before the norm. -/
def sides : FVec Ideal S512x1024 .f32 :=
  concatenate S512x1024 1 [⟨S512x512, gateds o p g⟩, ⟨S512x512, units y wg bg⟩] concatenates_S512x512_S512x512_S512x1024_d1
def sums (s : FVec Ideal S512x1024 .f32) : FVec Ideal S512x1024 .f32 :=
  addf (mulf (broadcastInDim S512x1024 ![] bcast_S_S512x1024 (constant S_ .f32 0x3F9837F0#32)) x)
    (Host.dotGeneral dot_S512x1024_S1024x1024_S512x1024_1_0_0_1_n_n none s (shapeCast _ w shapeCasts_S1x1024x1024_S1024x1024))

/-- The norm. -/
def col : FVec Ideal S512x1 .f32 :=
  Host.divf (broadcastInDim S512x1 ![0] bcast_S512_S512x1_0 (Host.reduceAdd x (constant S_ .f32 0x00000000#32) reducesTo_S512x1024_S512_d1 h_S_))
    (broadcastInDim S512x1 ![] bcast_S_S512x1 (constant S_ .f32 0x44800000#32))
def less : FVec Ideal S512x1024 .f32 := subf x (broadcastInDim S512x1024 ![0, 1] bcast_S512x1_S512x1024_0_1 (col x))
def rows : FVec Ideal S512x1024 .f32 :=
  addf (mulf (mulf (less x) (broadcastInDim S512x1024 ![0, 1] bcast_S512x1_S512x1024_0_1
      (Host.rsqrt (addf (col (mulf (less x) (less x))) (broadcastInDim S512x1 ![] bcast_S_S512x1 (constant S_ .f32 0x3727C5AC#32))))))
    (broadcastInDim S512x1024 ![0, 1] bcast_S1x1024_S512x1024_0_1 (broadcastInDim S1x1024 ![1] bcast_S1024_S1x1024_1 (shapeCast _ lg shapeCasts_S1x1024_S1024))))
    (broadcastInDim S512x1024 ![0, 1] bcast_S1x1024_S512x1024_0_1 (broadcastInDim S1x1024 ![1] bcast_S1024_S1x1024_1 (shapeCast _ lb shapeCasts_S1x1024_S1024)))

theorem gate_at (i : Fin 512) (k : Fin 512) : gate p (ix2 i k) = p (ix2 i ⟨1536 + k.val, by omega⟩) := by
  pointwise [gate]

theorem logis_at (z : FVec Ideal S512x512 .f32) (i : Fin 512) (k : Fin 512) : logis z (ix2 i k) = logi (z (ix2 i k)) := by
  pointwise [logis, ones, logi]

theorem gateds_at (i : Fin 512) (k : Fin 512) :
    gateds o p g (ix2 i k) = gated (o (ix2 i k)) (g (ix2 0 k)) (p (ix2 i ⟨1536 + k.val, by omega⟩)) := by
  pointwise [gateds, gated, gate_at, logis_at]

theorem acts_at (i : Fin 512) (k : Fin 512) : acts y (ix2 i k) = act (y (ix2 i k)) := by
  pointwise [acts, act, ones]

theorem units_at (i : Fin 512) (k : Fin 512) :
    units y wg bg (ix2 i k) = unit (fun l => act (y (ix2 i l))) (fun l => wg (ix3 0 l k)) (bg (ix2 0 k)) (act (y (ix2 i k))) := by
  pointwise [units, unit, acts_at, logis_at]

theorem sides_left (i : Fin 512) (k : Fin 512) : sides o p y g wg bg (ix2 i ⟨k.val, by omega⟩) = gateds o p g (ix2 i k) := by
  unfold sides
  pointwise

theorem sides_right (i : Fin 512) (k : Fin 512) : sides o p y g wg bg (ix2 i ⟨512 + k.val, by omega⟩) = units y wg bg (ix2 i k) := by
  unfold sides
  pointwise

/-- A sum over the two groups' entries is the two groups' sums. -/
theorem sum_sides (f : Fin 1024 → EReal) : ∑ k, f k = (∑ k : Fin 512, f ⟨k.val, by omega⟩) + ∑ k : Fin 512, f ⟨512 + k.val, by omega⟩ :=
  Fin.sum_univ_add (a := 512) (b := 512) f

theorem sums_at (s : FVec Ideal S512x1024 .f32) (i : Fin 512) (j : Fin 1024) :
    sums x w s (ix2 i j) = before (x (ix2 i j)) (fun k => s (ix2 i ⟨k.val, by omega⟩)) (fun k => s (ix2 i ⟨512 + k.val, by omega⟩))
      (fun k => w (ix3 0 ⟨k.val, by omega⟩ j)) (fun k => w (ix3 0 ⟨512 + k.val, by omega⟩ j)) := by
  have h : sums x w s (ix2 i j) = Ideal.ofBits .f32 0x3F9837F0#32 * x (ix2 i j) + ∑ k : Fin 1024, s (ix2 i k) * w (ix3 0 k j) := by
    pointwise [sums]
  rw [h, sum_sides]
  rfl

theorem col_at (i : Fin 512) : col x (ix2 i 0) = mean (fun k => x (ix2 i k)) := by
  pointwise [col]
  rfl

theorem less_at (i : Fin 512) (k : Fin 1024) : less x (ix2 i k) = centred (fun k => x (ix2 i k)) k := by
  pointwise [less, col_at]
  rfl

theorem rows_at (i : Fin 512) (j : Fin 1024) :
    rows x lg lb (ix2 i j) = norm (fun k => x (ix2 i k)) (fun k => lg (ix2 0 k)) (fun k => lb (ix2 0 k)) j := by
  pointwise [rows, col_at, less_at]
  rfl

/-- The rows of the result, of the arguments. -/
def refMix : FVec Ideal S512x1024 .f32 := fun i => Cert.Kernel6Ideal.Mixing.row act x o p y g wg bg w lg lb (i 0) (i 1)

theorem refMix_eq : rows (sums x w (sides o p y g wg bg)) lg lb = refMix x o p y g wg bg w lg lb := by
  funext z
  obtain ⟨i, j, rfl⟩ : ∃ (i : Fin 512) (j : Fin 1024), z = ix2 i j := ⟨z 0, z 1, eq_ix2 z⟩
  show _ = Cert.Kernel6Ideal.Mixing.row act x o p y g wg bg w lg lb i j
  rw [rows_at]
  simp only [sums_at, sides_left, sides_right, gateds_at, units_at]
  rfl

/-- The reference's result is these rows. -/
theorem res_eq (m : (ℓ : Loc nD τ sig) → Buf (Elt Ideal) ℓ) (c : Dev nD) :
    Cert.Reference6Ideal.Value.res_out0 m c
      = refMix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show Cert.Reference6Ideal.Value.res_main_v64 m c = _
  refine Eq.trans ?_ (refMix_eq _ _ _ _ _ _ _ _ _ _)
  unfold Cert.Reference6Ideal.Value.res_main_v64
  rfl

end Cert.Reference6Ideal.Mixing
-- ==== Proof.TokProjAt.lean ====
/- The ideal input projection's payloads and its reference read at an index, for the sampled and the meta tokens. -/
module

public import proofs.«01_k».proof.Proof.Gen.Kernel7Ideal.Value
public import proofs.«01_k».proof.Proof.Gen.Reference7Ideal.Run
public import proofs.«01_k».proof.Proof.RowNorm
public import Idealize.ShloMosaic.Lib.Pointwise

@[expose] public section

set_option maxRecDepth 16384

noncomputable section

namespace Cert.Kernel7Ideal.Proj

open Cert.Kernel7Ideal Cert.Kernel7Ideal.Gen Cert.Norm Idealize.ShloMosaic

/-- The normed row a block's first store holds. -/
theorem pay1_at (x : Vec Ideal S264x1024 .f32) (g b : Vec Ideal S1x1024 .f32) (r : Fin 264) (j : Fin 1024) :
    k0_pay1 x g b (ix2 r j) = norm (fun k => x (ix2 r k)) (fun k => g (ix2 0 k)) (fun k => b (ix2 0 k)) j := by
  pointwise [k0_pay1]
  rfl

/-- The projected row a block's second store holds. -/
theorem pay2_at (x : Vec Ideal S264x1024 .f32) (g b : Vec Ideal S1x1024 .f32) (w : Vec Ideal S1024x2560 .bf16) (bi : Vec Ideal S1x2560 .f32)
    (r : Fin 264) (j : Fin 2560) :
    k0_pay2 x g b w bi (ix2 r j)
      = (∑ k : Fin 1024, norm (fun k => x (ix2 r k)) (fun k => g (ix2 0 k)) (fun k => b (ix2 0 k)) k * w (ix2 k j)) + bi (ix2 0 j) := by
  pointwise [k0_pay2, pay1_at]

end Cert.Kernel7Ideal.Proj
-- ==== Proof.TokProjArray.lean ====
/- The ideal input projection's two result arrays and its reference's: the normed rows, and their products with the weights, for the sampled and the meta tokens. -/
module

public import proofs.«01_k».proof.Proof.TokProjAt
public import Idealize.ShloMosaic.Lib.Pipeline.ValueKit
public import Idealize.ShloMosaic.Lib.StableHlo.ReadAt
public import Idealize.ShloMosaic.Lib.Tactic.CleanTypes

@[expose] public section

set_option maxRecDepth 528

noncomputable section

namespace Cert.TokProj

open Cert.Norm Idealize.ShloMosaic

/-- Row `i` of the sampled tokens' rows, one sequence after the other, and the meta tokens' after them. -/
def token (x : FVec Ideal Cert.Kernel7Ideal.S128x4x1024 .f32) (e : FVec Ideal Cert.Kernel7Ideal.S16x1024 .f32) (i : Fin 528) (k : Fin 1024) : EReal :=
  if h : i.val < 512 then x (ix3 ⟨i.val / 4, by omega⟩ ⟨i.val % 4, by omega⟩ k) else e (ix2 ⟨i.val - 512, by omega⟩ k)

/-- Entry `j` of the layer norm of row `i`. -/
def normed (x : FVec Ideal Cert.Kernel7Ideal.S128x4x1024 .f32) (e : FVec Ideal Cert.Kernel7Ideal.S16x1024 .f32) (g b : FVec Ideal Cert.Kernel7Ideal.S1024 .f32) (i : Fin 528) (j : Fin 1024) : EReal :=
  norm (token x e i) (fun k => g (ix1 k)) (fun k => b (ix1 k)) j

/-- Entry `j` of the projection of row `i`. -/
def projected (x : FVec Ideal Cert.Kernel7Ideal.S128x4x1024 .f32) (e : FVec Ideal Cert.Kernel7Ideal.S16x1024 .f32) (g b : FVec Ideal Cert.Kernel7Ideal.S1024 .f32)
    (w : FVec Ideal Cert.Kernel7Ideal.S1x1024x2560 .f32) (bi : FVec Ideal Cert.Kernel7Ideal.S1x2560 .f32) (i : Fin 528) (j : Fin 2560) : EReal :=
  (∑ k : Fin 1024, normed x e g b i k * w (ix3 0 k j)) + bi (ix2 0 j)

end Cert.TokProj

namespace Cert.Kernel7Ideal.Proj

open Cert.Kernel7Ideal Cert.Kernel7Ideal.Gen Cert.Norm Cert.TokProj Idealize.ShloMosaic

variable (m : (ℓ : Loc nD τ sig) → Buf (Elt Ideal) ℓ) (c : Dev nD)

/-- The arguments: the sampled rows, the meta rows, gain, shift, weights, bias. -/
abbrev argX : FVec Ideal S128x4x1024 .f32 := m ((c.tc : Thread nD τ).loc main_arg0)
abbrev argE : FVec Ideal S16x1024 .f32 := m ((c.tc : Thread nD τ).loc main_arg1)
abbrev argG : FVec Ideal S1024 .f32 := m ((c.tc : Thread nD τ).loc main_arg2)
abbrev argB : FVec Ideal S1024 .f32 := m ((c.tc : Thread nD τ).loc main_arg3)
abbrev argW : FVec Ideal S1x1024x2560 .f32 := m ((c.tc : Thread nD τ).loc main_arg4)
abbrev argBi : FVec Ideal S1x2560 .f32 := m ((c.tc : Thread nD τ).loc main_arg5)

/-- What the host hands the kernel, at an index. -/
theorem hostX (i : Fin 528) (k : Fin 1024) : (V m c main_v3 : FVec Ideal S528x1024 .f32) (ix2 i k) = token (argX m c) (argE m c) i k := by
  unfold V
  after_reads_at
  rfl

theorem hostG (k : Fin 1024) : (V m c main_v5 : FVec Ideal S1x1024 .f32) (ix2 0 k) = argG m c (ix1 k) := by
  unfold V
  after_reads_at

theorem hostB (k : Fin 1024) : (V m c main_v6 : FVec Ideal S1x1024 .f32) (ix2 0 k) = argB m c (ix1 k) := by
  unfold V
  after_reads_at

theorem hostW (k : Fin 1024) (j : Fin 2560) : (V m c main_v2 : FVec Ideal S1024x2560 .bf16) (ix2 k j) = argW m c (ix3 0 k j) := by
  unfold V
  after_reads_at

theorem hostBi (j : Fin 2560) : (V m c main_v7 : FVec Ideal S1x2560 .f32) (ix2 0 j) = argBi m c (ix2 0 j) := by
  unfold V
  after_reads_at

theorem zeros : (![0, 0] : Fin 2 → Nat) = fun _ => 0 := by decide

/-- The windows' places, over the grid. -/
theorem places : ∀ t : Fin grid0.N,
    win0_0.index t = ![(grid0.coords t 0).val, 0] ∧ win0_1.index t = ![0, 0] ∧ win0_2.index t = ![0, 0] ∧ win0_3.index t = ![0, 0]
    ∧ win0_4.index t = ![0, 0] ∧ win0_5.index t = ![(grid0.coords t 0).val, 0] ∧ win0_6.index t = ![(grid0.coords t 0).val, 0] := by
  decide +kernel

/-- Row `r` of grid point `t`'s block, among all rows. -/
def rowOf (t : Fin grid0.N) (r : Fin 264) : Fin 528 :=
  ⟨264 * (grid0.coords t 0).val + r.val, by have h : (grid0.coords t 0).val < 2 := (grid0.coords t 0).isLt; omega⟩

theorem block0 (t : Fin grid0.N) (r : Fin 264) (k : Fin 1024) : iblk m c 0 t (ix2 r k) = token (argX m c) (argE m c) (rowOf t r) k := by
  obtain ⟨h0, h1, h2, h3, h4, h5, h6⟩ := places t
  refine Eq.trans ?_ (hostX m c (rowOf t r) k)
  blk_ext [iblk, h0, rowOf]

theorem block1 (t : Fin grid0.N) (k : Fin 1024) : iblk m c 1 t (ix2 (0 : Fin 1) k) = argG m c (ix1 k) := by
  obtain ⟨h0, h1, h2, h3, h4, h5, h6⟩ := places t
  refine Eq.trans ?_ (hostG m c k)
  blk_ext [iblk, h1]

theorem block2 (t : Fin grid0.N) (k : Fin 1024) : iblk m c 2 t (ix2 (0 : Fin 1) k) = argB m c (ix1 k) := by
  obtain ⟨h0, h1, h2, h3, h4, h5, h6⟩ := places t
  refine Eq.trans ?_ (hostB m c k)
  blk_ext [iblk, h2]

theorem block3 (t : Fin grid0.N) (k : Fin 1024) (j : Fin 2560) : iblk m c 3 t (ix2 k j) = argW m c (ix3 0 k j) := by
  obtain ⟨h0, h1, h2, h3, h4, h5, h6⟩ := places t
  refine Eq.trans ?_ (hostW m c k j)
  blk_ext [iblk, h3]

theorem block4 (t : Fin grid0.N) (j : Fin 2560) : iblk m c 4 t (ix2 (0 : Fin 1) j) = argBi m c (ix2 0 j) := by
  obtain ⟨h0, h1, h2, h3, h4, h5, h6⟩ := places t
  refine Eq.trans ?_ (hostBi m c j)
  blk_ext [iblk, h4]

/-- The normed rows. -/
def arrNorm : FVec Ideal S528x1024 .f32 := fun i => normed (argX m c) (argE m c) (argG m c) (argB m c) (i 0) (i 1)
/-- The projected rows. -/
def arrProj : FVec Ideal S528x2560 .f32 := fun i => projected (argX m c) (argE m c) (argG m c) (argB m c) (argW m c) (argBi m c) (i 0) (i 1)

/-- THE NORMED ROWS the kernel leaves. -/
theorem norm_eq : (dats m 0 c).arrAt 5 cfg0.N = arrNorm m c := by
  refine (dats m 0 c).arrAt_eq_of_covers 5 _ (by decide +kernel) fun t hf y => ?_
  blk_simp
  rw [after0_5]
  obtain ⟨h0, h1, h2, h3, h4, h5, h6⟩ := places t
  obtain ⟨r, j, rfl⟩ : ∃ (r : Fin 264) (j : Fin 1024), y = ix2 r j := ⟨y 0, y 1, eq_ix2 y⟩
  have hp : (win0_5.blk t).view.emb (ix2 r j) = ix2 (rowOf t r) j := by
    blk_ext [h5, rowOf]
  rw [hp]
  unfold out0_5
  rw [View.canon_unit_zero zeros, View.ld_unit_zero zeros, View.ld_unit_zero zeros, View.ld_unit_zero zeros]
  refine (pay1_at _ _ _ r j).trans ?_
  simp only [block0, block1, block2]
  rfl

/-- THE PROJECTED ROWS the kernel leaves. -/
theorem proj_eq : (dats m 0 c).arrAt 6 cfg0.N = arrProj m c := by
  refine (dats m 0 c).arrAt_eq_of_covers 6 _ (by decide +kernel) fun t hf y => ?_
  blk_simp
  rw [after0_6]
  obtain ⟨h0, h1, h2, h3, h4, h5, h6⟩ := places t
  obtain ⟨r, j, rfl⟩ : ∃ (r : Fin 264) (j : Fin 2560), y = ix2 r j := ⟨y 0, y 1, eq_ix2 y⟩
  have hp : (win0_6.blk t).view.emb (ix2 r j) = ix2 (rowOf t r) j := by
    blk_ext [h6, rowOf]
  rw [hp]
  unfold out0_6
  rw [View.canon_unit_zero zeros, View.ld_unit_zero zeros, View.ld_unit_zero zeros, View.ld_unit_zero zeros, View.ld_unit_zero zeros,
    View.ld_unit_zero zeros]
  refine (pay2_at _ _ _ _ _ r j).trans ?_
  simp only [block0, block1, block2, block3, block4]
  rfl

end Cert.Kernel7Ideal.Proj
-- ==== Proof.TokProjTie.lean ====
/- The reference's two result arrays: the same normed rows and the same products, so the kernel's are the reference's. -/
module

public import proofs.«01_k».proof.Proof.TokProjArray
public import proofs.«01_k».proof.Proof.Gen.Reference7Ideal.Run
public import Idealize.ShloMosaic.Lib.Pointwise

@[expose] public section

set_option maxRecDepth 16384

noncomputable section

namespace Cert.Reference7Ideal.Proj

open Cert.Reference7Ideal Cert.Reference7Ideal.Gen Cert.Norm Cert.TokProj Idealize.ShloMosaic

variable (x : FVec Ideal S528x1024 .f32) (s : FVec Ideal S128x4x1024 .f32) (e : FVec Ideal S16x1024 .f32) (g b : FVec Ideal S1024 .f32)
  (w : FVec Ideal S1x1024x2560 .f32) (bi : FVec Ideal S1x2560 .f32)

/-- The means along the last axis, as a column. -/
def col : FVec Ideal S528x1 .f32 :=
  Host.divf (broadcastInDim S528x1 ![0] bcast_S528_S528x1_0 (Host.reduceAdd x (constant S_ .f32 0x00000000#32) reducesTo_S528x1024_S528_d1 h_S_))
    (broadcastInDim S528x1 ![] bcast_S_S528x1 (constant S_ .f32 0x44800000#32))

/-- The rows less their means. -/
def less : FVec Ideal S528x1024 .f32 := subf x (broadcastInDim S528x1024 ![0, 1] bcast_S528x1_S528x1024_0_1 (col x))

/-- The normed rows, scaled and shifted. -/
def rows : FVec Ideal S528x1024 .f32 :=
  addf (mulf (mulf (less x) (broadcastInDim S528x1024 ![0, 1] bcast_S528x1_S528x1024_0_1
      (Host.rsqrt (addf (col (mulf (less x) (less x))) (broadcastInDim S528x1 ![] bcast_S_S528x1 (constant S_ .f32 0x3727C5AC#32))))))
    (broadcastInDim S528x1024 ![0, 1] bcast_S1x1024_S528x1024_0_1 (broadcastInDim S1x1024 ![1] bcast_S1024_S1x1024_1 g)))
    (broadcastInDim S528x1024 ![0, 1] bcast_S1x1024_S528x1024_0_1 (broadcastInDim S1x1024 ![1] bcast_S1024_S1x1024_1 b))

/-- Their products with the weights, and the bias. -/
def prods : FVec Ideal S528x2560 .f32 :=
  addf (Host.dotGeneral dot_S528x1024_S1024x2560_S528x2560_1_0_0_1_n_n none (rows x g b) (shapeCast _ w shapeCasts_S1x1024x2560_S1024x2560))
    (broadcastInDim S528x2560 ![0, 1] bcast_S1x2560_S528x2560_0_1
      (broadcastInDim S1x2560 ![1] bcast_S2560_S1x2560_1 (shapeCast _ bi shapeCasts_S1x2560_S2560)))

theorem col_at (i : Fin 528) : col x (ix2 i 0) = mean (fun k => x (ix2 i k)) := by
  pointwise [col]
  rfl

theorem less_at (i : Fin 528) (k : Fin 1024) : less x (ix2 i k) = centred (fun k => x (ix2 i k)) k := by
  pointwise [less, col_at]
  rfl

theorem rows_at (i : Fin 528) (j : Fin 1024) :
    rows x g b (ix2 i j) = norm (fun k => x (ix2 i k)) (fun k => g (ix1 k)) (fun k => b (ix1 k)) j := by
  pointwise [rows, col_at, less_at]
  rfl

theorem prods_at (i : Fin 528) (j : Fin 2560) :
    prods x g b w bi (ix2 i j)
      = (∑ k : Fin 1024, norm (fun k => x (ix2 i k)) (fun k => g (ix1 k)) (fun k => b (ix1 k)) k * w (ix3 0 k j)) + bi (ix2 0 j) := by
  pointwise [prods, rows_at]

/-- The sampled tokens' rows and the meta tokens' after them. -/
def joined : FVec Ideal S528x1024 .f32 :=
  concatenate S528x1024 0 [⟨S512x1024, shapeCast _ s shapeCasts_S128x4x1024_S512x1024⟩, ⟨S16x1024, e⟩] concatenates_S512x1024_S16x1024_S528x1024_d0

theorem joined_at (i : Fin 528) (k : Fin 1024) : joined s e (ix2 i k) = token s e i k := by
  pointwise [joined, token]

/-- The normed rows and the projected rows. -/
def refNorm : FVec Ideal S528x1024 .f32 := fun i => normed s e g b (i 0) (i 1)
def refProj : FVec Ideal S528x2560 .f32 := fun i => projected s e g b w bi (i 0) (i 1)

theorem refNorm_eq : rows (joined s e) g b = refNorm s e g b := by
  funext z
  obtain ⟨i, j, rfl⟩ : ∃ (i : Fin 528) (j : Fin 1024), z = ix2 i j := ⟨z 0, z 1, eq_ix2 z⟩
  show _ = normed s e g b i j
  rw [rows_at]
  simp only [joined_at]
  rfl

theorem refProj_eq : prods (joined s e) g b w bi = refProj s e g b w bi := by
  funext z
  obtain ⟨i, j, rfl⟩ : ∃ (i : Fin 528) (j : Fin 2560), z = ix2 i j := ⟨z 0, z 1, eq_ix2 z⟩
  show _ = projected s e g b w bi i j
  rw [prods_at]
  simp only [joined_at]
  rfl

end Cert.Reference7Ideal.Proj
-- ==== Proof.S5Run.lean ====
/- The body of the ideal S5 kernel at one grid point of the sampled-tokens call: run once, on any whole memrefs. -/
module

public import proofs.«01_k».proof.Proof.Gen.Kernel5Ideal.Frame
public import proofs.«01_k».proof.Proof.Gen.Kernel5Ideal.Skeleton

@[expose] public section

set_option maxRecDepth 16384

noncomputable section

namespace Cert.Kernel5Ideal.S5

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's and each scratch's memref, as pieces (last first), with the proof that
    the body runs to the continuation holding the inputs as they were and those pieces written. -/
def bodyRun (c : Dev nD) (i : grid0.Coords) (arg2 : Memref sig .tc .vmem S512x128 .f32) (harg2 : arg2.IsWhole) (arg3 : Memref sig .tc .vmem S1x128x1024 .bf16) (harg3 : arg3.IsWhole) (arg4 : Memref sig .tc .vmem S1x1024x128 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S512x128 .f32) (harg12 : arg12.IsWhole) (arg13 : Memref sig .tc .vmem S1x128x512 .f32) (harg13 : arg13.IsWhole) (arg14 : Memref sig .tc .vmem S1x128x512 .f32) (harg14 : arg14.IsWhole) (arg15 : Memref sig .tc .vmem S4x128x128 .f32) (harg15 : arg15.IsWhole) (arg16 : Memref sig .tc .vmem S4x128x128 .f32) (harg16 : arg16.IsWhole)
    (x0 : Vec F S512x128 .f32) (x1 : Vec F S1x128x1024 .bf16) (x2 : Vec F S1x1024x128 .bf16) (x3 : Vec F S1x1x512 .f32) (x4 : Vec F S1x1x512 .f32) (x5 : Vec F S1x1x512 .f32) (x6 : Vec F S1x1x512 .f32) (x7 : Vec F S1x128 .f32) (x8 : Vec F S1x128x512 .f32) (x9 : Vec F S1x128x512 .f32) :
    Σ' (L10 : List (View.Piece (Elt F) S512x128 .f32)), Σ' (L11 : List (View.Piece (Elt F) S1x128x512 .f32)), Σ' (L12 : List (View.Piece (Elt F) S1x128x512 .f32)), Σ' (LT0 : List (View.Piece (Elt F) S4x128x128 .f32)), { LT1 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LT0) ∗ (∃ f, arg16.view.loc (c : Thread nD τ) ↦[arg16.view.set]{fullShare} arg16.view.writes (Elt F) f LT1)) -∗ K ⟨⟩))
          ⊢ wp frame (wpE (defs₀ (F := F)) Variants.none c none) E (cc0_s5 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_s5_eq_skeleton]; unfold cc0_s5_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    iexists _; iexact H14

end Cert.Kernel5Ideal.S5

end
-- ==== Proof.S5Frame.lean ====
/- The launch of the ideal S5 kernel of the sampled-tokens call: what the outputs hold, the proof data, the obligation of the
   body, the run and the frame. -/
module

public import proofs.«01_k».proof.Proof.S5Run
public import Idealize.ShloMosaic.Lib.Claim
public import Idealize.ShloMosaic.Lib.Pipeline.Value

@[expose] public section

set_option maxRecDepth 16384

noncomputable section

namespace Cert.Kernel5Ideal.S5

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x128x512 .f32 := win0_12.stage (cfg0.slots t 12)
abbrev hs12 (t : Fin cfg0.N) : (ms12 t).IsWhole := hstage0_12 ((cfg0.slots t 12).cast nbuf0_12)
abbrev scM0 : Memref sig .tc .vmem S4x128x128 .f32 := Memref.whole cc0_scratch0
abbrev scM1 : Memref sig .tc .vmem S4x128x128 .f32 := Memref.whole cc0_scratch1
abbrev VO10 : View sig .tc .vmem S512x128 .f32 := (Memref.whole cc0_stg10_0 : Memref sig .tc .vmem S512x128 .f32).view
abbrev VO11 : View sig .tc .vmem S1x128x512 .f32 := (Memref.whole cc0_stg11_0 : Memref sig .tc .vmem S1x128x512 .f32).view
abbrev VO12 : View sig .tc .vmem S1x128x512 .f32 := (Memref.whole cc0_stg12_0 : Memref sig .tc .vmem S1x128x512 .f32).view

/-- The launch's invariant with the two scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Rows `r, r + 4, r + 8, …` of the block: the rectangle the row `y 0` of residue `r` lies in. -/
theorem mem_rows (r : ℕ) (inb) (y : S512x128.Idx) (h : (y 0 : ℕ) % 4 = r) :
    y ∈ (⟨![r, 0], S128x128.size, ![4, 1], inb⟩ : LoadRect S512x128).set := by
  rw [LoadRect.mem_set]
  intro a
  have h0 : (y 0 : ℕ) < 512 := (y 0).isLt
  have h1 : (y 1 : ℕ) < 128 := (y 1).isLt
  match a with
  | ⟨0, _⟩ => exact ⟨(y 0 : ℕ) / 4, (by show (y 0 : ℕ) / 4 < 128; omega), (by show (y 0 : ℕ) = r + 4 * ((y 0 : ℕ) / 4); omega)⟩
  | ⟨1, _⟩ => exact ⟨(y 1 : ℕ), h1, (by show (y 1 : ℕ) = 0 + 1 * (y 1 : ℕ); omega)⟩

/-- The four strided stores cover the block of rows. -/
theorem cover10 (c : Dev nD) (i : grid0.Coords) (arg2 : Memref sig .tc .vmem S512x128 .f32) (harg2 : arg2.IsWhole) (arg3 : Memref sig .tc .vmem S1x128x1024 .bf16) (harg3 : arg3.IsWhole) (arg4 : Memref sig .tc .vmem S1x1024x128 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S512x128 .f32) (harg12 : arg12.IsWhole) (arg13 : Memref sig .tc .vmem S1x128x512 .f32) (harg13 : arg13.IsWhole) (arg14 : Memref sig .tc .vmem S1x128x512 .f32) (harg14 : arg14.IsWhole) (arg15 : Memref sig .tc .vmem S4x128x128 .f32) (harg15 : arg15.IsWhole) (arg16 : Memref sig .tc .vmem S4x128x128 .f32) (harg16 : arg16.IsWhole)
    (x0 : Vec F S512x128 .f32) (x1 : Vec F S1x128x1024 .bf16) (x2 : Vec F S1x1024x128 .bf16) (x3 : Vec F S1x1x512 .f32) (x4 : Vec F S1x1x512 .f32) (x5 : Vec F S1x1x512 .f32) (x6 : Vec F S1x1x512 .f32) (x7 : Vec F S1x128 .f32) (x8 : Vec F S1x128x512 .f32) (x9 : Vec F S1x128x512 .f32) (y : S512x128.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).1, y ∈ pc.1.set := by
  have hm : (y 0 : ℕ) % 4 = 0 ∨ (y 0 : ℕ) % 4 = 1 ∨ (y 0 : ℕ) % 4 = 2 ∨ (y 0 : ℕ) % 4 = 3 := by omega
  unfold bodyRun
  dsimp only
  rcases hm with h | h | h | h
  · exact ⟨_, .tail _ (.tail _ (.tail _ (.head _))), mem_rows 0 _ y h⟩
  · exact ⟨_, .tail _ (.tail _ (.head _)), mem_rows 1 _ y h⟩
  · exact ⟨_, .tail _ (.head _), mem_rows 2 _ y h⟩
  · exact ⟨_, .head _, mem_rows 3 _ y h⟩

theorem cover11 (c : Dev nD) (i : grid0.Coords) (arg2 : Memref sig .tc .vmem S512x128 .f32) (harg2 : arg2.IsWhole) (arg3 : Memref sig .tc .vmem S1x128x1024 .bf16) (harg3 : arg3.IsWhole) (arg4 : Memref sig .tc .vmem S1x1024x128 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S512x128 .f32) (harg12 : arg12.IsWhole) (arg13 : Memref sig .tc .vmem S1x128x512 .f32) (harg13 : arg13.IsWhole) (arg14 : Memref sig .tc .vmem S1x128x512 .f32) (harg14 : arg14.IsWhole) (arg15 : Memref sig .tc .vmem S4x128x128 .f32) (harg15 : arg15.IsWhole) (arg16 : Memref sig .tc .vmem S4x128x128 .f32) (harg16 : arg16.IsWhole)
    (x0 : Vec F S512x128 .f32) (x1 : Vec F S1x128x1024 .bf16) (x2 : Vec F S1x1024x128 .bf16) (x3 : Vec F S1x1x512 .f32) (x4 : Vec F S1x1x512 .f32) (x5 : Vec F S1x1x512 .f32) (x6 : Vec F S1x1x512 .f32) (x7 : Vec F S1x128 .f32) (x8 : Vec F S1x128x512 .f32) (x9 : Vec F S1x128x512 .f32) (y : S1x128x512.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.1 S1x128x512.size (by sl_kernel_rfl) y

theorem cover12 (c : Dev nD) (i : grid0.Coords) (arg2 : Memref sig .tc .vmem S512x128 .f32) (harg2 : arg2.IsWhole) (arg3 : Memref sig .tc .vmem S1x128x1024 .bf16) (harg3 : arg3.IsWhole) (arg4 : Memref sig .tc .vmem S1x1024x128 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S512x128 .f32) (harg12 : arg12.IsWhole) (arg13 : Memref sig .tc .vmem S1x128x512 .f32) (harg13 : arg13.IsWhole) (arg14 : Memref sig .tc .vmem S1x128x512 .f32) (harg14 : arg14.IsWhole) (arg15 : Memref sig .tc .vmem S4x128x128 .f32) (harg15 : arg15.IsWhole) (arg16 : Memref sig .tc .vmem S4x128x128 .f32) (harg16 : arg16.IsWhole)
    (x0 : Vec F S512x128 .f32) (x1 : Vec F S1x128x1024 .bf16) (x2 : Vec F S1x1024x128 .bf16) (x3 : Vec F S1x1x512 .f32) (x4 : Vec F S1x1x512 .f32) (x5 : Vec F S1x1x512 .f32) (x6 : Vec F S1x1x512 .f32) (x7 : Vec F S1x128 .f32) (x8 : Vec F S1x128x512 .f32) (x9 : Vec F S1x128x512 .f32) (y : S1x128x512.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.2.1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.2.1 S1x128x512.size (by sl_kernel_rfl) y

/-- What the run leaves in output 10's block. -/
def out10 (c : Dev nD) (i : grid0.Coords) (arg2 : Memref sig .tc .vmem S512x128 .f32) (harg2 : arg2.IsWhole) (arg3 : Memref sig .tc .vmem S1x128x1024 .bf16) (harg3 : arg3.IsWhole) (arg4 : Memref sig .tc .vmem S1x1024x128 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S512x128 .f32) (harg12 : arg12.IsWhole) (arg13 : Memref sig .tc .vmem S1x128x512 .f32) (harg13 : arg13.IsWhole) (arg14 : Memref sig .tc .vmem S1x128x512 .f32) (harg14 : arg14.IsWhole) (arg15 : Memref sig .tc .vmem S4x128x128 .f32) (harg15 : arg15.IsWhole) (arg16 : Memref sig .tc .vmem S4x128x128 .f32) (harg16 : arg16.IsWhole)
    (x0 : Vec F S512x128 .f32) (x1 : Vec F S1x128x1024 .bf16) (x2 : Vec F S1x1024x128 .bf16) (x3 : Vec F S1x1x512 .f32) (x4 : Vec F S1x1x512 .f32) (x5 : Vec F S1x1x512 .f32) (x6 : Vec F S1x1x512 .f32) (x7 : Vec F S1x128 .f32) (x8 : Vec F S1x128x512 .f32) (x9 : Vec F S1x128x512 .f32) : Vec F S512x128 .f32 :=
  VO10.read (Elt F) (VO10.writes (Elt F) VO10.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).1)

/-- What the run leaves in output 11's block. -/
def out11 (c : Dev nD) (i : grid0.Coords) (arg2 : Memref sig .tc .vmem S512x128 .f32) (harg2 : arg2.IsWhole) (arg3 : Memref sig .tc .vmem S1x128x1024 .bf16) (harg3 : arg3.IsWhole) (arg4 : Memref sig .tc .vmem S1x1024x128 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S512x128 .f32) (harg12 : arg12.IsWhole) (arg13 : Memref sig .tc .vmem S1x128x512 .f32) (harg13 : arg13.IsWhole) (arg14 : Memref sig .tc .vmem S1x128x512 .f32) (harg14 : arg14.IsWhole) (arg15 : Memref sig .tc .vmem S4x128x128 .f32) (harg15 : arg15.IsWhole) (arg16 : Memref sig .tc .vmem S4x128x128 .f32) (harg16 : arg16.IsWhole)
    (x0 : Vec F S512x128 .f32) (x1 : Vec F S1x128x1024 .bf16) (x2 : Vec F S1x1024x128 .bf16) (x3 : Vec F S1x1x512 .f32) (x4 : Vec F S1x1x512 .f32) (x5 : Vec F S1x1x512 .f32) (x6 : Vec F S1x1x512 .f32) (x7 : Vec F S1x128 .f32) (x8 : Vec F S1x128x512 .f32) (x9 : Vec F S1x128x512 .f32) : Vec F S1x128x512 .f32 :=
  VO11.read (Elt F) (VO11.writes (Elt F) VO11.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.1)

/-- What the run leaves in output 12's block. -/
def out12 (c : Dev nD) (i : grid0.Coords) (arg2 : Memref sig .tc .vmem S512x128 .f32) (harg2 : arg2.IsWhole) (arg3 : Memref sig .tc .vmem S1x128x1024 .bf16) (harg3 : arg3.IsWhole) (arg4 : Memref sig .tc .vmem S1x1024x128 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x128 .f32) (harg9 : arg9.IsWhole) (arg10 : Memref sig .tc .vmem S1x128x512 .f32) (harg10 : arg10.IsWhole) (arg11 : Memref sig .tc .vmem S1x128x512 .f32) (harg11 : arg11.IsWhole) (arg12 : Memref sig .tc .vmem S512x128 .f32) (harg12 : arg12.IsWhole) (arg13 : Memref sig .tc .vmem S1x128x512 .f32) (harg13 : arg13.IsWhole) (arg14 : Memref sig .tc .vmem S1x128x512 .f32) (harg14 : arg14.IsWhole) (arg15 : Memref sig .tc .vmem S4x128x128 .f32) (harg15 : arg15.IsWhole) (arg16 : Memref sig .tc .vmem S4x128x128 .f32) (harg16 : arg16.IsWhole)
    (x0 : Vec F S512x128 .f32) (x1 : Vec F S1x128x1024 .bf16) (x2 : Vec F S1x1024x128 .bf16) (x3 : Vec F S1x1x512 .f32) (x4 : Vec F S1x1x512 .f32) (x5 : Vec F S1x1x512 .f32) (x6 : Vec F S1x1x512 .f32) (x7 : Vec F S1x128 .f32) (x8 : Vec F S1x128x512 .f32) (x9 : Vec F S1x128x512 .f32) : Vec F S1x128x512 .f32 :=
  VO12.read (Elt F) (VO12.writes (Elt F) VO12.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.2.1)

/-- What the outputs hold after the body at point `t`. -/
def outAt10 (c : Dev nD) (t : Fin cfg0.N) : Vec F S512x128 .f32 :=
  out10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)
def outAt11 (c : Dev nD) (t : Fin cfg0.N) : Vec F S1x128x512 .f32 :=
  out11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)
def outAt12 (c : Dev nD) (t : Fin cfg0.N) : Vec F S1x128x512 .f32 :=
  out12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt10 m c t
    | ⟨11, _⟩ => outAt11 m c t
    | ⟨12, _⟩ => outAt12 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt10 m c t := by dsimp only [dats]
theorem after11 (c : Dev nD) (t : Fin cfg0.N) : (dats m 0 c).after 11 t = outAt11 m c t := by dsimp only [dats]
theorem after12 (c : Dev nD) (t : Fin cfg0.N) : (dats m 0 c).after 12 t = outAt12 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

set_option maxHeartbeats 1600000 in
/-- The body at any point: the inputs hold their blocks, so `bodyRun` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12]
  rw [show (dats m 0 c).Φ t.castSucc = Pipeline.ΦA spec0 c from rfl, PhiA0_eq]
  unfold outAt10 outAt11 outAt12 out10 out11 out12
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((bodyRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, ⟨%e10, H10⟩, ⟨%e11, H11⟩, ⟨%e12, H12⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover10 c _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover11 c _ _ _ _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover12 c _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: the run ends, the argument arrays end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.Kernel5Ideal.S5

end
-- ==== Proof.lean ====
/- The claims of this certificate, of the recurrence, the input projection and the mixing, for the prompt and for the sampled tokens, and of
   the sampled tokens' S5 call: the programs run without fault, leave their arguments unchanged and every semaphore counter at zero; each
   ideal kernel is its kernel read over the extended reals; and, but for the S5 call, each ideal kernel's results are its reference's. -/
module

public import proofs.«01_k».proof.Defs
public import proofs.«01_k».proof.Proof.Gen.Kernel
public import proofs.«01_k».proof.Proof.HgrnTie
public import proofs.«01_k».proof.Proof.ProjTie
public import proofs.«01_k».proof.Proof.MixTie
public import proofs.«01_k».proof.Proof.ShortTie
public import proofs.«01_k».proof.Proof.TokMixTie
public import proofs.«01_k».proof.Proof.TokProjTie
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.S5Frame
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

set_option smartUnfolding false in
/-- The two programs' bodies have the same text, so they are one table. -/
theorem defs_eq : Cert.Kernel.defs (F := Bits) = Cert.KernelIdeal.defs (F := Bits) := by with_unfolding_all rfl

set_option smartUnfolding false in
/-- The kernel's frame: the ideal kernel's run, read over the machine's floats, is the kernel's run. -/
theorem frame_kernel : @Cert.quiescent_Kernel Cert.Kernel.Gen.facts := fun m ρ _ => by
  have h := Cert.KernelIdeal.Hgrn.frame (F := Bits) m ρ
  rw [← defs_eq] at h
  exact h

/-- The ideal kernel's frame. -/
theorem frame_kernelIdeal : @Cert.quiescent_KernelIdeal Cert.KernelIdeal.Gen.facts := fun m ρ _ => Cert.KernelIdeal.Hgrn.frame m ρ

/-- The reference's loop, from its arguments. -/
abbrev refLoop (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal :=
  Cert.ReferenceIdeal.At.loop (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))

/-- The reference's frame. -/
theorem frame_reference : @Cert.quiescent_ReferenceIdeal Cert.ReferenceIdeal.Gen.facts := fun m ρ _ =>
  (θ_run Cert.ReferenceIdeal.defs _ _).mono (fun r h => ⟨fun c => (h c).2.2, sem_eq_zero_of_no_sems (by decide) r.2⟩)
    (Cert.ReferenceIdeal.Trips.run_iter m ρ (refLoop m) (fun _ => rfl) (fun _ _ => rfl))

/-- The ideal kernel computes the reference's rows and states. -/
theorem algebraic : @Cert.algebraic_KernelIdeal_ReferenceIdeal Cert.KernelIdeal.Gen.facts Cert.ReferenceIdeal.Gen.facts := by
  intro m ρ m' ρ' _ hagree
  refine ⟨fun c => Cert.KernelIdeal.Hgrn.arrRows m c, fun c => Cert.KernelIdeal.Hgrn.arrStates m c, ?_, ?_⟩
  · refine (θ_run Cert.KernelIdeal.defs _ _).mono (fun r h c => ?_) (Cert.KernelIdeal.Hgrn.run_blocks m ρ)
    obtain ⟨h0, h1, h2⟩ := h c
    exact ⟨h0.trans (Cert.KernelIdeal.Hgrn.rows_eq m c), h1.trans (Cert.KernelIdeal.Hgrn.states_eq m c), h2⟩
  · refine (θ_run Cert.ReferenceIdeal.defs _ _).mono (fun r h c => ?_)
      (Cert.ReferenceIdeal.Trips.run_iter m' ρ' (refLoop m') (fun _ => rfl) (fun _ _ => rfl))
    obtain ⟨h0, h1, h2⟩ := h c
    obtain ⟨e0, e1, e2⟩ := hagree c
    have e : refLoop m' c 128 = Cert.ReferenceIdeal.At.loop (Cert.Tie.argX m c) (Cert.Tie.argL m c) (Cert.Tie.argS m c) 128 := by
      unfold refLoop
      rw [e0, e1, e2]
    rw [e] at h0 h1
    exact ⟨h0.trans (Cert.Tie.rows_tie m c).symm, h1.trans (Cert.Tie.states_tie m c).symm, h2⟩

/-- The projection's reference's frame. -/
theorem frame_reference2 : @Cert.quiescent_Reference2Ideal Cert.Reference2Ideal.Gen.facts := fun m ρ _ =>
  (θ_run Cert.Reference2Ideal.defs _ _).mono (fun r h => ⟨fun c => (h c).2.2, sem_eq_zero_of_no_sems (by decide) r.2⟩)
    (Cert.Reference2Ideal.Value.run m ρ)

/-- The ideal projection computes its reference's normed rows and products. -/
theorem algebraic2 : @Cert.algebraic_Kernel2Ideal_Reference2Ideal Cert.Kernel2Ideal.Gen.facts Cert.Reference2Ideal.Gen.facts := by
  intro m ρ m' ρ' _ hagree
  refine ⟨fun c => Cert.Kernel2Ideal.Proj.arrNorm m c, fun c => Cert.Kernel2Ideal.Proj.arrProj m c, ?_, ?_⟩
  · refine (θ_run Cert.Kernel2Ideal.defs _ _).mono (fun r h c => ?_) (Cert.Kernel2Ideal.Value.run_blocks m ρ)
    obtain ⟨h0, h1, h2⟩ := h c
    exact ⟨h0.trans (Cert.Kernel2Ideal.Proj.norm_eq m c), h1.trans (Cert.Kernel2Ideal.Proj.proj_eq m c), h2⟩
  · refine (θ_run Cert.Reference2Ideal.defs _ _).mono (fun r h c => ?_) (Cert.Reference2Ideal.Value.run m' ρ')
    obtain ⟨h0, h1, h2⟩ := h c
    obtain ⟨e0, e1, e2, e3, e4⟩ := hagree c
    refine ⟨(h0.trans (Cert.Reference2Ideal.Proj.refNorm_eq _ _ _)).trans ?_, (h1.trans (Cert.Reference2Ideal.Proj.refProj_eq _ _ _ _ _)).trans ?_, h2⟩
    · rw [e0, e1, e2]
      rfl
    · rw [e0, e1, e2, e3, e4]
      rfl

/-- The mixing's reference's frame. -/
theorem frame_reference3 : @Cert.quiescent_Reference3Ideal Cert.Reference3Ideal.Gen.facts := fun m ρ _ =>
  (θ_run Cert.Reference3Ideal.defs _ _).mono (fun r h => ⟨fun c => (h c).2, sem_eq_zero_of_no_sems (by decide) r.2⟩)
    (Cert.Reference3Ideal.Value.run m ρ)

/-- The ideal mixing computes its reference's rows. -/
theorem algebraic3 : @Cert.algebraic_Kernel3Ideal_Reference3Ideal Cert.Kernel3Ideal.Gen.facts Cert.Reference3Ideal.Gen.facts := by
  intro m ρ m' ρ' _ hagree
  refine ⟨fun c => Cert.Kernel3Ideal.Mixing.arrMix m c, ?_, ?_⟩
  · refine (θ_run Cert.Kernel3Ideal.defs _ _).mono (fun r h c => ?_) (Cert.Kernel3Ideal.Value.run_blocks m ρ)
    obtain ⟨h0, h1⟩ := h c
    exact ⟨h0.trans (Cert.Kernel3Ideal.Mixing.mix_eq m c), h1⟩
  · refine (θ_run Cert.Reference3Ideal.defs _ _).mono (fun r h c => ?_) (Cert.Reference3Ideal.Value.run m' ρ')
    obtain ⟨h0, h1⟩ := h c
    obtain ⟨e0, e1, e2, e3, e4, e5, e6, e7, e8, e9⟩ := hagree c
    refine ⟨(h0.trans (Cert.Reference3Ideal.Mixing.res_eq m' c)).trans ?_, h1⟩
    rw [e0, e1, e2, e3, e4, e5, e6, e7, e8, e9]
    unfold Cert.Reference3Ideal.Mixing.refMix Cert.Kernel3Ideal.Mixing.arrMix
    rw [Cert.Reference3Ideal.Mixing.act_eq]

/-- The named constant is the kernel's literal, renamed. -/
theorem preserves3 : Cert.preserves_Kernel3_Kernel3Ideal :=
  IdealRules.named_const.statement Cert.Kernel3Ideal.κ "gelu_cub" .f32 0xBD922279#32 ((-80338380498831 / 1125899906842624 : ℝ) : EReal) rfl

/-- The short recurrence's reference's frame. -/
theorem frame_reference4 : @Cert.quiescent_Reference4Ideal Cert.Reference4Ideal.Gen.facts := fun m ρ _ =>
  (θ_run Cert.Reference4Ideal.defs _ _).mono (fun r h => ⟨fun c => (h c).2.2, sem_eq_zero_of_no_sems (by decide) r.2⟩)
    (Cert.Reference4Ideal.Value.run m ρ)

/-- The ideal short recurrence computes its reference's rows and states. -/
theorem algebraic4 : @Cert.algebraic_Kernel4Ideal_Reference4Ideal Cert.Kernel4Ideal.Gen.facts Cert.Reference4Ideal.Gen.facts := by
  intro m ρ m' ρ' _ hagree
  refine ⟨fun c => Cert.Kernel4Ideal.Short.arrRows m c, fun c => Cert.Kernel4Ideal.Short.arrStates m c, ?_, ?_⟩
  · refine (θ_run Cert.Kernel4Ideal.defs _ _).mono (fun r h c => ?_) (Cert.Kernel4Ideal.Value.run_blocks m ρ)
    obtain ⟨h0, h1, h2⟩ := h c
    exact ⟨h0.trans (Cert.Kernel4Ideal.Short.rows_eq m c), h1.trans (Cert.Kernel4Ideal.Short.states_eq m c), h2⟩
  · refine (θ_run Cert.Reference4Ideal.defs _ _).mono (fun r h c => ?_) (Cert.Reference4Ideal.Value.run m' ρ')
    obtain ⟨h0, h1, h2⟩ := h c
    obtain ⟨e0, e1, e2⟩ := hagree c
    refine ⟨(h0.trans (Cert.Reference4Ideal.Short.res_rows m' c)).trans ?_, (h1.trans (Cert.Reference4Ideal.Short.res_states m' c)).trans ?_, h2⟩
    · rw [e0, e1, e2]
      exact (Cert.ShortTie.rows_tie m c).symm
    · rw [e0, e1, e2]
      exact (Cert.ShortTie.states_tie m c).symm

set_option maxHeartbeats 3000000 in
set_option maxRecDepth 16384 in
set_option smartUnfolding false in
/-- The S5 call's two programs' bodies have the same text. -/
theorem defs_eq5 : Cert.Kernel5.defs (F := Bits) = Cert.Kernel5Ideal.defs (F := Bits) := by with_unfolding_all rfl

set_option maxHeartbeats 3000000 in
set_option maxRecDepth 16384 in
set_option smartUnfolding false in
/-- The S5 call's frame. -/
theorem frame_kernel5 : @Cert.quiescent_Kernel5 Cert.Kernel5.Gen.facts := fun m ρ _ => by
  have h := Cert.Kernel5Ideal.S5.frame (F := Bits) m ρ
  rw [← defs_eq5] at h
  exact h

/-- The sampled tokens' mixing's reference's frame. -/
theorem frame_reference6 : @Cert.quiescent_Reference6Ideal Cert.Reference6Ideal.Gen.facts := fun m ρ _ =>
  (θ_run Cert.Reference6Ideal.defs _ _).mono (fun r h => ⟨fun c => (h c).2, sem_eq_zero_of_no_sems (by decide) r.2⟩)
    (Cert.Reference6Ideal.Value.run m ρ)

/-- The ideal mixing of the sampled tokens computes its reference's rows. -/
theorem algebraic6 : @Cert.algebraic_Kernel6Ideal_Reference6Ideal Cert.Kernel6Ideal.Gen.facts Cert.Reference6Ideal.Gen.facts := by
  intro m ρ m' ρ' _ hagree
  refine ⟨fun c => Cert.Kernel6Ideal.Mixing.arrMix m c, ?_, ?_⟩
  · refine (θ_run Cert.Kernel6Ideal.defs _ _).mono (fun r h c => ?_) (Cert.Kernel6Ideal.Value.run_blocks m ρ)
    obtain ⟨h0, h1⟩ := h c
    exact ⟨h0.trans (Cert.Kernel6Ideal.Mixing.mix_eq m c), h1⟩
  · refine (θ_run Cert.Reference6Ideal.defs _ _).mono (fun r h c => ?_) (Cert.Reference6Ideal.Value.run m' ρ')
    obtain ⟨h0, h1⟩ := h c
    obtain ⟨e0, e1, e2, e3, e4, e5, e6, e7, e8, e9⟩ := hagree c
    refine ⟨(h0.trans (Cert.Reference6Ideal.Mixing.res_eq m' c)).trans ?_, h1⟩
    rw [e0, e1, e2, e3, e4, e5, e6, e7, e8, e9]
    unfold Cert.Reference6Ideal.Mixing.refMix Cert.Kernel6Ideal.Mixing.arrMix
    rw [Cert.Reference6Ideal.Mixing.act_eq]

/-- The same constant of this call. -/
theorem preserves6 : Cert.preserves_Kernel6_Kernel6Ideal :=
  IdealRules.named_const.statement Cert.Kernel6Ideal.κ "gelu_cub" .f32 0xBD922279#32 ((-80338380498831 / 1125899906842624 : ℝ) : EReal) rfl

/-- The sampled and meta tokens' projection's reference's frame. -/
theorem frame_reference7 : @Cert.quiescent_Reference7Ideal Cert.Reference7Ideal.Gen.facts := fun m ρ _ =>
  (θ_run Cert.Reference7Ideal.defs _ _).mono (fun r h => ⟨fun c => (h c).2.2, sem_eq_zero_of_no_sems (by decide) r.2⟩)
    (Cert.Reference7Ideal.Value.run m ρ)

/-- The ideal projection of the sampled and the meta tokens computes its reference's normed rows and products. -/
theorem algebraic7 : @Cert.algebraic_Kernel7Ideal_Reference7Ideal Cert.Kernel7Ideal.Gen.facts Cert.Reference7Ideal.Gen.facts := by
  intro m ρ m' ρ' _ hagree
  refine ⟨fun c => Cert.Kernel7Ideal.Proj.arrNorm m c, fun c => Cert.Kernel7Ideal.Proj.arrProj m c, ?_, ?_⟩
  · refine (θ_run Cert.Kernel7Ideal.defs _ _).mono (fun r h c => ?_) (Cert.Kernel7Ideal.Value.run_blocks m ρ)
    obtain ⟨h0, h1, h2⟩ := h c
    exact ⟨h0.trans (Cert.Kernel7Ideal.Proj.norm_eq m c), h1.trans (Cert.Kernel7Ideal.Proj.proj_eq m c), h2⟩
  · refine (θ_run Cert.Reference7Ideal.defs _ _).mono (fun r h c => ?_) (Cert.Reference7Ideal.Value.run m' ρ')
    obtain ⟨h0, h1, h2⟩ := h c
    obtain ⟨e0, e1, e2, e3, e4, e5⟩ := hagree c
    refine ⟨(h0.trans (Cert.Reference7Ideal.Proj.refNorm_eq _ _ _ _)).trans ?_, (h1.trans (Cert.Reference7Ideal.Proj.refProj_eq _ _ _ _ _ _)).trans ?_, h2⟩
    · rw [e0, e1, e2, e3]
      rfl
    · rw [e0, e1, e2, e3, e4, e5]
      rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  frame_kernel, frame_kernelIdeal, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  frame_kernel5, fun m ρ _ => Cert.Kernel5Ideal.S5.frame m ρ,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  trivial, algebraic, trivial, algebraic2, preserves3, algebraic3, trivial, algebraic4, trivial, preserves6, algebraic6,
  trivial, algebraic7⟩

end Cert.Proof

end
